-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Tiles [hPre_tiles_name_experts : Cert.Pre_tiles_name_experts.Facts] (m : (ℓ : Loc Cert.Tiles.nD Cert.Tiles.τ Cert.Tiles.sig) → Buf (Elt Bits) ℓ) : Prop :=
  ∀ c : Dev Cert.Tiles.nD,
    (Cert.Pre_tiles_name_experts.fn (F := Bits) (m ((c.tc : Thread Cert.Tiles.nD Cert.Tiles.τ).loc Cert.Tiles.main_arg0)) (m ((c.tc : Thread Cert.Tiles.nD Cert.Tiles.τ).loc Cert.Tiles.main_arg1)) (m ((c.tc : Thread Cert.Tiles.nD Cert.Tiles.τ).loc Cert.Tiles.main_arg2)) (m ((c.tc : Thread Cert.Tiles.nD Cert.Tiles.τ).loc Cert.Tiles.main_arg3)) (m ((c.tc : Thread Cert.Tiles.nD Cert.Tiles.τ).loc Cert.Tiles.main_arg4)) (m ((c.tc : Thread Cert.Tiles.nD Cert.Tiles.τ).loc Cert.Tiles.main_arg5))) = (fun _ => 1#1)

def Pre_TilesIdeal [hPre_tiles_name_experts : Cert.Pre_tiles_name_experts.Facts] (m : (ℓ : Loc Cert.TilesIdeal.nD Cert.TilesIdeal.τ Cert.TilesIdeal.sig) → Buf (Elt Ideal) ℓ) : Prop :=
  ∀ c : Dev Cert.TilesIdeal.nD,
    (Cert.Pre_tiles_name_experts.fn (F := Ideal) (m ((c.tc : Thread Cert.TilesIdeal.nD Cert.TilesIdeal.τ).loc Cert.TilesIdeal.main_arg0)) (m ((c.tc : Thread Cert.TilesIdeal.nD Cert.TilesIdeal.τ).loc Cert.TilesIdeal.main_arg1)) (m ((c.tc : Thread Cert.TilesIdeal.nD Cert.TilesIdeal.τ).loc Cert.TilesIdeal.main_arg2)) (m ((c.tc : Thread Cert.TilesIdeal.nD Cert.TilesIdeal.τ).loc Cert.TilesIdeal.main_arg3)) (m ((c.tc : Thread Cert.TilesIdeal.nD Cert.TilesIdeal.τ).loc Cert.TilesIdeal.main_arg4)) (m ((c.tc : Thread Cert.TilesIdeal.nD Cert.TilesIdeal.τ).loc Cert.TilesIdeal.main_arg5))) = (fun _ => 1#1)

def Pre_TilesReferenceIdeal [hPre_tiles_name_experts : Cert.Pre_tiles_name_experts.Facts] (m : (ℓ : Loc Cert.TilesReferenceIdeal.nD Cert.TilesReferenceIdeal.τ Cert.TilesReferenceIdeal.sig) → Buf (Elt Ideal) ℓ) : Prop :=
  ∀ c : Dev Cert.TilesReferenceIdeal.nD,
    (Cert.Pre_tiles_name_experts.fn (F := Ideal) (m ((c.tc : Thread Cert.TilesReferenceIdeal.nD Cert.TilesReferenceIdeal.τ).loc Cert.TilesReferenceIdeal.main_arg0)) (m ((c.tc : Thread Cert.TilesReferenceIdeal.nD Cert.TilesReferenceIdeal.τ).loc Cert.TilesReferenceIdeal.main_arg1)) (m ((c.tc : Thread Cert.TilesReferenceIdeal.nD Cert.TilesReferenceIdeal.τ).loc Cert.TilesReferenceIdeal.main_arg2)) (m ((c.tc : Thread Cert.TilesReferenceIdeal.nD Cert.TilesReferenceIdeal.τ).loc Cert.TilesReferenceIdeal.main_arg3)) (m ((c.tc : Thread Cert.TilesReferenceIdeal.nD Cert.TilesReferenceIdeal.τ).loc Cert.TilesReferenceIdeal.main_arg4)) (m ((c.tc : Thread Cert.TilesReferenceIdeal.nD Cert.TilesReferenceIdeal.τ).loc Cert.TilesReferenceIdeal.main_arg5))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Tiles [hTiles : Cert.Tiles.Facts] [hPre_tiles_name_experts : Cert.Pre_tiles_name_experts.Facts] : Prop :=
  ∀ (m : (ℓ : Loc Cert.Tiles.nD Cert.Tiles.τ Cert.Tiles.sig) → Buf (Elt Bits) ℓ) (g : Dev Cert.Tiles.nD → PrngReg), Pre_Tiles m →
    θ_run (Cert.Tiles.defs (F := Bits)) (onTc (τ := Cert.Tiles.τ) (Cert.Tiles.main (F := Bits))) ⟨m, fun _ => 0, g⟩ (fun r => (∀ c : Dev Cert.Tiles.nD,
      r.2.mem ((c.tc : Thread Cert.Tiles.nD Cert.Tiles.τ).loc Cert.Tiles.main_arg0) = m ((c.tc : Thread Cert.Tiles.nD Cert.Tiles.τ).loc Cert.Tiles.main_arg0)
      ∧ r.2.mem ((c.tc : Thread Cert.Tiles.nD Cert.Tiles.τ).loc Cert.Tiles.main_arg1) = m ((c.tc : Thread Cert.Tiles.nD Cert.Tiles.τ).loc Cert.Tiles.main_arg1)
      ∧ r.2.mem ((c.tc : Thread Cert.Tiles.nD Cert.Tiles.τ).loc Cert.Tiles.main_arg2) = m ((c.tc : Thread Cert.Tiles.nD Cert.Tiles.τ).loc Cert.Tiles.main_arg2)
      ∧ r.2.mem ((c.tc : Thread Cert.Tiles.nD Cert.Tiles.τ).loc Cert.Tiles.main_arg3) = m ((c.tc : Thread Cert.Tiles.nD Cert.Tiles.τ).loc Cert.Tiles.main_arg3)
      ∧ r.2.mem ((c.tc : Thread Cert.Tiles.nD Cert.Tiles.τ).loc Cert.Tiles.main_arg4) = m ((c.tc : Thread Cert.Tiles.nD Cert.Tiles.τ).loc Cert.Tiles.main_arg4)
      ∧ r.2.mem ((c.tc : Thread Cert.Tiles.nD Cert.Tiles.τ).loc Cert.Tiles.main_arg5) = m ((c.tc : Thread Cert.Tiles.nD Cert.Tiles.τ).loc Cert.Tiles.main_arg5))
      ∧ r.2.sem = fun _ => 0)

def quiescent_TilesIdeal [hTilesIdeal : Cert.TilesIdeal.Facts] [hPre_tiles_name_experts : Cert.Pre_tiles_name_experts.Facts] : Prop :=
  ∀ (m : (ℓ : Loc Cert.TilesIdeal.nD Cert.TilesIdeal.τ Cert.TilesIdeal.sig) → Buf (Elt Ideal) ℓ) (g : Dev Cert.TilesIdeal.nD → PrngReg), Pre_TilesIdeal m →
    θ_run (Cert.TilesIdeal.defs (F := Ideal)) (onTc (τ := Cert.TilesIdeal.τ) (Cert.TilesIdeal.main (F := Ideal))) ⟨m, fun _ => 0, g⟩ (fun r => (∀ c : Dev Cert.TilesIdeal.nD,
      r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0)
      ∧ r.2.mem ((c.tc : Thread Cert.TilesIdeal.nD Cert.TilesIdeal.τ).loc Cert.TilesIdeal.main_arg1) = m ((c.tc : Thread Cert.TilesIdeal.nD Cert.TilesIdeal.τ).loc Cert.TilesIdeal.main_arg1)
      ∧ r.2.mem ((c.tc : Thread Cert.TilesIdeal.nD Cert.TilesIdeal.τ).loc Cert.TilesIdeal.main_arg2) = m ((c.tc : Thread Cert.TilesIdeal.nD Cert.TilesIdeal.τ).loc Cert.TilesIdeal.main_arg2)
      ∧ r.2.mem ((c.tc : Thread Cert.TilesIdeal.nD Cert.TilesIdeal.τ).loc Cert.TilesIdeal.main_arg3) = m ((c.tc : Thread Cert.TilesIdeal.nD Cert.TilesIdeal.τ).loc Cert.TilesIdeal.main_arg3)
      ∧ r.2.mem ((c.tc : Thread Cert.TilesIdeal.nD Cert.TilesIdeal.τ).loc Cert.TilesIdeal.main_arg4) = m ((c.tc : Thread Cert.TilesIdeal.nD Cert.TilesIdeal.τ).loc Cert.TilesIdeal.main_arg4)
      ∧ r.2.mem ((c.tc : Thread Cert.TilesIdeal.nD Cert.TilesIdeal.τ).loc Cert.TilesIdeal.main_arg5) = m ((c.tc : Thread Cert.TilesIdeal.nD Cert.TilesIdeal.τ).loc Cert.TilesIdeal.main_arg5))
      ∧ r.2.sem = fun _ => 0)

def quiescent_TilesReferenceIdeal [hTilesReferenceIdeal : Cert.TilesReferenceIdeal.Facts] [hPre_tiles_name_experts : Cert.Pre_tiles_name_experts.Facts] : Prop :=
  ∀ (m : (ℓ : Loc Cert.TilesReferenceIdeal.nD Cert.TilesReferenceIdeal.τ Cert.TilesReferenceIdeal.sig) → Buf (Elt Ideal) ℓ) (g : Dev Cert.TilesReferenceIdeal.nD → PrngReg), Pre_TilesReferenceIdeal m →
    θ_run (Cert.TilesReferenceIdeal.defs (F := Ideal)) (onTc (τ := Cert.TilesReferenceIdeal.τ) (Cert.TilesReferenceIdeal.main (F := Ideal))) ⟨m, fun _ => 0, g⟩ (fun r => (∀ c : Dev Cert.TilesReferenceIdeal.nD,
      r.2.mem ((c.tc : Thread Cert.TilesReferenceIdeal.nD Cert.TilesReferenceIdeal.τ).loc Cert.TilesReferenceIdeal.main_arg0) = m ((c.tc : Thread Cert.TilesReferenceIdeal.nD Cert.TilesReferenceIdeal.τ).loc Cert.TilesReferenceIdeal.main_arg0)
      ∧ r.2.mem ((c.tc : Thread Cert.TilesReferenceIdeal.nD Cert.TilesReferenceIdeal.τ).loc Cert.TilesReferenceIdeal.main_arg1) = m ((c.tc : Thread Cert.TilesReferenceIdeal.nD Cert.TilesReferenceIdeal.τ).loc Cert.TilesReferenceIdeal.main_arg1)
      ∧ r.2.mem ((c.tc : Thread Cert.TilesReferenceIdeal.nD Cert.TilesReferenceIdeal.τ).loc Cert.TilesReferenceIdeal.main_arg2) = m ((c.tc : Thread Cert.TilesReferenceIdeal.nD Cert.TilesReferenceIdeal.τ).loc Cert.TilesReferenceIdeal.main_arg2)
      ∧ r.2.mem ((c.tc : Thread Cert.TilesReferenceIdeal.nD Cert.TilesReferenceIdeal.τ).loc Cert.TilesReferenceIdeal.main_arg3) = m ((c.tc : Thread Cert.TilesReferenceIdeal.nD Cert.TilesReferenceIdeal.τ).loc Cert.TilesReferenceIdeal.main_arg3)
      ∧ r.2.mem ((c.tc : Thread Cert.TilesReferenceIdeal.nD Cert.TilesReferenceIdeal.τ).loc Cert.TilesReferenceIdeal.main_arg4) = m ((c.tc : Thread Cert.TilesReferenceIdeal.nD Cert.TilesReferenceIdeal.τ).loc Cert.TilesReferenceIdeal.main_arg4)
      ∧ r.2.mem ((c.tc : Thread Cert.TilesReferenceIdeal.nD Cert.TilesReferenceIdeal.τ).loc Cert.TilesReferenceIdeal.main_arg5) = m ((c.tc : Thread Cert.TilesReferenceIdeal.nD Cert.TilesReferenceIdeal.τ).loc Cert.TilesReferenceIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Tiles_TilesIdeal : Prop :=
  True

def algebraic_TilesIdeal_TilesReferenceIdeal [hTilesIdeal : Cert.TilesIdeal.Facts] [hTilesReferenceIdeal : Cert.TilesReferenceIdeal.Facts] [hPre_tiles_name_experts : Cert.Pre_tiles_name_experts.Facts] : Prop :=
  ∀ (m : (ℓ : Loc Cert.TilesIdeal.nD Cert.TilesIdeal.τ Cert.TilesIdeal.sig) → Buf (Elt Ideal) ℓ) (g : Dev Cert.TilesIdeal.nD → PrngReg)
    (m' : (ℓ : Loc Cert.TilesReferenceIdeal.nD Cert.TilesReferenceIdeal.τ Cert.TilesReferenceIdeal.sig) → Buf (Elt Ideal) ℓ) (g' : Dev Cert.TilesReferenceIdeal.nD → PrngReg), Pre_TilesIdeal m →
    (∀ c : Dev Cert.TilesIdeal.nD,
      m' ((c.tc : Thread Cert.TilesReferenceIdeal.nD Cert.TilesReferenceIdeal.τ).loc Cert.TilesReferenceIdeal.main_arg0) = m ((c.tc : Thread Cert.TilesIdeal.nD Cert.TilesIdeal.τ).loc Cert.TilesIdeal.main_arg0)
      ∧ m' ((c.tc : Thread Cert.TilesReferenceIdeal.nD Cert.TilesReferenceIdeal.τ).loc Cert.TilesReferenceIdeal.main_arg1) = m ((c.tc : Thread Cert.TilesIdeal.nD Cert.TilesIdeal.τ).loc Cert.TilesIdeal.main_arg1)
      ∧ m' ((c.tc : Thread Cert.TilesReferenceIdeal.nD Cert.TilesReferenceIdeal.τ).loc Cert.TilesReferenceIdeal.main_arg2) = m ((c.tc : Thread Cert.TilesIdeal.nD Cert.TilesIdeal.τ).loc Cert.TilesIdeal.main_arg2)
      ∧ m' ((c.tc : Thread Cert.TilesReferenceIdeal.nD Cert.TilesReferenceIdeal.τ).loc Cert.TilesReferenceIdeal.main_arg3) = m ((c.tc : Thread Cert.TilesIdeal.nD Cert.TilesIdeal.τ).loc Cert.TilesIdeal.main_arg3)
      ∧ m' ((c.tc : Thread Cert.TilesReferenceIdeal.nD Cert.TilesReferenceIdeal.τ).loc Cert.TilesReferenceIdeal.main_arg4) = m ((c.tc : Thread Cert.TilesIdeal.nD Cert.TilesIdeal.τ).loc Cert.TilesIdeal.main_arg4)
      ∧ m' ((c.tc : Thread Cert.TilesReferenceIdeal.nD Cert.TilesReferenceIdeal.τ).loc Cert.TilesReferenceIdeal.main_arg5) = m ((c.tc : Thread Cert.TilesIdeal.nD Cert.TilesIdeal.τ).loc Cert.TilesIdeal.main_arg5)) →
    ∃ (v0 : (c : Dev Cert.TilesIdeal.nD) → Buf (Elt Ideal) ((c.tc : Thread Cert.TilesIdeal.nD Cert.TilesIdeal.τ).loc Cert.TilesIdeal.main_v0)),
      θ_run (Cert.TilesIdeal.defs (F := Ideal)) (onTc (τ := Cert.TilesIdeal.τ) (Cert.TilesIdeal.main (F := Ideal))) ⟨m, fun _ => 0, g⟩ (fun r => ∀ c : Dev Cert.TilesIdeal.nD,
          r.2.mem ((c.tc : Thread Cert.TilesIdeal.nD Cert.TilesIdeal.τ).loc Cert.TilesIdeal.main_v0) = v0 c
          ∧ r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0)
          ∧ r.2.mem ((c.tc : Thread Cert.TilesIdeal.nD Cert.TilesIdeal.τ).loc Cert.TilesIdeal.main_arg1) = m ((c.tc : Thread Cert.TilesIdeal.nD Cert.TilesIdeal.τ).loc Cert.TilesIdeal.main_arg1)
          ∧ r.2.mem ((c.tc : Thread Cert.TilesIdeal.nD Cert.TilesIdeal.τ).loc Cert.TilesIdeal.main_arg2) = m ((c.tc : Thread Cert.TilesIdeal.nD Cert.TilesIdeal.τ).loc Cert.TilesIdeal.main_arg2)
          ∧ r.2.mem ((c.tc : Thread Cert.TilesIdeal.nD Cert.TilesIdeal.τ).loc Cert.TilesIdeal.main_arg3) = m ((c.tc : Thread Cert.TilesIdeal.nD Cert.TilesIdeal.τ).loc Cert.TilesIdeal.main_arg3)
          ∧ r.2.mem ((c.tc : Thread Cert.TilesIdeal.nD Cert.TilesIdeal.τ).loc Cert.TilesIdeal.main_arg4) = m ((c.tc : Thread Cert.TilesIdeal.nD Cert.TilesIdeal.τ).loc Cert.TilesIdeal.main_arg4)
          ∧ r.2.mem ((c.tc : Thread Cert.TilesIdeal.nD Cert.TilesIdeal.τ).loc Cert.TilesIdeal.main_arg5) = m ((c.tc : Thread Cert.TilesIdeal.nD Cert.TilesIdeal.τ).loc Cert.TilesIdeal.main_arg5))
      ∧ θ_run (Cert.TilesReferenceIdeal.defs (F := Ideal)) (onTc (τ := Cert.TilesReferenceIdeal.τ) (Cert.TilesReferenceIdeal.main (F := Ideal))) ⟨m', fun _ => 0, g'⟩ (fun r => ∀ c : Dev Cert.TilesReferenceIdeal.nD,
          r.2.mem ((c.tc : Thread Cert.TilesReferenceIdeal.nD Cert.TilesReferenceIdeal.τ).loc Cert.TilesReferenceIdeal.main_v150) = v0 c
          ∧ r.2.mem ((c.tc : Thread Cert.TilesReferenceIdeal.nD Cert.TilesReferenceIdeal.τ).loc Cert.TilesReferenceIdeal.main_arg0) = m' ((c.tc : Thread Cert.TilesReferenceIdeal.nD Cert.TilesReferenceIdeal.τ).loc Cert.TilesReferenceIdeal.main_arg0)
          ∧ r.2.mem ((c.tc : Thread Cert.TilesReferenceIdeal.nD Cert.TilesReferenceIdeal.τ).loc Cert.TilesReferenceIdeal.main_arg1) = m' ((c.tc : Thread Cert.TilesReferenceIdeal.nD Cert.TilesReferenceIdeal.τ).loc Cert.TilesReferenceIdeal.main_arg1)
          ∧ r.2.mem ((c.tc : Thread Cert.TilesReferenceIdeal.nD Cert.TilesReferenceIdeal.τ).loc Cert.TilesReferenceIdeal.main_arg2) = m' ((c.tc : Thread Cert.TilesReferenceIdeal.nD Cert.TilesReferenceIdeal.τ).loc Cert.TilesReferenceIdeal.main_arg2)
          ∧ r.2.mem ((c.tc : Thread Cert.TilesReferenceIdeal.nD Cert.TilesReferenceIdeal.τ).loc Cert.TilesReferenceIdeal.main_arg3) = m' ((c.tc : Thread Cert.TilesReferenceIdeal.nD Cert.TilesReferenceIdeal.τ).loc Cert.TilesReferenceIdeal.main_arg3)
          ∧ r.2.mem ((c.tc : Thread Cert.TilesReferenceIdeal.nD Cert.TilesReferenceIdeal.τ).loc Cert.TilesReferenceIdeal.main_arg4) = m' ((c.tc : Thread Cert.TilesReferenceIdeal.nD Cert.TilesReferenceIdeal.τ).loc Cert.TilesReferenceIdeal.main_arg4)
          ∧ r.2.mem ((c.tc : Thread Cert.TilesReferenceIdeal.nD Cert.TilesReferenceIdeal.τ).loc Cert.TilesReferenceIdeal.main_arg5) = m' ((c.tc : Thread Cert.TilesReferenceIdeal.nD Cert.TilesReferenceIdeal.τ).loc Cert.TilesReferenceIdeal.main_arg5))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v20) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def Claim : Prop :=
  ∃ (hKernel : Cert.Kernel.Facts) (hKernelIdeal : Cert.KernelIdeal.Facts) (hReferenceIdeal : Cert.ReferenceIdeal.Facts) (hTiles : Cert.Tiles.Facts) (hTilesIdeal : Cert.TilesIdeal.Facts) (hTilesReferenceIdeal : Cert.TilesReferenceIdeal.Facts) (hGate : Cert.Gate.Facts) (hGateIdeal : Cert.GateIdeal.Facts) (hGateReferenceIdeal : Cert.GateReferenceIdeal.Facts) (hPre_finite_logits : Cert.Pre_finite_logits.Facts) (hPre_tiles_name_experts : Cert.Pre_tiles_name_experts.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Tiles (hTiles := hTiles) (hPre_tiles_name_experts := hPre_tiles_name_experts)
    ∧ quiescent_TilesIdeal (hTilesIdeal := hTilesIdeal) (hPre_tiles_name_experts := hPre_tiles_name_experts)
    ∧ quiescent_TilesReferenceIdeal (hTilesReferenceIdeal := hTilesReferenceIdeal) (hPre_tiles_name_experts := hPre_tiles_name_experts)
    ∧ quiescent_Gate (hGate := hGate)
    ∧ quiescent_GateIdeal (hGateIdeal := hGateIdeal)
    ∧ quiescent_GateReferenceIdeal (hGateReferenceIdeal := hGateReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Tiles_TilesIdeal
    ∧ algebraic_TilesIdeal_TilesReferenceIdeal (hTilesIdeal := hTilesIdeal) (hTilesReferenceIdeal := hTilesReferenceIdeal) (hPre_tiles_name_experts := hPre_tiles_name_experts)
    ∧ preserves_Gate_GateIdeal
    ∧ algebraic_GateIdeal_GateReferenceIdeal (hGateIdeal := hGateIdeal) (hGateReferenceIdeal := hGateReferenceIdeal)
-- ==== Pre_finite_logits.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S4096x1024 : Shape := ⟨2, ![4096, 1024]⟩
abbrev S1024x8 : Shape := ⟨2, ![1024, 8]⟩
abbrev S4096x8 : Shape := ⟨2, ![4096, 8]⟩
abbrev S_ : Shape := ⟨0, ![]⟩

class Facts : Prop where
  shapeCasts_S2x2048x1024_S4096x1024 : S2x2048x1024.ShapeCasts S4096x1024
  transposes_S8x1024_S1024x8_1_0 : S8x1024.Transposes [1, 0] S1024x8
  bcast_S_S4096x8 : S_.BroadcastsInDim S4096x8 (![] : Fin 0 → Fin S4096x8.rank)
  dot_S4096x1024_S1024x8_S4096x8_1_0_0_1_n_n_wf : DotDims.WF S4096x1024 S1024x8 S4096x8 [1] [0] [0] [1] [] []

variable [Facts]

def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf
def fn {F : FTy → Type} [FloatOps F] (main_arg0 : FVec F S2x2048x1024 .f32) (main_arg1 : FVec F S8x1024 .f32) (main_arg2 : FVec F S8x4096x1024 .f32) (main_arg3 : FVec F S8x1024x4096 .f32) : IVec S4096x8 1 :=
  let main_v0 : FVec F S4096x1024 .f32 := shapeCast S4096x1024 main_arg0 shapeCasts_S2x2048x1024_S4096x1024
  let main_v1 : FVec F S1024x8 .f32 := (transpose S1024x8 [1, 0] · transposes_S8x1024_S1024x8_1_0) main_arg1
  let main_v2 : FVec F S4096x8 .f32 := (fun l r => Host.dotGeneral dot_S4096x1024_S1024x8_S4096x8_1_0_0_1_n_n none l r) main_v0 main_v1
  let main_v3 : FVec F S4096x8 .f32 := Host.absf main_v2
  let main_cst : FVec F S_ .f32 := constant S_ .f32 0x7F800000#32
  let main_v4 : FVec F S4096x8 .f32 := broadcastInDim S4096x8 ![] bcast_S_S4096x8 main_cst
  let main_v5 : IVec S4096x8 1 := cmpf .olt main_v3 main_v4
  main_v5
-- ==== Pre_tiles_name_experts.lean ====
abbrev S40 : Shape := ⟨1, ![40]⟩
abbrev S10240x1024 : Shape := ⟨2, ![10240, 1024]⟩
abbrev S8x4096x1024 : Shape := ⟨3, ![8, 4096, 1024]⟩
abbrev S8x1024x4096 : Shape := ⟨3, ![8, 1024, 4096]⟩
abbrev S10240x1 : Shape := ⟨2, ![10240, 1]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S40 32) (main_arg2 : FVec F S10240x1024 .f32) (main_arg3 : FVec F S8x4096x1024 .f32) (main_arg4 : FVec F S8x1024x4096 .f32) (main_arg5 : FVec F S10240x1 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== Kernel.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S4096x1024 : Shape := ⟨2, ![4096, 1024]⟩
abbrev S4096x2 : Shape := ⟨2, ![4096, 2]⟩
abbrev S1x8 : Shape := ⟨2, ![1, 8]⟩
abbrev S1x1 : Shape := ⟨2, ![1, 1]⟩
abbrev S512x1024 : Shape := ⟨2, ![512, 1024]⟩
abbrev S512x2 : Shape := ⟨2, ![512, 2]⟩
abbrev S512x8 : Shape := ⟨2, ![512, 8]⟩
abbrev S512 : Shape := ⟨1, ![512]⟩
abbrev S512x1 : Shape := ⟨2, ![512, 1]⟩
abbrev S8 : Shape := ⟨1, ![8]⟩
abbrev S512x512 : Shape := ⟨2, ![512, 512]⟩
abbrev S1x1x8 : Shape := ⟨3, ![1, 1, 8]⟩
abbrev S1 : Shape := ⟨1, ![1]⟩
abbrev S1x1x1 : Shape := ⟨3, ![1, 1, 1]⟩
abbrev S_ : Shape := ⟨0, ![]⟩
abbrev S4096x2x1 : Shape := ⟨3, ![4096, 2, 1]⟩
abbrev S8192 : Shape := ⟨1, ![8192]⟩
abbrev S4096 : Shape := ⟨1, ![4096]⟩
abbrev S4096x1 : Shape := ⟨2, ![4096, 1]⟩
abbrev S10240 : Shape := ⟨1, ![10240]⟩
abbrev S8192x1 : Shape := ⟨2, ![8192, 1]⟩
abbrev S10240x1 : Shape := ⟨2, ![10240, 1]⟩
abbrev S8192x2 : Shape := ⟨2, ![8192, 2]⟩
abbrev S40 : Shape := ⟨1, ![40]⟩
abbrev S40x1 : Shape := ⟨2, ![40, 1]⟩
abbrev S40x8 : Shape := ⟨2, ![40, 8]⟩
abbrev S10240x1024 : Shape := ⟨2, ![10240, 1024]⟩
abbrev S256x1024 : Shape := ⟨2, ![256, 1024]⟩
abbrev S1x1024x1024 : Shape := ⟨3, ![1, 1024, 1024]⟩
abbrev S256x1 : Shape := ⟨2, ![256, 1]⟩
abbrev S1024x1024 : Shape := ⟨2, ![1024, 1024]⟩

abbrev nBuf : Space → Nat
  | .hbm => 138
  | .vmem => 23
  | .smem => 2
  | _ => 0

abbrev hbmTy0_0 (i : Nat) : BufTy := match i % 128 with
  | 0 => ⟨S2x2048x1024, .f32⟩
  | 1 => ⟨S8x1024, .f32⟩
  | 2 => ⟨S8x4096x1024, .f32⟩
  | 3 => ⟨S8x1024x4096, .f32⟩
  | 4 => ⟨S4096x1024, .f32⟩
  | 5 => ⟨S4096x2, .i32⟩
  | 6 => ⟨S4096x2, .f32⟩
  | 7 => ⟨S4096x2, .i32⟩
  | 8 => ⟨S1x8, .i32⟩
  | 9 => ⟨S1x1, .f32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S_, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i1⟩
  | 25 => ⟨S8, .i32⟩
  | 26 => ⟨S8, .i32⟩
  | 27 => ⟨S_, .i32⟩
  | 28 => ⟨S8, .i32⟩
  | 29 => ⟨S8, .i1⟩
  | 30 => ⟨S8, .i1⟩
  | 31 => ⟨S_, .i32⟩
  | 32 => ⟨S8, .i32⟩
  | 33 => ⟨S8, .i32⟩
  | 34 => ⟨S8, .i32⟩
  | 35 => ⟨S_, .i32⟩
  | 36 => ⟨S8, .i32⟩
  | 37 => ⟨S8, .i32⟩
  | 38 => ⟨S_, .i32⟩
  | 39 => ⟨S_, .i32⟩
  | 40 => ⟨S8, .i32⟩
  | 41 => ⟨S8, .i32⟩
  | 42 => ⟨S_, .i32⟩
  | 43 => ⟨S4096x2, .i32⟩
  | 44 => ⟨S4096x2, .i1⟩
  | 45 => ⟨S_, .i32⟩
  | 46 => ⟨S4096x2, .i32⟩
  | 47 => ⟨S4096x2, .i32⟩
  | 48 => ⟨S4096x2, .i32⟩
  | 49 => ⟨S4096x2x1, .i32⟩
  | 50 => ⟨S4096x2, .i32⟩
  | 51 => ⟨S4096x2, .i32⟩
  | 52 => ⟨S8192, .i32⟩
  | 53 => ⟨S4096, .i32⟩
  | 54 => ⟨S4096x1, .i32⟩
  | 55 => ⟨S4096x2, .i32⟩
  | 56 => ⟨S8192, .i32⟩
  | 57 => ⟨S_, .i32⟩
  | 58 => ⟨S10240, .i32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S10240, .i32⟩
  | 68 => ⟨S_, .f32⟩
  | 69 => ⟨S10240x1, .f32⟩
  | 70 => ⟨S8192, .f32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192x1, .i32⟩
  | 82 => ⟨S8192x1, .i32⟩
  | 83 => ⟨S8192x2, .i32⟩
  | 84 => ⟨S10240x1, .f32⟩
  | 85 => ⟨S40, .i32⟩
  | 86 => ⟨S_, .i32⟩
  | 87 => ⟨S40, .i32⟩
  | 88 => ⟨S40, .i32⟩
  | 89 => ⟨S40x1, .i32⟩
  | 90 => ⟨S1x8, .i32⟩
  | 91 => ⟨S40x8, .i32⟩
  | 92 => ⟨S40x8, .i32⟩
  | 93 => ⟨S40x8, .i1⟩
  | 94 => ⟨S40x8, .i32⟩
  | 95 => ⟨S_, .i32⟩
  | 96 => ⟨S40, .i32⟩
  | 97 => ⟨S_, .i32⟩
  | 98 => ⟨S40, .i32⟩
  | 99 => ⟨S1, .i32⟩
  | 100 => ⟨S_, .i32⟩
  | 101 => ⟨S40, .i32⟩
  | 102 => ⟨S40, .i1⟩
  | 103 => ⟨S_, .i32⟩
  | 104 => ⟨S10240, .i32⟩
  | 105 => ⟨S10240, .i1⟩
  | 106 => ⟨S_, .i32⟩
  | 107 => ⟨S10240, .i32⟩
  | 108 => ⟨S10240, .i32⟩
  | 109 => ⟨S10240, .i32⟩
  | 110 => ⟨S10240x1, .i32⟩
  | 111 => ⟨S10240x1024, .f32⟩
  | 112 => ⟨S10240x1024, .f32⟩
  | 113 => ⟨S4096x1, .i32⟩
  | 114 => ⟨S4096, .i32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S4096x1024, .f32⟩
  | 124 => ⟨S4096x1, .i32⟩
  | 125 => ⟨S4096, .i32⟩
  | 126 => ⟨S_, .i32⟩
  | 127 => ⟨S4096, .i32⟩
  | _ => ⟨S2x2048x1024, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x1024, .f32⟩
  | 7 => ⟨S4096x1024, .f32⟩
  | 8 => ⟨S2x2048x1024, .f32⟩
  | 9 => ⟨S_, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x2, .i32⟩
  | .local _ .vmem, ⟨4, _⟩ => ⟨S512x2, .i32⟩
  | .local _ .vmem, ⟨5, _⟩ => ⟨S512x2, .f32⟩
  | .local _ .vmem, ⟨6, _⟩ => ⟨S512x2, .f32⟩
  | .local _ .vmem, ⟨7, _⟩ => ⟨S512x2, .i32⟩
  | .local _ .vmem, ⟨8, _⟩ => ⟨S512x2, .i32⟩
  | .local _ .vmem, ⟨9, _⟩ => ⟨S1x8, .i32⟩
  | .local _ .vmem, ⟨10, _⟩ => ⟨S1x1, .f32⟩
  | .local _ .vmem, ⟨11, _⟩ => ⟨S1x8, .f32⟩
  | .local _ .vmem, ⟨12, _⟩ => ⟨S1x8, .f32⟩
  | .local _ .vmem, ⟨13, _⟩ => ⟨S256x1024, .f32⟩
  | .local _ .vmem, ⟨14, _⟩ => ⟨S256x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S256x1, .f32⟩
  | .local _ .vmem, ⟨20, _⟩ => ⟨S256x1, .f32⟩
  | .local _ .vmem, ⟨21, _⟩ => ⟨S256x1024, .f32⟩
  | .local _ .vmem, ⟨22, _⟩ => ⟨S256x1024, .f32⟩
  | .local _ .smem, ⟨0, _⟩ => ⟨S40, .i32⟩
  | .local _ .smem, ⟨1, _⟩ => ⟨S40, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_call1_call0_c : Ref sig .tc := ⟨.hbm, 38, rfl⟩
abbrev main_call1_call0_v0 : Ref sig .tc := ⟨.hbm, 39, rfl⟩
abbrev main_v10 : Ref sig .tc := ⟨.hbm, 40, rfl⟩
abbrev main_v11 : Ref sig .tc := ⟨.hbm, 41, rfl⟩
abbrev main_c_3 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_c_7 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_12 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_16 : Ref sig .tc := ⟨.hbm, 115, rfl⟩
abbrev main_v73 : Ref sig .tc := ⟨.hbm, 116, rfl⟩
abbrev main_v74 : Ref sig .tc := ⟨.hbm, 117, rfl⟩
abbrev main_c_17 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_18 : Ref sig .tc := ⟨.hbm, 126, rfl⟩
abbrev main_v82 : Ref sig .tc := ⟨.hbm, 127, rfl⟩
abbrev main_v83 : Ref sig .tc := ⟨.hbm, 128, rfl⟩
abbrev main_c_19 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v57 : Ref sig .tc := ⟨.smem, 0, rfl⟩
abbrev main_v62 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v91 : BitVec 1 := Scalar.cmpi .eq arg0 c7_i32
  let v92 : BitVec 32 := Scalar.extui v91
  let c0_i32_36 : BitVec 32 := 0#32
  let v93 : BitVec 1 := Scalar.cmpi .ne v92 c0_i32_36
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![40, 4], ![false, false]⟩

abbrev pre1 : Pipeline.Prefetch sig := ⟨2, ![main_v57.idx, main_v62.idx], fun | 0 => main_v57.names | 1 => main_v62.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (v4 : BitVec 32) : BitVec 1 :=
  let c0_i32_1 : BitVec 32 := 0#32
  let v5 : BitVec 1 := Scalar.cmpi .ne v4 c0_i32_1
  let v6 : BitVec 32 := Scalar.extui v5
  let c0_i32_2 : BitVec 32 := 0#32
  let v7 : BitVec 1 := Scalar.cmpi .ne v6 c0_i32_2
  v7

def k1_cond3 (i : grid1.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_3 : BitVec 32 := 0#32
  let v10 : BitVec 1 := Scalar.cmpi .ne v9 c0_i32_3
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  ![v1.toNat, arg1.toNat, c0_i32.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  ![v1.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S4096x1024 : Shape := ⟨2, ![4096, 1024]⟩
abbrev S1024x8 : Shape := ⟨2, ![1024, 8]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S1x1x8 : Shape := ⟨3, ![1, 1, 8]⟩
abbrev S4096x2x8 : Shape := ⟨3, ![4096, 2, 8]⟩
abbrev S1x4096x1024 : Shape := ⟨3, ![1, 4096, 1024]⟩
abbrev S1024x4096 : Shape := ⟨2, ![1024, 4096]⟩
abbrev S4096x4096 : Shape := ⟨2, ![4096, 4096]⟩
abbrev S1x1024x4096 : Shape := ⟨3, ![1, 1024, 4096]⟩
abbrev S8 : Shape := ⟨1, ![8]⟩

abbrev nBuf : Space → Nat
  | .hbm => 229
  | .vmem => 0
  | .smem => 0
  | _ => 0

abbrev hbmTy0_0 (i : Nat) : BufTy := match i % 128 with
  | 0 => ⟨S2x2048x1024, .f32⟩
  | 1 => ⟨S8x1024, .f32⟩
  | 2 => ⟨S8x4096x1024, .f32⟩
  | 3 => ⟨S8x1024x4096, .f32⟩
  | 4 => ⟨S4096x1024, .f32⟩
  | 5 => ⟨S1024x8, .f32⟩
  | 6 => ⟨S4096x8, .f32⟩
  | 7 => ⟨S4096x2, .f32⟩
  | 8 => ⟨S4096x2, .i32⟩
  | 9 => ⟨S_, .f32⟩
  | 10 => ⟨S4096, .f32⟩
  | 11 => ⟨S_, .f32⟩
  | 12 => ⟨S4096, .f32⟩
  | 13 => ⟨S4096, .f32⟩
  | 14 => ⟨S4096x1, .f32⟩
  | 15 => ⟨S4096x2, .f32⟩
  | 16 => ⟨S4096x2, .f32⟩
  | 17 => ⟨S4096x2, .f32⟩
  | 18 => ⟨S_, .f32⟩
  | 19 => ⟨S4096, .f32⟩
  | 20 => ⟨S4096x1, .f32⟩
  | 21 => ⟨S4096x2, .f32⟩
  | 22 => ⟨S4096x2, .f32⟩
  | 23 => ⟨S4096x2x1, .i32⟩
  | 24 => ⟨S1x1x8, .i32⟩
  | 25 => ⟨S4096x2x8, .i32⟩
  | 26 => ⟨S4096x2x8, .i32⟩
  | 27 => ⟨S4096x2x8, .i1⟩
  | 28 => ⟨S4096x2x8, .f32⟩
  | 29 => ⟨S4096x2x1, .f32⟩
  | 30 => ⟨S4096x2x8, .f32⟩
  | 31 => ⟨S4096x2x8, .f32⟩
  | 32 => ⟨S_, .f32⟩
  | 33 => ⟨S4096x8, .f32⟩
  | 34 => ⟨S_, .f32⟩
  | 35 => ⟨S4096x1024, .f32⟩
  | 36 => ⟨S1x4096x1024, .f32⟩
  | 37 => ⟨S4096x1024, .f32⟩
  | 38 => ⟨S1024x4096, .f32⟩
  | 39 => ⟨S4096x4096, .f32⟩
  | 40 => ⟨S4096x4096, .f32⟩
  | 41 => ⟨S4096x4096, .f32⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S1x1024x4096, .f32⟩
  | 50 => ⟨S1024x4096, .f32⟩
  | 51 => ⟨S4096x1024, .f32⟩
  | 52 => ⟨S4096x1024, .f32⟩
  | 53 => ⟨S4096x1, .f32⟩
  | 54 => ⟨S4096x1024, .f32⟩
  | 55 => ⟨S4096x1024, .f32⟩
  | 56 => ⟨S4096x1024, .f32⟩
  | 57 => ⟨S1x4096x1024, .f32⟩
  | 58 => ⟨S4096x1024, .f32⟩
  | 59 => ⟨S1024x4096, .f32⟩
  | 60 => ⟨S4096x4096, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S1x1024x4096, .f32⟩
  | 71 => ⟨S1024x4096, .f32⟩
  | 72 => ⟨S4096x1024, .f32⟩
  | 73 => ⟨S4096x1024, .f32⟩
  | 74 => ⟨S4096x1, .f32⟩
  | 75 => ⟨S4096x1024, .f32⟩
  | 76 => ⟨S4096x1024, .f32⟩
  | 77 => ⟨S4096x1024, .f32⟩
  | 78 => ⟨S1x4096x1024, .f32⟩
  | 79 => ⟨S4096x1024, .f32⟩
  | 80 => ⟨S1024x4096, .f32⟩
  | 81 => ⟨S4096x4096, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S1x1024x4096, .f32⟩
  | 92 => ⟨S1024x4096, .f32⟩
  | 93 => ⟨S4096x1024, .f32⟩
  | 94 => ⟨S4096x1024, .f32⟩
  | 95 => ⟨S4096x1, .f32⟩
  | 96 => ⟨S4096x1024, .f32⟩
  | 97 => ⟨S4096x1024, .f32⟩
  | 98 => ⟨S4096x1024, .f32⟩
  | 99 => ⟨S1x4096x1024, .f32⟩
  | 100 => ⟨S4096x1024, .f32⟩
  | 101 => ⟨S1024x4096, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S1x1024x4096, .f32⟩
  | 113 => ⟨S1024x4096, .f32⟩
  | 114 => ⟨S4096x1024, .f32⟩
  | 115 => ⟨S4096x1024, .f32⟩
  | 116 => ⟨S4096x1, .f32⟩
  | 117 => ⟨S4096x1024, .f32⟩
  | 118 => ⟨S4096x1024, .f32⟩
  | 119 => ⟨S4096x1024, .f32⟩
  | 120 => ⟨S1x4096x1024, .f32⟩
  | 121 => ⟨S4096x1024, .f32⟩
  | 122 => ⟨S1024x4096, .f32⟩
  | 123 => ⟨S4096x4096, .f32⟩
  | 124 => ⟨S4096x4096, .f32⟩
  | 125 => ⟨S4096x4096, .f32⟩
  | 126 => ⟨S_, .f32⟩
  | 127 => ⟨S4096x4096, .f32⟩
  | _ => ⟨S2x2048x1024, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S1x1024x4096, .f32⟩
  | 6 => ⟨S1024x4096, .f32⟩
  | 7 => ⟨S4096x1024, .f32⟩
  | 8 => ⟨S4096x1024, .f32⟩
  | 9 => ⟨S4096x1, .f32⟩
  | 10 => ⟨S4096x1024, .f32⟩
  | 11 => ⟨S4096x1024, .f32⟩
  | 12 => ⟨S4096x1024, .f32⟩
  | 13 => ⟨S1x4096x1024, .f32⟩
  | 14 => ⟨S4096x1024, .f32⟩
  | 15 => ⟨S1024x4096, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S1x1024x4096, .f32⟩
  | 27 => ⟨S1024x4096, .f32⟩
  | 28 => ⟨S4096x1024, .f32⟩
  | 29 => ⟨S4096x1024, .f32⟩
  | 30 => ⟨S4096x1, .f32⟩
  | 31 => ⟨S4096x1024, .f32⟩
  | 32 => ⟨S4096x1024, .f32⟩
  | 33 => ⟨S4096x1024, .f32⟩
  | 34 => ⟨S1x4096x1024, .f32⟩
  | 35 => ⟨S4096x1024, .f32⟩
  | 36 => ⟨S1024x4096, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S1x1024x4096, .f32⟩
  | 48 => ⟨S1024x4096, .f32⟩
  | 49 => ⟨S4096x1024, .f32⟩
  | 50 => ⟨S4096x1024, .f32⟩
  | 51 => ⟨S4096x1, .f32⟩
  | 52 => ⟨S4096x1024, .f32⟩
  | 53 => ⟨S4096x1024, .f32⟩
  | 54 => ⟨S4096x1024, .f32⟩
  | 55 => ⟨S1x4096x1024, .f32⟩
  | 56 => ⟨S4096x1024, .f32⟩
  | 57 => ⟨S1024x4096, .f32⟩
  | 58 => ⟨S4096x4096, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S_, .f32⟩
  | 65 => ⟨S4096x4096, .f32⟩
  | 66 => ⟨S4096x4096, .f32⟩
  | 67 => ⟨S4096x4096, .f32⟩
  | 68 => ⟨S1x1024x4096, .f32⟩
  | 69 => ⟨S1024x4096, .f32⟩
  | 70 => ⟨S4096x1024, .f32⟩
  | 71 => ⟨S4096x1024, .f32⟩
  | 72 => ⟨S4096x1, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S4096x1, .f32⟩
  | 82 => ⟨S4096x8, .f32⟩
  | 83 => ⟨S4096x8, .f32⟩
  | 84 => ⟨S4096x8, .f32⟩
  | 85 => ⟨S_, .f32⟩
  | 86 => ⟨S4096, .f32⟩
  | 87 => ⟨S4096x1, .f32⟩
  | 88 => ⟨S4096x8, .f32⟩
  | 89 => ⟨S4096x8, .f32⟩
  | 90 => ⟨S_, .f32⟩
  | 91 => ⟨S8, .f32⟩
  | 92 => ⟨S_, .f32⟩
  | 93 => ⟨S8, .f32⟩
  | 94 => ⟨S8, .f32⟩
  | 95 => ⟨S8, .f32⟩
  | 96 => ⟨S_, .f32⟩
  | 97 => ⟨S_, .f32⟩
  | 98 => ⟨S_, .f32⟩
  | 99 => ⟨S_, .f32⟩
  | 100 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call4_v0 : Ref sig .tc := ⟨.hbm, 103, rfl⟩
abbrev main_call4_v1 : Ref sig .tc := ⟨.hbm, 104, rfl⟩
abbrev main_call4_cst : Ref sig .tc := ⟨.hbm, 105, rfl⟩
abbrev main_call4_v2 : Ref sig .tc := ⟨.hbm, 106, rfl⟩
abbrev main_call4_v3 : Ref sig .tc := ⟨.hbm, 107, rfl⟩
abbrev main_call4_cst_0 : Ref sig .tc := ⟨.hbm, 108, rfl⟩
abbrev main_call4_v4 : Ref sig .tc := ⟨.hbm, 109, rfl⟩
abbrev main_call4_v5 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_call6_v0 : Ref sig .tc := ⟨.hbm, 145, rfl⟩
abbrev main_call6_v1 : Ref sig .tc := ⟨.hbm, 146, rfl⟩
abbrev main_call6_cst : Ref sig .tc := ⟨.hbm, 147, rfl⟩
abbrev main_call6_v2 : Ref sig .tc := ⟨.hbm, 148, rfl⟩
abbrev main_call6_v3 : Ref sig .tc := ⟨.hbm, 149, rfl⟩
abbrev main_call6_cst_0 : Ref sig .tc := ⟨.hbm, 150, rfl⟩
abbrev main_call6_v4 : Ref sig .tc := ⟨.hbm, 151, rfl⟩
abbrev main_call6_v5 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call8_v0 : Ref sig .tc := ⟨.hbm, 187, rfl⟩
abbrev main_call8_v1 : Ref sig .tc := ⟨.hbm, 188, rfl⟩
abbrev main_call8_cst : Ref sig .tc := ⟨.hbm, 189, rfl⟩
abbrev main_call8_v2 : Ref sig .tc := ⟨.hbm, 190, rfl⟩
abbrev main_call8_v3 : Ref sig .tc := ⟨.hbm, 191, rfl⟩
abbrev main_call8_cst_0 : Ref sig .tc := ⟨.hbm, 192, rfl⟩
abbrev main_call8_v4 : Ref sig .tc := ⟨.hbm, 193, rfl⟩
abbrev main_call8_v5 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_cst_4 : Ref sig .tc := ⟨.hbm, 204, rfl⟩
abbrev main_v124 : Ref sig .tc := ⟨.hbm, 205, rfl⟩
abbrev main_cst_5 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_6 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_cst_7 : Ref sig .tc := ⟨.hbm, 218, rfl⟩
abbrev main_v135 : Ref sig .tc := ⟨.hbm, 219, rfl⟩
abbrev main_cst_8 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_cst_9 : Ref sig .tc := ⟨.hbm, 224, rfl⟩
abbrev main_v139 : Ref sig .tc := ⟨.hbm, 225, rfl⟩
abbrev main_cst_10 : Ref sig .tc := ⟨.hbm, 226, rfl⟩
abbrev main_v140 : Ref sig .tc := ⟨.hbm, 227, rfl⟩
abbrev main_v141 : Ref sig .tc := ⟨.hbm, 228, rfl⟩

abbrev nD : Nat := 1
abbrev τ : Topo := Topo.v7x

variable {F : FTy → Type} [FloatOps F]
-- ==== Tiles.lean ====
abbrev S40 : Shape := ⟨1, ![40]⟩
abbrev S10240x1024 : Shape := ⟨2, ![10240, 1024]⟩
abbrev S8x4096x1024 : Shape := ⟨3, ![8, 4096, 1024]⟩
abbrev S8x1024x4096 : Shape := ⟨3, ![8, 1024, 4096]⟩
abbrev S10240x1 : Shape := ⟨2, ![10240, 1]⟩
abbrev S256x1024 : Shape := ⟨2, ![256, 1024]⟩
abbrev S1x1024x1024 : Shape := ⟨3, ![1, 1024, 1024]⟩
abbrev S1 : Shape := ⟨1, ![1]⟩
abbrev S256x1 : Shape := ⟨2, ![256, 1]⟩
abbrev S1024x1024 : Shape := ⟨2, ![1024, 1024]⟩

abbrev nBuf : Space → Nat
  | .hbm => 5
  | .vmem => 10
  | .smem => 2
  | _ => 0

abbrev bufTy : (tb : Table) → Fin (tcTables nBuf tb) → BufTy
  | .hbm, ⟨0, _⟩ => ⟨S10240x1024, .f32⟩
  | .hbm, ⟨1, _⟩ => ⟨S8x4096x1024, .f32⟩
  | .hbm, ⟨2, _⟩ => ⟨S8x1024x4096, .f32⟩
  | .hbm, ⟨3, _⟩ => ⟨S10240x1, .f32⟩
  | .hbm, ⟨4, _⟩ => ⟨S10240x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S256x1, .f32⟩
  | .local _ .vmem, ⟨7, _⟩ => ⟨S256x1, .f32⟩
  | .local _ .vmem, ⟨8, _⟩ => ⟨S256x1024, .f32⟩
  | .local _ .vmem, ⟨9, _⟩ => ⟨S256x1024, .f32⟩
  | .local _ .smem, ⟨0, _⟩ => ⟨S40, .i32⟩
  | .local _ .smem, ⟨1, _⟩ => ⟨S40, .i32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .ne v4 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== TilesReferenceIdeal.lean ====
abbrev S40 : Shape := ⟨1, ![40]⟩
abbrev S10240x1024 : Shape := ⟨2, ![10240, 1024]⟩
abbrev S8x4096x1024 : Shape := ⟨3, ![8, 4096, 1024]⟩
abbrev S8x1024x4096 : Shape := ⟨3, ![8, 1024, 4096]⟩
abbrev S10240x1 : Shape := ⟨2, ![10240, 1]⟩
abbrev S40x1 : Shape := ⟨2, ![40, 1]⟩
abbrev S40x256 : Shape := ⟨2, ![40, 256]⟩
abbrev S_ : Shape := ⟨0, ![]⟩
abbrev S1x4096x1024 : Shape := ⟨3, ![1, 4096, 1024]⟩
abbrev S4096x1024 : Shape := ⟨2, ![4096, 1024]⟩
abbrev S1024x4096 : Shape := ⟨2, ![1024, 4096]⟩
abbrev S10240x4096 : Shape := ⟨2, ![10240, 4096]⟩
abbrev S1x1024x4096 : Shape := ⟨3, ![1, 1024, 4096]⟩

abbrev nBuf : Space → Nat
  | .hbm => 262
  | .vmem => 0
  | .smem => 0
  | _ => 0

abbrev hbmTy0_0 (i : Nat) : BufTy := match i % 128 with
  | 0 => ⟨S40, .i32⟩
  | 1 => ⟨S40, .i32⟩
  | 2 => ⟨S10240x1024, .f32⟩
  | 3 => ⟨S8x4096x1024, .f32⟩
  | 4 => ⟨S8x1024x4096, .f32⟩
  | 5 => ⟨S10240x1, .f32⟩
  | 6 => ⟨S40x1, .i32⟩
  | 7 => ⟨S40x256, .i32⟩
  | 8 => ⟨S10240x1, .i32⟩
  | 9 => ⟨S40x1, .i32⟩
  | 10 => ⟨S40x256, .i32⟩
  | 11 => ⟨S10240x1, .i32⟩
  | 12 => ⟨S_, .f32⟩
  | 13 => ⟨S10240x1024, .f32⟩
  | 14 => ⟨S_, .i32⟩
  | 15 => ⟨S10240x1, .i32⟩
  | 16 => ⟨S10240x1, .i1⟩
  | 17 => ⟨S_, .i32⟩
  | 18 => ⟨S10240x1, .i32⟩
  | 19 => ⟨S10240x1, .i1⟩
  | 20 => ⟨S10240x1, .i1⟩
  | 21 => ⟨S_, .f32⟩
  | 22 => ⟨S_, .f32⟩
  | 23 => ⟨S10240x1, .f32⟩
  | 24 => ⟨S10240x1, .f32⟩
  | 25 => ⟨S1x4096x1024, .f32⟩
  | 26 => ⟨S4096x1024, .f32⟩
  | 27 => ⟨S1024x4096, .f32⟩
  | 28 => ⟨S10240x4096, .f32⟩
  | 29 => ⟨S10240x4096, .f32⟩
  | 30 => ⟨S10240x4096, .f32⟩
  | 31 => ⟨S_, .f32⟩
  | 32 => ⟨S10240x4096, .f32⟩
  | 33 => ⟨S10240x4096, .f32⟩
  | 34 => ⟨S_, .f32⟩
  | 35 => ⟨S10240x4096, .f32⟩
  | 36 => ⟨S10240x4096, .f32⟩
  | 37 => ⟨S10240x4096, .f32⟩
  | 38 => ⟨S1x1024x4096, .f32⟩
  | 39 => ⟨S1024x4096, .f32⟩
  | 40 => ⟨S4096x1024, .f32⟩
  | 41 => ⟨S10240x1024, .f32⟩
  | 42 => ⟨S10240x1024, .f32⟩
  | 43 => ⟨S10240x1024, .f32⟩
  | 44 => ⟨S10240x1024, .f32⟩
  | 45 => ⟨S_, .i32⟩
  | 46 => ⟨S10240x1, .i32⟩
  | 47 => ⟨S10240x1, .i1⟩
  | 48 => ⟨S_, .i32⟩
  | 49 => ⟨S10240x1, .i32⟩
  | 50 => ⟨S10240x1, .i1⟩
  | 51 => ⟨S10240x1, .i1⟩
  | 52 => ⟨S_, .f32⟩
  | 53 => ⟨S_, .f32⟩
  | 54 => ⟨S10240x1, .f32⟩
  | 55 => ⟨S10240x1, .f32⟩
  | 56 => ⟨S1x4096x1024, .f32⟩
  | 57 => ⟨S4096x1024, .f32⟩
  | 58 => ⟨S1024x4096, .f32⟩
  | 59 => ⟨S10240x4096, .f32⟩
  | 60 => ⟨S10240x4096, .f32⟩
  | 61 => ⟨S10240x4096, .f32⟩
  | 62 => ⟨S_, .f32⟩
  | 63 => ⟨S10240x4096, .f32⟩
  | 64 => ⟨S10240x4096, .f32⟩
  | 65 => ⟨S_, .f32⟩
  | 66 => ⟨S10240x4096, .f32⟩
  | 67 => ⟨S10240x4096, .f32⟩
  | 68 => ⟨S10240x4096, .f32⟩
  | 69 => ⟨S1x1024x4096, .f32⟩
  | 70 => ⟨S1024x4096, .f32⟩
  | 71 => ⟨S4096x1024, .f32⟩
  | 72 => ⟨S10240x1024, .f32⟩
  | 73 => ⟨S10240x1024, .f32⟩
  | 74 => ⟨S10240x1024, .f32⟩
  | 75 => ⟨S10240x1024, .f32⟩
  | 76 => ⟨S_, .i32⟩
  | 77 => ⟨S10240x1, .i32⟩
  | 78 => ⟨S10240x1, .i1⟩
  | 79 => ⟨S_, .i32⟩
  | 80 => ⟨S10240x1, .i32⟩
  | 81 => ⟨S10240x1, .i1⟩
  | 82 => ⟨S10240x1, .i1⟩
  | 83 => ⟨S_, .f32⟩
  | 84 => ⟨S_, .f32⟩
  | 85 => ⟨S10240x1, .f32⟩
  | 86 => ⟨S10240x1, .f32⟩
  | 87 => ⟨S1x4096x1024, .f32⟩
  | 88 => ⟨S4096x1024, .f32⟩
  | 89 => ⟨S1024x4096, .f32⟩
  | 90 => ⟨S10240x4096, .f32⟩
  | 91 => ⟨S10240x4096, .f32⟩
  | 92 => ⟨S10240x4096, .f32⟩
  | 93 => ⟨S_, .f32⟩
  | 94 => ⟨S10240x4096, .f32⟩
  | 95 => ⟨S10240x4096, .f32⟩
  | 96 => ⟨S_, .f32⟩
  | 97 => ⟨S10240x4096, .f32⟩
  | 98 => ⟨S10240x4096, .f32⟩
  | 99 => ⟨S10240x4096, .f32⟩
  | 100 => ⟨S1x1024x4096, .f32⟩
  | 101 => ⟨S1024x4096, .f32⟩
  | 102 => ⟨S4096x1024, .f32⟩
  | 103 => ⟨S10240x1024, .f32⟩
  | 104 => ⟨S10240x1024, .f32⟩
  | 105 => ⟨S10240x1024, .f32⟩
  | 106 => ⟨S10240x1024, .f32⟩
  | 107 => ⟨S_, .i32⟩
  | 108 => ⟨S10240x1, .i32⟩
  | 109 => ⟨S10240x1, .i1⟩
  | 110 => ⟨S_, .i32⟩
  | 111 => ⟨S10240x1, .i32⟩
  | 112 => ⟨S10240x1, .i1⟩
  | 113 => ⟨S10240x1, .i1⟩
  | 114 => ⟨S_, .f32⟩
  | 115 => ⟨S_, .f32⟩
  | 116 => ⟨S10240x1, .f32⟩
  | 117 => ⟨S10240x1, .f32⟩
  | 118 => ⟨S1x4096x1024, .f32⟩
  | 119 => ⟨S4096x1024, .f32⟩
  | 120 => ⟨S1024x4096, .f32⟩
  | 121 => ⟨S10240x4096, .f32⟩
  | 122 => ⟨S10240x4096, .f32⟩
  | 123 => ⟨S10240x4096, .f32⟩
  | 124 => ⟨S_, .f32⟩
  | 125 => ⟨S10240x4096, .f32⟩
  | 126 => ⟨S10240x4096, .f32⟩
  | 127 => ⟨S_, .f32⟩
  | _ => ⟨S40, .i32⟩

abbrev hbmTy0_1 (i : Nat) : BufTy := match i % 128 with
  | 0 => ⟨S10240x4096, .f32⟩
  | 1 => ⟨S10240x4096, .f32⟩
  | 2 => ⟨S10240x4096, .f32⟩
  | 3 => ⟨S1x1024x4096, .f32⟩
  | 4 => ⟨S1024x4096, .f32⟩
  | 5 => ⟨S4096x1024, .f32⟩
  | 6 => ⟨S10240x1024, .f32⟩
  | 7 => ⟨S10240x1024, .f32⟩
  | 8 => ⟨S10240x1024, .f32⟩
  | 9 => ⟨S10240x1024, .f32⟩
  | 10 => ⟨S_, .i32⟩
  | 11 => ⟨S10240x1, .i32⟩
  | 12 => ⟨S10240x1, .i1⟩
  | 13 => ⟨S_, .i32⟩
  | 14 => ⟨S10240x1, .i32⟩
  | 15 => ⟨S10240x1, .i1⟩
  | 16 => ⟨S10240x1, .i1⟩
  | 17 => ⟨S_, .f32⟩
  | 18 => ⟨S_, .f32⟩
  | 19 => ⟨S10240x1, .f32⟩
  | 20 => ⟨S10240x1, .f32⟩
  | 21 => ⟨S1x4096x1024, .f32⟩
  | 22 => ⟨S4096x1024, .f32⟩
  | 23 => ⟨S1024x4096, .f32⟩
  | 24 => ⟨S10240x4096, .f32⟩
  | 25 => ⟨S10240x4096, .f32⟩
  | 26 => ⟨S10240x4096, .f32⟩
  | 27 => ⟨S_, .f32⟩
  | 28 => ⟨S10240x4096, .f32⟩
  | 29 => ⟨S10240x4096, .f32⟩
  | 30 => ⟨S_, .f32⟩
  | 31 => ⟨S10240x4096, .f32⟩
  | 32 => ⟨S10240x4096, .f32⟩
  | 33 => ⟨S10240x4096, .f32⟩
  | 34 => ⟨S1x1024x4096, .f32⟩
  | 35 => ⟨S1024x4096, .f32⟩
  | 36 => ⟨S4096x1024, .f32⟩
  | 37 => ⟨S10240x1024, .f32⟩
  | 38 => ⟨S10240x1024, .f32⟩
  | 39 => ⟨S10240x1024, .f32⟩
  | 40 => ⟨S10240x1024, .f32⟩
  | 41 => ⟨S_, .i32⟩
  | 42 => ⟨S10240x1, .i32⟩
  | 43 => ⟨S10240x1, .i1⟩
  | 44 => ⟨S_, .i32⟩
  | 45 => ⟨S10240x1, .i32⟩
  | 46 => ⟨S10240x1, .i1⟩
  | 47 => ⟨S10240x1, .i1⟩
  | 48 => ⟨S_, .f32⟩
  | 49 => ⟨S_, .f32⟩
  | 50 => ⟨S10240x1, .f32⟩
  | 51 => ⟨S10240x1, .f32⟩
  | 52 => ⟨S1x4096x1024, .f32⟩
  | 53 => ⟨S4096x1024, .f32⟩
  | 54 => ⟨S1024x4096, .f32⟩
  | 55 => ⟨S10240x4096, .f32⟩
  | 56 => ⟨S10240x4096, .f32⟩
  | 57 => ⟨S10240x4096, .f32⟩
  | 58 => ⟨S_, .f32⟩
  | 59 => ⟨S10240x4096, .f32⟩
  | 60 => ⟨S10240x4096, .f32⟩
  | 61 => ⟨S_, .f32⟩
  | 62 => ⟨S10240x4096, .f32⟩
  | 63 => ⟨S10240x4096, .f32⟩
  | 64 => ⟨S10240x4096, .f32⟩
  | 65 => ⟨S1x1024x4096, .f32⟩
  | 66 => ⟨S1024x4096, .f32⟩
  | 67 => ⟨S4096x1024, .f32⟩
  | 68 => ⟨S10240x1024, .f32⟩
  | 69 => ⟨S10240x1024, .f32⟩
  | 70 => ⟨S10240x1024, .f32⟩
  | 71 => ⟨S10240x1024, .f32⟩
  | 72 => ⟨S_, .i32⟩
  | 73 => ⟨S10240x1, .i32⟩
  | 74 => ⟨S10240x1, .i1⟩
  | 75 => ⟨S_, .i32⟩
  | 76 => ⟨S10240x1, .i32⟩
  | 77 => ⟨S10240x1, .i1⟩
  | 78 => ⟨S10240x1, .i1⟩
  | 79 => ⟨S_, .f32⟩
  | 80 => ⟨S_, .f32⟩
  | 81 => ⟨S10240x1, .f32⟩
  | 82 => ⟨S10240x1, .f32⟩
  | 83 => ⟨S1x4096x1024, .f32⟩
  | 84 => ⟨S4096x1024, .f32⟩
  | 85 => ⟨S1024x4096, .f32⟩
  | 86 => ⟨S10240x4096, .f32⟩
  | 87 => ⟨S10240x4096, .f32⟩
  | 88 => ⟨S10240x4096, .f32⟩
  | 89 => ⟨S_, .f32⟩
  | 90 => ⟨S10240x4096, .f32⟩
  | 91 => ⟨S10240x4096, .f32⟩
  | 92 => ⟨S_, .f32⟩
  | 93 => ⟨S10240x4096, .f32⟩
  | 94 => ⟨S10240x4096, .f32⟩
  | 95 => ⟨S10240x4096, .f32⟩
  | 96 => ⟨S1x1024x4096, .f32⟩
  | 97 => ⟨S1024x4096, .f32⟩
  | 98 => ⟨S4096x1024, .f32⟩
  | 99 => ⟨S10240x1024, .f32⟩
  | 100 => ⟨S10240x1024, .f32⟩
  | 101 => ⟨S10240x1024, .f32⟩
  | 102 => ⟨S10240x1024, .f32⟩
  | 103 => ⟨S_, .i32⟩
  | 104 => ⟨S10240x1, .i32⟩
  | 105 => ⟨S10240x1, .i1⟩
  | 106 => ⟨S_, .i32⟩
  | 107 => ⟨S10240x1, .i32⟩
  | 108 => ⟨S10240x1, .i1⟩
  | 109 => ⟨S10240x1, .i1⟩
  | 110 => ⟨S_, .f32⟩
  | 111 => ⟨S_, .f32⟩
  | 112 => ⟨S10240x1, .f32⟩
  | 113 => ⟨S10240x1, .f32⟩
  | 114 => ⟨S1x4096x1024, .f32⟩
  | 115 => ⟨S4096x1024, .f32⟩
  | 116 => ⟨S1024x4096, .f32⟩
  | 117 => ⟨S10240x4096, .f32⟩
  | 118 => ⟨S10240x4096, .f32⟩
  | 119 => ⟨S10240x4096, .f32⟩
  | 120 => ⟨S_, .f32⟩
  | 121 => ⟨S10240x4096, .f32⟩
  | 122 => ⟨S10240x4096, .f32⟩
  | 123 => ⟨S_, .f32⟩
  | 124 => ⟨S10240x4096, .f32⟩
  | 125 => ⟨S10240x4096, .f32⟩
  | 126 => ⟨S10240x4096, .f32⟩
  | 127 => ⟨S1x1024x4096, .f32⟩
  | _ => ⟨S40, .i32⟩

abbrev hbmTy0_2 (i : Nat) : BufTy := match i % 128 with
  | 0 => ⟨S1024x4096, .f32⟩
  | 1 => ⟨S4096x1024, .f32⟩
  | 2 => ⟨S10240x1024, .f32⟩
  | 3 => ⟨S10240x1024, .f32⟩
  | 4 => ⟨S10240x1024, .f32⟩
  | 5 => ⟨S10240x1024, .f32⟩
  | _ => ⟨S40, .i32⟩

abbrev hbmTy (i : Nat) : BufTy := match i / 128 with
  | 0 => hbmTy0_0 i
  | 1 => hbmTy0_1 i
  | 2 => hbmTy0_2 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_5 : Ref sig .tc := ⟨.hbm, 76, rfl⟩
abbrev main_v43 : Ref sig .tc := ⟨.hbm, 77, rfl⟩
abbrev main_v44 : Ref sig .tc := ⟨.hbm, 78, rfl⟩
abbrev main_c_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_call4_v0 : Ref sig .tc := ⟨.hbm, 84, rfl⟩
abbrev main_call4_v1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call5_v0 : Ref sig .tc := ⟨.hbm, 91, rfl⟩
abbrev main_call5_v1 : Ref sig .tc := ⟨.hbm, 92, rfl⟩
abbrev main_call5_cst : Ref sig .tc := ⟨.hbm, 93, rfl⟩
abbrev main_call5_v2 : Ref sig .tc := ⟨.hbm, 94, rfl⟩
abbrev main_call5_v3 : Ref sig .tc := ⟨.hbm, 95, rfl⟩
abbrev main_call5_cst_0 : Ref sig .tc := ⟨.hbm, 96, rfl⟩
abbrev main_call5_v4 : Ref sig .tc := ⟨.hbm, 97, rfl⟩
abbrev main_call5_v5 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_8 : Ref sig .tc := ⟨.hbm, 107, rfl⟩
abbrev main_v61 : Ref sig .tc := ⟨.hbm, 108, rfl⟩
abbrev main_v62 : Ref sig .tc := ⟨.hbm, 109, rfl⟩
abbrev main_c_9 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_10 : Ref sig .tc := ⟨.hbm, 114, rfl⟩
abbrev main_call6_v0 : Ref sig .tc := ⟨.hbm, 115, rfl⟩
abbrev main_call6_v1 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_call7_v0 : Ref sig .tc := ⟨.hbm, 122, rfl⟩
abbrev main_call7_v1 : Ref sig .tc := ⟨.hbm, 123, rfl⟩
abbrev main_call7_cst : Ref sig .tc := ⟨.hbm, 124, rfl⟩
abbrev main_call7_v2 : Ref sig .tc := ⟨.hbm, 125, rfl⟩
abbrev main_call7_v3 : Ref sig .tc := ⟨.hbm, 126, rfl⟩
abbrev main_call7_cst_0 : Ref sig .tc := ⟨.hbm, 127, rfl⟩
abbrev main_call7_v4 : Ref sig .tc := ⟨.hbm, 128, rfl⟩
abbrev main_call7_v5 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_11 : Ref sig .tc := ⟨.hbm, 138, rfl⟩
abbrev main_v79 : Ref sig .tc := ⟨.hbm, 139, rfl⟩
abbrev main_v80 : Ref sig .tc := ⟨.hbm, 140, rfl⟩
abbrev main_c_12 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_13 : Ref sig .tc := ⟨.hbm, 145, rfl⟩
abbrev main_call8_v0 : Ref sig .tc := ⟨.hbm, 146, rfl⟩
abbrev main_call8_v1 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_call9_v0 : Ref sig .tc := ⟨.hbm, 153, rfl⟩
abbrev main_call9_v1 : Ref sig .tc := ⟨.hbm, 154, rfl⟩
abbrev main_call9_cst : Ref sig .tc := ⟨.hbm, 155, rfl⟩
abbrev main_call9_v2 : Ref sig .tc := ⟨.hbm, 156, rfl⟩
abbrev main_call9_v3 : Ref sig .tc := ⟨.hbm, 157, rfl⟩
abbrev main_call9_cst_0 : Ref sig .tc := ⟨.hbm, 158, rfl⟩
abbrev main_call9_v4 : Ref sig .tc := ⟨.hbm, 159, rfl⟩
abbrev main_call9_v5 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_c_14 : Ref sig .tc := ⟨.hbm, 169, rfl⟩
abbrev main_v97 : Ref sig .tc := ⟨.hbm, 170, rfl⟩
abbrev main_v98 : Ref sig .tc := ⟨.hbm, 171, rfl⟩
abbrev main_c_15 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_16 : Ref sig .tc := ⟨.hbm, 176, rfl⟩
abbrev main_call10_v0 : Ref sig .tc := ⟨.hbm, 177, rfl⟩
abbrev main_call10_v1 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_call11_v0 : Ref sig .tc := ⟨.hbm, 184, rfl⟩
abbrev main_call11_v1 : Ref sig .tc := ⟨.hbm, 185, rfl⟩
abbrev main_call11_cst : Ref sig .tc := ⟨.hbm, 186, rfl⟩
abbrev main_call11_v2 : Ref sig .tc := ⟨.hbm, 187, rfl⟩
abbrev main_call11_v3 : Ref sig .tc := ⟨.hbm, 188, rfl⟩
abbrev main_call11_cst_0 : Ref sig .tc := ⟨.hbm, 189, rfl⟩
abbrev main_call11_v4 : Ref sig .tc := ⟨.hbm, 190, rfl⟩
abbrev main_call11_v5 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_c_17 : Ref sig .tc := ⟨.hbm, 200, rfl⟩
abbrev main_v115 : Ref sig .tc := ⟨.hbm, 201, rfl⟩
abbrev main_v116 : Ref sig .tc := ⟨.hbm, 202, rfl⟩
abbrev main_c_18 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_19 : Ref sig .tc := ⟨.hbm, 207, rfl⟩
abbrev main_call12_v0 : Ref sig .tc := ⟨.hbm, 208, rfl⟩
abbrev main_call12_v1 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_call13_v0 : Ref sig .tc := ⟨.hbm, 215, rfl⟩
abbrev main_call13_v1 : Ref sig .tc := ⟨.hbm, 216, rfl⟩
abbrev main_call13_cst : Ref sig .tc := ⟨.hbm, 217, rfl⟩
abbrev main_call13_v2 : Ref sig .tc := ⟨.hbm, 218, rfl⟩
abbrev main_call13_v3 : Ref sig .tc := ⟨.hbm, 219, rfl⟩
abbrev main_call13_cst_0 : Ref sig .tc := ⟨.hbm, 220, rfl⟩
abbrev main_call13_v4 : Ref sig .tc := ⟨.hbm, 221, rfl⟩
abbrev main_call13_v5 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_c_20 : Ref sig .tc := ⟨.hbm, 231, rfl⟩
abbrev main_v133 : Ref sig .tc := ⟨.hbm, 232, rfl⟩
abbrev main_v134 : Ref sig .tc := ⟨.hbm, 233, rfl⟩
abbrev main_c_21 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_cst_22 : Ref sig .tc := ⟨.hbm, 238, rfl⟩
abbrev main_call14_v0 : Ref sig .tc := ⟨.hbm, 239, rfl⟩
abbrev main_call14_v1 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_call15_v0 : Ref sig .tc := ⟨.hbm, 246, rfl⟩
abbrev main_call15_v1 : Ref sig .tc := ⟨.hbm, 247, rfl⟩
abbrev main_call15_cst : Ref sig .tc := ⟨.hbm, 248, rfl⟩
abbrev main_call15_v2 : Ref sig .tc := ⟨.hbm, 249, rfl⟩
abbrev main_call15_v3 : Ref sig .tc := ⟨.hbm, 250, rfl⟩
abbrev main_call15_cst_0 : Ref sig .tc := ⟨.hbm, 251, rfl⟩
abbrev main_call15_v4 : Ref sig .tc := ⟨.hbm, 252, rfl⟩
abbrev main_call15_v5 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩

abbrev nD : Nat := 1
abbrev τ : Topo := Topo.v7x

variable {F : FTy → Type} [FloatOps F]
-- ==== Gate.lean ====
abbrev S2x2048x1024 : Shape := ⟨3, ![2, 2048, 1024]⟩
abbrev S8x1024 : Shape := ⟨2, ![8, 1024]⟩
abbrev S4096x1024 : Shape := ⟨2, ![4096, 1024]⟩
abbrev S4096x2 : Shape := ⟨2, ![4096, 2]⟩
abbrev S1x8 : Shape := ⟨2, ![1, 8]⟩
abbrev S1x1 : Shape := ⟨2, ![1, 1]⟩
abbrev S512x1024 : Shape := ⟨2, ![512, 1024]⟩
abbrev S512x2 : Shape := ⟨2, ![512, 2]⟩
abbrev S512x8 : Shape := ⟨2, ![512, 8]⟩
abbrev S512 : Shape := ⟨1, ![512]⟩
abbrev S512x1 : Shape := ⟨2, ![512, 1]⟩
abbrev S8 : Shape := ⟨1, ![8]⟩
abbrev S512x512 : Shape := ⟨2, ![512, 512]⟩
abbrev S1x1x8 : Shape := ⟨3, ![1, 1, 8]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S4096x1024, .f32⟩
  | .hbm, ⟨3, _⟩ => ⟨S4096x2, .i32⟩
  | .hbm, ⟨4, _⟩ => ⟨S4096x2, .f32⟩
  | .hbm, ⟨5, _⟩ => ⟨S4096x2, .i32⟩
  | .hbm, ⟨6, _⟩ => ⟨S1x8, .i32⟩
  | .hbm, ⟨7, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x2, .i32⟩
  | .local _ .vmem, ⟨4, _⟩ => ⟨S512x2, .i32⟩
  | .local _ .vmem, ⟨5, _⟩ => ⟨S512x2, .f32⟩
  | .local _ .vmem, ⟨6, _⟩ => ⟨S512x2, .f32⟩
  | .local _ .vmem, ⟨7, _⟩ => ⟨S512x2, .i32⟩
  | .local _ .vmem, ⟨8, _⟩ => ⟨S512x2, .i32⟩
  | .local _ .vmem, ⟨9, _⟩ => ⟨S1x8, .i32⟩
  | .local _ .vmem, ⟨10, _⟩ => ⟨S1x1, .f32⟩
  | .local _ .vmem, ⟨11, _⟩ => ⟨S1x8, .f32⟩
  | .local _ .vmem, ⟨12, _⟩ => ⟨S1x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v91 : BitVec 1 := Scalar.cmpi .eq arg0 c7_i32
  let v92 : BitVec 32 := Scalar.extui v91
  let c0_i32_36 : BitVec 32 := 0#32
  let v93 : BitVec 1 := Scalar.cmpi .ne v92 c0_i32_36
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateReferenceIdeal.lean ====
abbrev S2x2048x1024 : Shape := ⟨3, ![2, 2048, 1024]⟩
abbrev S8x1024 : Shape := ⟨2, ![8, 1024]⟩
abbrev S4096x1024 : Shape := ⟨2, ![4096, 1024]⟩
abbrev S1024x8 : Shape := ⟨2, ![1024, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S8 : Shape := ⟨1, ![8]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S4096x1024, .f32⟩
  | .hbm, ⟨3, _⟩ => ⟨S1024x8, .f32⟩
  | .hbm, ⟨4, _⟩ => ⟨S4096x8, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Ideal.RouteBody.lean ====
/- THE ROUTING BODY of the first pallas_call, one grid point, at any float values: what it leaves in each output block
   and in the two scratch rows, as functions of the token block, the gate matrix and what the scratch rows held before.
   Three cases: the first point (scratch rows cleared), a middle point, the last point (counts and loss written). -/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two chosen experts of each token of the block. -/
def eidsOf (x : Vec F S512x1024 .f32) (wg : Vec F S8x1024 .f32) : Vec F S512x2 .i32 :=
  k0_pay1 (k0_pay27 (k0_pay10 x wg)) (k0_pay28 (k0_pay14 x wg))
/-- The two weights of each token of the block. -/
def wsOf (x : Vec F S512x1024 .f32) (wg : Vec F S8x1024 .f32) : Vec F S512x2 .f32 :=
  k0_pay2 (k0_pay19 (k0_pay17 x wg) (k0_pay18 (F := F))) (k0_pay20 (k0_pay16 x wg))
/-- The two ranks of each token of the block, counting from the running counts `n`. -/
def ranksOf (x : Vec F S512x1024 .f32) (wg : Vec F S8x1024 .f32) (n : Vec F S1x8 .f32) : Vec F S512x2 .i32 :=
  k0_pay3 (k0_pay24 (k0_pay11 x wg) (k0_pay15 x wg) n) (k0_pay25 (k0_pay11 x wg) (k0_pay15 x wg) n)
/-- The running counts after the block. -/
def stepCnt (x : Vec F S512x1024 .f32) (wg : Vec F S8x1024 .f32) (n : Vec F S1x8 .f32) : Vec F S1x8 .f32 :=
  k0_pay26 (k0_pay11 x wg) (k0_pay15 x wg) n
/-- The running sums of the gate probabilities after the block. -/
def stepCol (x : Vec F S512x1024 .f32) (wg : Vec F S8x1024 .f32) (s : Vec F S1x8 .f32) : Vec F S1x8 .f32 :=
  k0_pay21 (k0_pay8 x wg) (k0_pay9 x wg) s

/-- The condition under which the body clears its scratch rows. -/
abbrev first (i : grid0.Coords) : Prop := (Scalar.cmpi .ne (Scalar.extui (Scalar.cmpi .eq (BitVec.ofNat 32 (i 0).val) 0#32)) 0#32) = 1#1
/-- The condition under which the body writes the counts and the loss. -/
abbrev last (i : grid0.Coords) : Prop := k0_cond2 i = 1#1

/-- The first condition holds at the first grid point only. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have h : first (grid0.coords t) ↔ t.val % 8 = 0 := by
    simp only [first, e0]
    word_cmp
  rw [h]; omega
/-- The second holds at the last grid point only. -/
theorem last_iff (t : Fin cfg0.N) : last (grid0.coords t) ↔ t.val = 7 := by
  have ht : t.val < 8 := Nat.lt_of_lt_of_eq t.isLt N_0
  have e0 : (grid0.coords t 0).val = t.val / 1 % 8 := Pipeline.Grid.coords_val t 0 (by decide) rfl
  have h : last (grid0.coords t) ↔ t.val % 8 = 7 := by
    simp only [last, k0_cond2, e0]
    word_cmp
  rw [h]; omega

set_option maxHeartbeats 4000000 in
/-- THE FIRST POINT: both scratch rows cleared, then the block taken in. -/
theorem route_first (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S512x2 .i32) (harg3 : arg3.IsWhole) (arg4 : Memref sig .tc .vmem S512x2 .f32) (harg4 : arg4.IsWhole) (arg5 : Memref sig .tc .vmem S512x2 .i32) (harg5 : arg5.IsWhole) (arg6 : Memref sig .tc .vmem S1x8 .i32) (harg6 : arg6.IsWhole) (arg7 : Memref sig .tc .vmem S1x1 .f32) (harg7 : arg7.IsWhole) (arg8 : Memref sig .tc .vmem S1x8 .f32) (harg8 : arg8.IsWhole) (arg9 : Memref sig .tc .vmem S1x8 .f32) (harg9 : arg9.IsWhole)
    (hc0 : first i) (hc1 : ¬last i) (x : Vec F S512x1024 .f32) (wg : Vec F S8x1024 .f32) (d5 : Vec F S1x8 .i32) (d6 : Vec F S1x1 .f32) (E : Set ℕ) (K : PUnit → sProp 𝕄) :
    iprop(owns (c : Thread nD τ) arg1 fullShare x ∗ owns (c : Thread nD τ) arg2 fullShare wg ∗ (∃ d : Vec F S512x2 .i32, owns (c : Thread nD τ) arg3 fullShare d) ∗ (∃ d : Vec F S512x2 .f32, owns (c : Thread nD τ) arg4 fullShare d) ∗ (∃ d : Vec F S512x2 .i32, owns (c : Thread nD τ) arg5 fullShare d) ∗ owns (c : Thread nD τ) arg6 fullShare d5 ∗ owns (c : Thread nD τ) arg7 fullShare d6 ∗ (∃ d : Vec F S1x8 .f32, owns (c : Thread nD τ) arg8 fullShare d) ∗ (∃ d : Vec F S1x8 .f32, owns (c : Thread nD τ) arg9 fullShare d)
      ∗ (iprop(owns (c : Thread nD τ) arg1 fullShare x ∗ owns (c : Thread nD τ) arg2 fullShare wg ∗ owns (c : Thread nD τ) arg3 fullShare (eidsOf x wg) ∗ owns (c : Thread nD τ) arg4 fullShare (wsOf x wg) ∗ owns (c : Thread nD τ) arg5 fullShare (ranksOf x wg (k0_pay6 (F := F))) ∗ owns (c : Thread nD τ) arg6 fullShare d5 ∗ owns (c : Thread nD τ) arg7 fullShare d6 ∗ owns (c : Thread nD τ) arg8 fullShare (stepCnt x wg (k0_pay6 (F := F))) ∗ owns (c : Thread nD τ) arg9 fullShare (stepCol x wg (k0_pay7 (F := F)))) -∗ K ⟨⟩))
      ⊢ wp frame (wpE (defs₀ (F := F)) Variants.none c none) E (cc0__routing_body i arg1 harg1 arg2 harg2 arg3 harg3 arg4 harg4 arg5 harg5 arg6 harg6 arg7 harg7 arg8 harg8 arg9 harg9) K := by
  simp only [cc0__routing_body_eq_skeleton]; unfold cc0__routing_body_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg6.eq_unread hf5; obtain rfl := harg7.eq_unread hf6
  have rd1 : View.readAt (Elt F) arg1.view (Rect.unit (s := S512x1024) ![0, 0] S512x1024.size inb_S512x1024_S512x1024_0_0).toLoadRect (harg1.unread x) = x :=
    (View.readAt_full _ _ _).trans (harg1.read_unread _)
  have rd2 : View.readAt (Elt F) arg2.view (Rect.unit (s := S8x1024) ![0, 0] S8x1024.size inb_S8x1024_S8x1024_0_0).toLoadRect (harg2.unread wg) = wg :=
    (View.readAt_full _ _ _).trans (harg2.read_unread _)
  have rc8 : ∀ w : Vec F S1x8 .f32, arg8.view.readCov (Val := Elt F) ([⟨Rect.unit (s := S1x8) ![0, 0] S1x8.size inb_S1x8_S1x8_0_0, w⟩] : List (View.Piece (Elt F) S1x8 .f32)) (Rect.unit (s := S1x8) ![0, 0] S1x8.size inb_S1x8_S1x8_0_0).toLoadRect = w :=
    fun w => View.readCov_full _ _ _ _ _
  have rc9 : ∀ w : Vec F S1x8 .f32, arg9.view.readCov (Val := Elt F) ([⟨Rect.unit (s := S1x8) ![0, 0] S1x8.size inb_S1x8_S1x8_0_0, w⟩] : List (View.Piece (Elt F) S1x8 .f32)) (Rect.unit (s := S1x8) ![0, 0] S1x8.size inb_S1x8_S1x8_0_0).toLoadRect = w :=
    fun w => View.readCov_full _ _ _ _ _
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; refine (View.read_writes_full _ _ _ _ _).trans ?_; delta eidsOf wsOf ranksOf stepCnt stepCol; (try delta route_first.sl.r_11); (try delta route_first.sl.r_10); (try delta route_first.sl.r_9); (try delta route_first.sl.r_8); (try delta route_first.sl.r_7); (try delta route_first.sl.r_6); (try delta route_first.sl.r_5); (try delta route_first.sl.r_4); (try delta route_first.sl.r_3); (try delta route_first.sl.r_2); (try delta route_first.sl.r_1); (try delta route_first.sl.r); (try delta route_first.sl.v66); (try delta route_first.sl.v73); (try delta route_first.sl.v52); (try delta route_first.sl.H7_1); (try delta route_first.sl.H8_1); simp only [View.readAt_writes_full, View.readCov_full, View.readAt_full, Memref.IsWhole.read_unread]
  isplitl [H3]
  · iexists _; isplitr; swap; · iexact H3
    ipureintro; refine (View.read_writes_full _ _ _ _ _).trans ?_; delta eidsOf wsOf ranksOf stepCnt stepCol; (try delta route_first.sl.r_11); (try delta route_first.sl.r_10); (try delta route_first.sl.r_9); (try delta route_first.sl.r_8); (try delta route_first.sl.r_7); (try delta route_first.sl.r_6); (try delta route_first.sl.r_5); (try delta route_first.sl.r_4); (try delta route_first.sl.r_3); (try delta route_first.sl.r_2); (try delta route_first.sl.r_1); (try delta route_first.sl.r); (try delta route_first.sl.v66); (try delta route_first.sl.v73); (try delta route_first.sl.v52); (try delta route_first.sl.H7_1); (try delta route_first.sl.H8_1); simp only [View.readAt_writes_full, View.readCov_full, View.readAt_full, Memref.IsWhole.read_unread]
  isplitl [H4]
  · iexists _; isplitr; swap; · iexact H4
    ipureintro; refine (View.read_writes_full _ _ _ _ _).trans ?_; delta eidsOf wsOf ranksOf stepCnt stepCol; (try delta route_first.sl.r_11); (try delta route_first.sl.r_10); (try delta route_first.sl.r_9); (try delta route_first.sl.r_8); (try delta route_first.sl.r_7); (try delta route_first.sl.r_6); (try delta route_first.sl.r_5); (try delta route_first.sl.r_4); (try delta route_first.sl.r_3); (try delta route_first.sl.r_2); (try delta route_first.sl.r_1); (try delta route_first.sl.r); (try delta route_first.sl.v66); (try delta route_first.sl.v73); (try delta route_first.sl.v52); (try delta route_first.sl.H7_1); (try delta route_first.sl.H8_1); simp only [View.readAt_writes_full, View.readCov_full, View.readAt_full, Memref.IsWhole.read_unread]
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; refine (View.read_writes_full _ _ _ _ _).trans ?_; delta eidsOf wsOf ranksOf stepCnt stepCol; (try delta route_first.sl.r_11); (try delta route_first.sl.r_10); (try delta route_first.sl.r_9); (try delta route_first.sl.r_8); (try delta route_first.sl.r_7); (try delta route_first.sl.r_6); (try delta route_first.sl.r_5); (try delta route_first.sl.r_4); (try delta route_first.sl.r_3); (try delta route_first.sl.r_2); (try delta route_first.sl.r_1); (try delta route_first.sl.r); (try delta route_first.sl.v66); (try delta route_first.sl.v73); (try delta route_first.sl.v52); (try delta route_first.sl.H7_1); (try delta route_first.sl.H8_1); simp only [View.readAt_writes_full, View.readCov_full, View.readAt_full, Memref.IsWhole.read_unread]
  iexists _; isplitr; swap; · iexact H8
  ipureintro; refine (View.read_writes_full _ _ _ _ _).trans ?_; delta eidsOf wsOf ranksOf stepCnt stepCol; (try delta route_first.sl.r_11); (try delta route_first.sl.r_10); (try delta route_first.sl.r_9); (try delta route_first.sl.r_8); (try delta route_first.sl.r_7); (try delta route_first.sl.r_6); (try delta route_first.sl.r_5); (try delta route_first.sl.r_4); (try delta route_first.sl.r_3); (try delta route_first.sl.r_2); (try delta route_first.sl.r_1); (try delta route_first.sl.r); (try delta route_first.sl.v66); (try delta route_first.sl.v73); (try delta route_first.sl.v52); (try delta route_first.sl.H7_1); (try delta route_first.sl.H8_1); simp only [View.readAt_writes_full, View.readCov_full, View.readAt_full, Memref.IsWhole.read_unread]

set_option maxHeartbeats 4000000 in
/-- A MIDDLE POINT: the block taken in over the scratch rows `n` and `s`. -/
theorem route_mid (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S512x2 .i32) (harg3 : arg3.IsWhole) (arg4 : Memref sig .tc .vmem S512x2 .f32) (harg4 : arg4.IsWhole) (arg5 : Memref sig .tc .vmem S512x2 .i32) (harg5 : arg5.IsWhole) (arg6 : Memref sig .tc .vmem S1x8 .i32) (harg6 : arg6.IsWhole) (arg7 : Memref sig .tc .vmem S1x1 .f32) (harg7 : arg7.IsWhole) (arg8 : Memref sig .tc .vmem S1x8 .f32) (harg8 : arg8.IsWhole) (arg9 : Memref sig .tc .vmem S1x8 .f32) (harg9 : arg9.IsWhole)
    (hc0 : ¬first i) (hc1 : ¬last i) (x : Vec F S512x1024 .f32) (wg : Vec F S8x1024 .f32) (n s : Vec F S1x8 .f32) (d5 : Vec F S1x8 .i32) (d6 : Vec F S1x1 .f32) (E : Set ℕ) (K : PUnit → sProp 𝕄) :
    iprop(owns (c : Thread nD τ) arg1 fullShare x ∗ owns (c : Thread nD τ) arg2 fullShare wg ∗ (∃ d : Vec F S512x2 .i32, owns (c : Thread nD τ) arg3 fullShare d) ∗ (∃ d : Vec F S512x2 .f32, owns (c : Thread nD τ) arg4 fullShare d) ∗ (∃ d : Vec F S512x2 .i32, owns (c : Thread nD τ) arg5 fullShare d) ∗ owns (c : Thread nD τ) arg6 fullShare d5 ∗ owns (c : Thread nD τ) arg7 fullShare d6 ∗ owns (c : Thread nD τ) arg8 fullShare n ∗ owns (c : Thread nD τ) arg9 fullShare s
      ∗ (iprop(owns (c : Thread nD τ) arg1 fullShare x ∗ owns (c : Thread nD τ) arg2 fullShare wg ∗ owns (c : Thread nD τ) arg3 fullShare (eidsOf x wg) ∗ owns (c : Thread nD τ) arg4 fullShare (wsOf x wg) ∗ owns (c : Thread nD τ) arg5 fullShare (ranksOf x wg n) ∗ owns (c : Thread nD τ) arg6 fullShare d5 ∗ owns (c : Thread nD τ) arg7 fullShare d6 ∗ owns (c : Thread nD τ) arg8 fullShare (stepCnt x wg n) ∗ owns (c : Thread nD τ) arg9 fullShare (stepCol x wg s)) -∗ K ⟨⟩))
      ⊢ wp frame (wpE (defs₀ (F := F)) Variants.none c none) E (cc0__routing_body i arg1 harg1 arg2 harg2 arg3 harg3 arg4 harg4 arg5 harg5 arg6 harg6 arg7 harg7 arg8 harg8 arg9 harg9) K := by
  simp only [cc0__routing_body_eq_skeleton]; unfold cc0__routing_body_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg6.eq_unread hf5; obtain rfl := harg7.eq_unread hf6; obtain rfl := harg8.eq_unread hf7; obtain rfl := harg9.eq_unread hf8
  have rd1 : View.readAt (Elt F) arg1.view (Rect.unit (s := S512x1024) ![0, 0] S512x1024.size inb_S512x1024_S512x1024_0_0).toLoadRect (harg1.unread x) = x :=
    (View.readAt_full _ _ _).trans (harg1.read_unread _)
  have rd2 : View.readAt (Elt F) arg2.view (Rect.unit (s := S8x1024) ![0, 0] S8x1024.size inb_S8x1024_S8x1024_0_0).toLoadRect (harg2.unread wg) = wg :=
    (View.readAt_full _ _ _).trans (harg2.read_unread _)
  have rd8 : View.readAt (Elt F) arg8.view (Rect.unit (s := S1x8) ![0, 0] S1x8.size inb_S1x8_S1x8_0_0).toLoadRect (harg8.unread n) = n :=
    (View.readAt_full _ _ _).trans (harg8.read_unread _)
  have rd9 : View.readAt (Elt F) arg9.view (Rect.unit (s := S1x8) ![0, 0] S1x8.size inb_S1x8_S1x8_0_0).toLoadRect (harg9.unread s) = s :=
    (View.readAt_full _ _ _).trans (harg9.read_unread _)
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; refine (View.read_writes_full _ _ _ _ _).trans ?_; delta eidsOf wsOf ranksOf stepCnt stepCol; (try delta route_mid.sl.r_11); (try delta route_mid.sl.r_10); (try delta route_mid.sl.r_9); (try delta route_mid.sl.r_8); (try delta route_mid.sl.r_7); (try delta route_mid.sl.r_6); (try delta route_mid.sl.r_5); (try delta route_mid.sl.r_4); (try delta route_mid.sl.r_3); (try delta route_mid.sl.r_2); (try delta route_mid.sl.r_1); (try delta route_mid.sl.r); (try delta route_mid.sl.v73); simp only [View.readAt_writes_full, View.readCov_full, View.readAt_full, Memref.IsWhole.read_unread]
  isplitl [H3]
  · iexists _; isplitr; swap; · iexact H3
    ipureintro; refine (View.read_writes_full _ _ _ _ _).trans ?_; delta eidsOf wsOf ranksOf stepCnt stepCol; (try delta route_mid.sl.r_11); (try delta route_mid.sl.r_10); (try delta route_mid.sl.r_9); (try delta route_mid.sl.r_8); (try delta route_mid.sl.r_7); (try delta route_mid.sl.r_6); (try delta route_mid.sl.r_5); (try delta route_mid.sl.r_4); (try delta route_mid.sl.r_3); (try delta route_mid.sl.r_2); (try delta route_mid.sl.r_1); (try delta route_mid.sl.r); (try delta route_mid.sl.v73); simp only [View.readAt_writes_full, View.readCov_full, View.readAt_full, Memref.IsWhole.read_unread]
  isplitl [H4]
  · iexists _; isplitr; swap; · iexact H4
    ipureintro; refine (View.read_writes_full _ _ _ _ _).trans ?_; delta eidsOf wsOf ranksOf stepCnt stepCol; (try delta route_mid.sl.r_11); (try delta route_mid.sl.r_10); (try delta route_mid.sl.r_9); (try delta route_mid.sl.r_8); (try delta route_mid.sl.r_7); (try delta route_mid.sl.r_6); (try delta route_mid.sl.r_5); (try delta route_mid.sl.r_4); (try delta route_mid.sl.r_3); (try delta route_mid.sl.r_2); (try delta route_mid.sl.r_1); (try delta route_mid.sl.r); (try delta route_mid.sl.v73); simp only [View.readAt_writes_full, View.readCov_full, View.readAt_full, Memref.IsWhole.read_unread]
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; refine (View.read_writes_full _ _ _ _ _).trans ?_; delta eidsOf wsOf ranksOf stepCnt stepCol; (try delta route_mid.sl.r_11); (try delta route_mid.sl.r_10); (try delta route_mid.sl.r_9); (try delta route_mid.sl.r_8); (try delta route_mid.sl.r_7); (try delta route_mid.sl.r_6); (try delta route_mid.sl.r_5); (try delta route_mid.sl.r_4); (try delta route_mid.sl.r_3); (try delta route_mid.sl.r_2); (try delta route_mid.sl.r_1); (try delta route_mid.sl.r); (try delta route_mid.sl.v73); simp only [View.readAt_writes_full, View.readCov_full, View.readAt_full, Memref.IsWhole.read_unread]
  iexists _; isplitr; swap; · iexact H8
  ipureintro; refine (View.read_writes_full _ _ _ _ _).trans ?_; delta eidsOf wsOf ranksOf stepCnt stepCol; (try delta route_mid.sl.r_11); (try delta route_mid.sl.r_10); (try delta route_mid.sl.r_9); (try delta route_mid.sl.r_8); (try delta route_mid.sl.r_7); (try delta route_mid.sl.r_6); (try delta route_mid.sl.r_5); (try delta route_mid.sl.r_4); (try delta route_mid.sl.r_3); (try delta route_mid.sl.r_2); (try delta route_mid.sl.r_1); (try delta route_mid.sl.r); (try delta route_mid.sl.v73); simp only [View.readAt_writes_full, View.readCov_full, View.readAt_full, Memref.IsWhole.read_unread]

set_option maxHeartbeats 4000000 in
/-- THE LAST POINT: as a middle one, and then the counts and the loss read off the scratch rows. -/
theorem route_last (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S512x2 .i32) (harg3 : arg3.IsWhole) (arg4 : Memref sig .tc .vmem S512x2 .f32) (harg4 : arg4.IsWhole) (arg5 : Memref sig .tc .vmem S512x2 .i32) (harg5 : arg5.IsWhole) (arg6 : Memref sig .tc .vmem S1x8 .i32) (harg6 : arg6.IsWhole) (arg7 : Memref sig .tc .vmem S1x1 .f32) (harg7 : arg7.IsWhole) (arg8 : Memref sig .tc .vmem S1x8 .f32) (harg8 : arg8.IsWhole) (arg9 : Memref sig .tc .vmem S1x8 .f32) (harg9 : arg9.IsWhole)
    (hc0 : ¬first i) (hc1 : last i) (x : Vec F S512x1024 .f32) (wg : Vec F S8x1024 .f32) (n s : Vec F S1x8 .f32) (E : Set ℕ) (K : PUnit → sProp 𝕄) :
    iprop(owns (c : Thread nD τ) arg1 fullShare x ∗ owns (c : Thread nD τ) arg2 fullShare wg ∗ (∃ d : Vec F S512x2 .i32, owns (c : Thread nD τ) arg3 fullShare d) ∗ (∃ d : Vec F S512x2 .f32, owns (c : Thread nD τ) arg4 fullShare d) ∗ (∃ d : Vec F S512x2 .i32, owns (c : Thread nD τ) arg5 fullShare d) ∗ (∃ d : Vec F S1x8 .i32, owns (c : Thread nD τ) arg6 fullShare d) ∗ (∃ d : Vec F S1x1 .f32, owns (c : Thread nD τ) arg7 fullShare d) ∗ owns (c : Thread nD τ) arg8 fullShare n ∗ owns (c : Thread nD τ) arg9 fullShare s
      ∗ (iprop(owns (c : Thread nD τ) arg1 fullShare x ∗ owns (c : Thread nD τ) arg2 fullShare wg ∗ owns (c : Thread nD τ) arg3 fullShare (eidsOf x wg) ∗ owns (c : Thread nD τ) arg4 fullShare (wsOf x wg) ∗ owns (c : Thread nD τ) arg5 fullShare (ranksOf x wg n) ∗ owns (c : Thread nD τ) arg6 fullShare (k0_pay4 (stepCnt x wg n)) ∗ owns (c : Thread nD τ) arg7 fullShare (k0_pay5 (stepCol x wg s)) ∗ owns (c : Thread nD τ) arg8 fullShare (stepCnt x wg n) ∗ owns (c : Thread nD τ) arg9 fullShare (stepCol x wg s)) -∗ K ⟨⟩))
      ⊢ wp frame (wpE (defs₀ (F := F)) Variants.none c none) E (cc0__routing_body i arg1 harg1 arg2 harg2 arg3 harg3 arg4 harg4 arg5 harg5 arg6 harg6 arg7 harg7 arg8 harg8 arg9 harg9) K := by
  simp only [cc0__routing_body_eq_skeleton]; unfold cc0__routing_body_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg8.eq_unread hf7; obtain rfl := harg9.eq_unread hf8
  have rd1 : View.readAt (Elt F) arg1.view (Rect.unit (s := S512x1024) ![0, 0] S512x1024.size inb_S512x1024_S512x1024_0_0).toLoadRect (harg1.unread x) = x :=
    (View.readAt_full _ _ _).trans (harg1.read_unread _)
  have rd2 : View.readAt (Elt F) arg2.view (Rect.unit (s := S8x1024) ![0, 0] S8x1024.size inb_S8x1024_S8x1024_0_0).toLoadRect (harg2.unread wg) = wg :=
    (View.readAt_full _ _ _).trans (harg2.read_unread _)
  have rd8 : View.readAt (Elt F) arg8.view (Rect.unit (s := S1x8) ![0, 0] S1x8.size inb_S1x8_S1x8_0_0).toLoadRect (harg8.unread n) = n :=
    (View.readAt_full _ _ _).trans (harg8.read_unread _)
  have rd9 : View.readAt (Elt F) arg9.view (Rect.unit (s := S1x8) ![0, 0] S1x8.size inb_S1x8_S1x8_0_0).toLoadRect (harg9.unread s) = s :=
    (View.readAt_full _ _ _).trans (harg9.read_unread _)
  have rc8 : ∀ w : Vec F S1x8 .f32, arg8.view.readCov (Val := Elt F) ([⟨Rect.unit (s := S1x8) ![0, 0] S1x8.size inb_S1x8_S1x8_0_0, w⟩] : List (View.Piece (Elt F) S1x8 .f32)) (Rect.unit (s := S1x8) ![0, 0] S1x8.size inb_S1x8_S1x8_0_0).toLoadRect = w :=
    fun w => View.readCov_full _ _ _ _ _
  have rc9 : ∀ w : Vec F S1x8 .f32, arg9.view.readCov (Val := Elt F) ([⟨Rect.unit (s := S1x8) ![0, 0] S1x8.size inb_S1x8_S1x8_0_0, w⟩] : List (View.Piece (Elt F) S1x8 .f32)) (Rect.unit (s := S1x8) ![0, 0] S1x8.size inb_S1x8_S1x8_0_0).toLoadRect = w :=
    fun w => View.readCov_full _ _ _ _ _
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  isplitl [H3]
  · iexists _; isplitr; swap; · iexact H3
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  isplitl [H4]
  · iexists _; isplitr; swap; · iexact H4
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  isplitl [H5]
  · iexists _; isplitr; swap; · iexact H5
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  isplitl [H6]
  · iexists _; isplitr; swap; · iexact H6
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  isplitl [H7]
  · iexists _; isplitr; swap; · iexact H7
    ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]
  iexists _; isplitr; swap; · iexact H8
  ipureintro; refine (View.read_writes_full _ _ _ _ _).trans ?_; delta eidsOf wsOf ranksOf stepCnt stepCol; (try delta route_last.sl.r_11); (try delta route_last.sl.r_10); (try delta route_last.sl.r_9); (try delta route_last.sl.r_8); (try delta route_last.sl.r_7); (try delta route_last.sl.r_6); (try delta route_last.sl.r_5); (try delta route_last.sl.r_4); (try delta route_last.sl.r_3); (try delta route_last.sl.r_2); (try delta route_last.sl.r_1); (try delta route_last.sl.r); (try delta route_last.sl.v94); (try delta route_last.sl.v97); (try delta route_last.sl.v73); (try delta route_last.sl.H7_1); (try delta route_last.sl.H8_1); simp only [View.readAt_writes_full, View.readCov_full, View.readAt_full, Memref.IsWhole.read_unread]

end Cert.KernelIdeal.Route

end
-- ==== Proof.Ideal.RouteRegion.lean ====
/- The routing call as a region of the program: what its proof data are (the two scratch rows carried from point to
   point, the blocks each point leaves), and that the body meets them at every point. -/
module

public import proofs.«01_k».proof.Proof.Ideal.RouteBody
public import Idealize.ShloMosaic.Lib.Pipeline.RegionArraysS

@[expose] public section

set_option maxRecDepth 16384

noncomputable section

namespace Cert.KernelIdeal.Route

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows the points carry. -/
abbrev sc0 : Memref sig .tc .vmem S1x8 .f32 := Memref.whole cc0_scratch0
abbrev sc1 : Memref sig .tc .vmem S1x8 .f32 := Memref.whole cc0_scratch1

/-- A scoped buffer held at some contents. -/
abbrev anyBuf (c : Dev nD) (r : Ref sig .tc) : sProp 𝕄 :=
  iprop(∃ f : Buf (Elt F) ((c : Thread nD τ).loc r), ((c : Thread nD τ).loc r) ↦{fullShare} f)

/-- The other call's staging buffers, untouched by this one. -/
def others (c : Dev nD) : sProp 𝕄 :=
  iprop(anyBuf c cc1_stg0_0 ∗ anyBuf c cc1_stg0_1 ∗ anyBuf c cc1_stg1_0 ∗ anyBuf c cc1_stg1_1 ∗ anyBuf c cc1_stg2_0 ∗ anyBuf c cc1_stg2_1 ∗ anyBuf c cc1_stg3_0 ∗ anyBuf c cc1_stg3_1 ∗ anyBuf c cc1_stg4_0 ∗ anyBuf c cc1_stg4_1)

/-- The scoped buffers no window stages: the two scratch rows and the other call's buffers. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ others c) := by
  rw [scopedRest0_eq]; simp only [sc0, sc1, owns_whole]; rfl

variable (W : Dev nD → Valuation τ sig (Elt F))

/-- Window `w`'s block at point `t` of the array the region finds. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The tokens' block and the gate's weights at point `t`. -/
abbrev xb (c : Dev nD) (t : Fin cfg0.N) : Vec F S512x1024 .f32 := iblk W c 0 t
abbrev wb (c : Dev nD) (t : Fin cfg0.N) : Vec F S8x1024 .f32 := iblk W c 1 t

/-- What the two scratch rows hold before point `n`: cleared, then each point's block taken in. -/
def cntAt (c : Dev nD) : ℕ → Vec F S1x8 .f32
  | 0 => k0_pay6 (F := F)
  | n + 1 => if h : n < cfg0.N then stepCnt (xb W c ⟨n, h⟩) (wb W c ⟨n, h⟩) (cntAt c n) else cntAt c n
def colAt (c : Dev nD) : ℕ → Vec F S1x8 .f32
  | 0 => k0_pay7 (F := F)
  | n + 1 => if h : n < cfg0.N then stepCol (xb W c ⟨n, h⟩) (wb W c ⟨n, h⟩) (colAt c n) else colAt c n

theorem cntAt_succ (c : Dev nD) (t : Fin cfg0.N) : cntAt W c (t.val + 1) = stepCnt (xb W c t) (wb W c t) (cntAt W c t.val) :=
  dif_pos t.isLt
theorem colAt_succ (c : Dev nD) (t : Fin cfg0.N) : colAt W c (t.val + 1) = stepCol (xb W c t) (wb W c t) (colAt W c t.val) :=
  dif_pos t.isLt

/-- Between points: before the first the scratch rows hold anything, afterwards what the points left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) sc0 fullShare (cntAt W c (n + 1)) ∗ owns (c : Thread nD τ) sc1 fullShare (colAt W c (n + 1)) ∗ others c)

theorem PhiS_zero (c : Dev nD) (n : ℕ) (h : n ≤ cfg0.N) (hz : n = 0) :
    PhiS W c n h = iprop((∃ d, owns (c : Thread nD τ) sc0 fullShare d) ∗ (∃ d, owns (c : Thread nD τ) sc1 fullShare d) ∗ others c) := by
  subst hz; exact scopedRest_eq c
theorem PhiS_pos (c : Dev nD) (n : ℕ) (h : n ≤ cfg0.N) (hz : n ≠ 0) :
    PhiS W c n h = iprop(owns (c : Thread nD τ) sc0 fullShare (cntAt W c n) ∗ owns (c : Thread nD τ) sc1 fullShare (colAt W c n) ∗ others c) := by
  cases n with
  | zero => exact absurd rfl hz
  | succ n => rfl

/-- The proof data: the arrays as found; after point `t` the inputs' blocks in place, the outputs' blocks as the body
    computes them, the two whole-array outputs (written at the last point) at the closing rows; nothing owed. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => eidsOf (xb W c t) (wb W c t)
    | ⟨3, _⟩ => wsOf (xb W c t) (wb W c t)
    | ⟨4, _⟩ => ranksOf (xb W c t) (wb W c t) (cntAt W c t.val)
    | ⟨5, _⟩ => k0_pay4 (cntAt W c 8)
    | ⟨6, _⟩ => k0_pay5 (colAt W c 8)
  Φ t := PhiS W c t.val (Nat.le_of_lt_succ t.isLt)
  q _ := fullShare
  owed _ := 0

theorem A_eq (c : Dev nD) (w : Fin cfg0.W) : (dat W c).A w = W c (Proc.devRef .tc (Pipeline.arrRef spec0 w)) := by
  dsimp only [dat]
theorem Phi_castSucc (c : Dev nD) (t : Fin cfg0.N) : (dat W c).Φ t.castSucc = PhiS W c t.val (Nat.le_of_lt t.isLt) := by
  dsimp only [dat]; exact Pipeline.Dat.Φ_castSucc (PhiS W c) t

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = eidsOf (xb W c t) (wb W c t) := by dsimp only [dat]
theorem after_3 (c : Dev nD) (t : Fin cfg0.N) : (dat W c).after 3 t = wsOf (xb W c t) (wb W c t) := by dsimp only [dat]
theorem after_4 (c : Dev nD) (t : Fin cfg0.N) : (dat W c).after 4 t = ranksOf (xb W c t) (wb W c t) (cntAt W c t.val) := by dsimp only [dat]
theorem after_5 (c : Dev nD) (t : Fin cfg0.N) : (dat W c).after 5 t = k0_pay4 (cntAt W c 8) := by dsimp only [dat]
theorem after_6 (c : Dev nD) (t : Fin cfg0.N) : (dat W c).after 6 t = k0_pay5 (colAt W c 8) := by dsimp only [dat]

/-- Each input's current buffer holds its block at every point, fetched there or not. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The two whole-array outputs are left alone before the last point, -/
theorem idle_of (t : Fin cfg0.N) (h : ¬last (grid0.coords t)) : cfg0.idle 5 (grid0.coords t) = true ∧ cfg0.idle 6 (grid0.coords t) = true := by
  have e : idle0 5 (grid0.coords t) = true := by
    show (!(k0_cond2 (grid0.coords t) == 1#1)) = true
    rw [Bool.not_eq_true', beq_eq_false_iff_ne]; exact h
  exact ⟨e, e⟩
/-- and written there. -/
theorem live_of (t : Fin cfg0.N) (h : last (grid0.coords t)) : cfg0.idle 5 (grid0.coords t) = false ∧ cfg0.idle 6 (grid0.coords t) = false := by
  have e : idle0 5 (grid0.coords t) = false := by
    show (!(k0_cond2 (grid0.coords t) == 1#1)) = false
    rw [Bool.not_eq_false', beq_iff_eq]; exact h
  exact ⟨e, e⟩

/-- What a window that is written at a point is left with, -/
theorem leaves_live (c : Dev nD) (t : Fin cfg0.N) (w : Fin cfg0.W) (h : cfg0.idle w (grid0.coords t) = false) :
    (dat W c).leavesExact w t = owns (c : Thread nD τ) ((cfg0.win w).stage (cfg0.slots t w)) fullShare ((dat W c).after w t) := by
  unfold Dat.leavesExact; rw [show cfg0.idle w (cfg0.grid.coords t) = false from h]
/-- and one that is not. -/
theorem leaves_idle (c : Dev nD) (t : Fin cfg0.N) (w : Fin cfg0.W) (h : cfg0.idle w (grid0.coords t) = true) (hf : (cfg0.win w).flush t = false) :
    (dat W c).leavesExact w t = iprop(∃ d, owns (c : Thread nD τ) ((cfg0.win w).stage (cfg0.slots t w)) fullShare ((dat W c).before w t d)) := by
  unfold Dat.leavesExact; rw [show cfg0.idle w (cfg0.grid.coords t) = true from h, hf]

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d)))
/-- and what it returns. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t
    ∗ (dat W c).leavesExact 4 t ∗ (dat W c).leavesExact 5 t ∗ (dat W c).leavesExact 6 t)

set_option maxHeartbeats 4000000 in
/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).owesAt () t.succ = (dat W c).owesAt () t.castSucc from rfl,
    show (dat W c).Φ t.succ = PhiS W c (t.val + 1) t.isLt from rfl, PhiS_pos W c (t.val + 1) _ (Nat.succ_ne_zero _), cntAt_succ, colAt_succ,
    Phi_castSucc, leaves_live W c t 0 rfl, leaves_live W c t 1 rfl, leaves_live W c t 2 rfl, leaves_live W c t 3 rfl, leaves_live W c t 4 rfl,
    after_0, after_1, after_2, after_3, after_4]
  have hN : t.val < 8 := lt_of_lt_of_eq t.isLt (show cfg0.N = 8 from N_0)
  by_cases h1 : last (grid0.coords t)
  · have h0 : ¬first (grid0.coords t) := by rw [first_iff]; rw [last_iff] at h1; omega
    have hz : t.val ≠ 0 := by rw [last_iff] at h1; omega
    have e7 : t.val = 7 := (last_iff t).mp h1
    have e5 : cntAt W c 8 = stepCnt (xb W c t) (wb W c t) (cntAt W c t.val) := by rw [← cntAt_succ, e7]
    have e6 : colAt W c 8 = stepCol (xb W c t) (wb W c t) (colAt W c t.val) := by rw [← colAt_succ, e7]
    rw [leaves_live W c t 5 (live_of t h1).1, leaves_live W c t 6 (live_of t h1).2, after_5, after_6, e5, e6, PhiS_pos W c _ _ hz]
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
    iapply (route_last c (grid0.coords t) _ _ _ _ _ _ _ _ _ _ _ _ _ _ _ _ _ _ h0 h1 (xb W c t) (wb W c t) (cntAt W c t.val) (colAt W c t.val) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h7 : ¬ t.val % 8 = 7 := by rw [last_iff] at h1; omega
    have f5 : (cfg0.win 5).flush t = false := Bool.eq_false_iff.mpr fun h => h7 ((flush0_5 t).mp h)
    have f6 : (cfg0.win 6).flush t = false := Bool.eq_false_iff.mpr fun h => h7 ((flush0_6 t).mp h)
    rw [leaves_idle W c t 5 (idle_of t h1).1 f5, leaves_idle W c t 6 (idle_of t h1).2 f6]
    by_cases h0 : first (grid0.coords t)
    · have hz : t.val = 0 := (first_iff t).mp h0
      rw [PhiS_zero W c _ _ hz, hz, show cntAt W c 0 = k0_pay6 (F := F) from rfl, show colAt W c 0 = k0_pay7 (F := F) from rfl]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
      iapply (route_first c (grid0.coords t) _ _ _ _ _ _ _ _ _ _ _ _ _ _ _ _ _ _ h0 h1 (xb W c t) (wb W c t) _ _ Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · have hz : t.val ≠ 0 := fun h => h0 ((first_iff t).mpr h)
      rw [PhiS_pos W c _ _ hz]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
      iapply (route_mid c (grid0.coords t) _ _ _ _ _ _ _ _ _ _ _ _ _ _ _ _ _ _ h0 h1 (xb W c t) (wb W c t) (cntAt W c t.val) (colAt W c t.val) _ _ Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row at point `t` is the body as the run spells it. -/
theorem defs₀_row (t : Fin cfg0.N) : defs₀ (F := F) .tc cfg0.body (cfg0.bodyArgs t (cfg0.slots t)) = bodyAt0 t := by
  unfold defs₀; rw [Defs.onTc_tc]

/-- The obligation at every point. -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

/-- The scoped buffers make the state before the first point, -/
theorem hin (c : Dev nD) : iprop(Pipeline.scopedRest (Ix := Unit) (Name := ℕ) (U := UR sig nD τ) (Lvl := ℕ) (Val := Elt F) spec0 c ∗ BI.emp) ⊢ (dat W c).Φ 0 := by
  rw [show (dat W c).Φ 0 = PhiS W c 0 (Nat.zero_le _) from rfl, PhiS_zero W c _ _ rfl, scopedRest_eq]
  iintro ⟨H, -⟩; iexact H
/-- and the state after the last gives them back. -/
theorem hout (c : Dev nD) : (dat W c).Φ (Fin.last cfg0.N) ⊢ iprop(Pipeline.scopedRest (Ix := Unit) (Name := ℕ) (U := UR sig nD τ) (Lvl := ℕ) (Val := Elt F) spec0 c ∗ BI.emp) := by
  have ht : (Fin.last cfg0.N).val ≠ 0 := by rw [Fin.val_last]; have : cfg0.N = 8 := N_0; omega
  rw [show (dat W c).Φ (Fin.last cfg0.N) = PhiS W c (Fin.last cfg0.N).val (Nat.le_of_lt_succ (Fin.last cfg0.N).isLt) from rfl, PhiS_pos W c _ _ ht, scopedRest_eq]
  iintro ⟨HS0, HS1, HR⟩
  isplitl
  · isplitl [HS0]; · iexists _; iexact HS0
    isplitl [HS1]; · iexists _; iexact HS1
    iexact HR
  iempintro

end Cert.KernelIdeal.Route

end
-- ==== Proof.Ideal.GmmBody.lean ====
/- The expert-tile body of the second pallas_call, one grid point, at any float values: what it leaves in the output tile
   as a function of the tile's activity word, the four input blocks and what the tile held before. -/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.KernelIdeal.Gmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile's activity word, of the second table. -/
def actAt (T : Vec F S40 .i32) (i : grid1.Coords) : Elt F .i32 :=
  T ((Rect.unit (s := S40) (k1_off1 i) S1.size (k1_off1_inb i)).emb (Shape.Idx.first (numel1_S1.symm ▸ Nat.one_pos)))

/-- The tile before the point's product is added: cleared at the first hidden block. -/
def opened (i : grid1.Coords) (acc : Vec F S256x1024 .f32) : Vec F S256x1024 .f32 := if k1_cond1 i = 1#1 then k1_pay1 (F := F) else acc
/-- The point's product added, in an active tile. -/
def added (v : Elt F .i32) (x : Vec F S256x1024 .f32) (w1 w2 : Vec F S1x1024x1024 .f32) (acc : Vec F S256x1024 .f32) : Vec F S256x1024 .f32 :=
  if k1_cond2 v = 1#1 then k1_pay2 x w1 acc w2 else acc
/-- The rows weighted, at the last hidden block. -/
def closed (i : grid1.Coords) (g : Vec F S256x1 .f32) (acc : Vec F S256x1024 .f32) : Vec F S256x1024 .f32 :=
  if k1_cond3 i = 1#1 then k1_pay3 acc g else acc
/-- What the body leaves in the output tile. -/
def step (i : grid1.Coords) (v : Elt F .i32) (x : Vec F S256x1024 .f32) (w1 w2 : Vec F S1x1024x1024 .f32) (g : Vec F S256x1 .f32) (acc : Vec F S256x1024 .f32) :
    Vec F S256x1024 .f32 := closed i g (added v x w1 w2 (opened i acc))

set_option maxHeartbeats 4000000 in
/-- The first hidden block of an inactive tile. -/
theorem gmm_first_off (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : k1_cond1 i = 1#1) (hc2 : ¬k1_cond2 (actAt T i) = 1#1) (hc3 : ¬k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : ¬k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k1_pay1 (F := F)) := by
    unfold step closed added opened; rw [if_pos hc1, if_neg hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_first_off.sl.r); (try delta gmm_first_off.sl.r_1); (try delta gmm_first_off.sl.r_2); (try delta gmm_first_off.sl.v11); (try delta gmm_first_off.sl.v13); (try delta gmm_first_off.sl.v17); (try delta gmm_first_off.sl.v18); (try delta gmm_first_off.sl.v20); (try delta gmm_first_off.sl.v24); (try delta gmm_first_off.sl.H8_1); (try delta gmm_first_off.sl.H8_2); (try delta gmm_first_off.sl.H8_3)
  (try rw [rc8]); (try rw [rc8]); (try rw [rd4]); (try rw [rd5]); (try rw [rd6]); (try rw [rd7]); (try rw [rd8]); try rfl

set_option maxHeartbeats 4000000 in
/-- The first hidden block of an active tile. -/
theorem gmm_first_act (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : k1_cond1 i = 1#1) (hc2 : k1_cond2 (actAt T i) = 1#1) (hc3 : ¬k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k1_pay2 x w1 (k1_pay1 (F := F)) w2) := by
    unfold step closed added opened; rw [if_pos hc1, if_pos hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_first_act.sl.r); (try delta gmm_first_act.sl.r_1); (try delta gmm_first_act.sl.r_2); (try delta gmm_first_act.sl.v11); (try delta gmm_first_act.sl.v13); (try delta gmm_first_act.sl.v17); (try delta gmm_first_act.sl.v18); (try delta gmm_first_act.sl.v20); (try delta gmm_first_act.sl.v24); (try delta gmm_first_act.sl.H8_1); (try delta gmm_first_act.sl.H8_2); (try delta gmm_first_act.sl.H8_3)
  (try rw [rc8]); (try rw [rc8]); (try rw [rd4]); (try rw [rd5]); (try rw [rd6]); (try rw [rd7]); (try rw [rd8]); try rfl

set_option maxHeartbeats 4000000 in
/-- A middle hidden block of an inactive tile. -/
theorem gmm_mid_off (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k1_cond1 i = 1#1) (hc2 : ¬k1_cond2 (actAt T i) = 1#1) (hc3 : ¬k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : ¬k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = acc := by
    unfold step closed added opened; rw [if_neg hc1, if_neg hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; exact harg8.read_unread _

set_option maxHeartbeats 4000000 in
/-- A middle hidden block of an active tile. -/
theorem gmm_mid_act (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k1_cond1 i = 1#1) (hc2 : k1_cond2 (actAt T i) = 1#1) (hc3 : ¬k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k1_pay2 x w1 acc w2) := by
    unfold step closed added opened; rw [if_neg hc1, if_pos hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_mid_act.sl.r); (try delta gmm_mid_act.sl.r_1); (try delta gmm_mid_act.sl.r_2); (try delta gmm_mid_act.sl.v11); (try delta gmm_mid_act.sl.v13); (try delta gmm_mid_act.sl.v17); (try delta gmm_mid_act.sl.v18); (try delta gmm_mid_act.sl.v20); (try delta gmm_mid_act.sl.v24); (try delta gmm_mid_act.sl.H8_1); (try delta gmm_mid_act.sl.H8_2); (try delta gmm_mid_act.sl.H8_3)
  (try rw [rc8]); (try rw [rc8]); (try rw [rd4]); (try rw [rd5]); (try rw [rd6]); (try rw [rd7]); (try rw [rd8]); try rfl

set_option maxHeartbeats 4000000 in
/-- The last hidden block of an inactive tile. -/
theorem gmm_last_off (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k1_cond1 i = 1#1) (hc2 : ¬k1_cond2 (actAt T i) = 1#1) (hc3 : k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : ¬k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k1_pay3 acc g) := by
    unfold step closed added opened; rw [if_neg hc1, if_neg hc2, if_pos hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_last_off.sl.r); (try delta gmm_last_off.sl.r_1); (try delta gmm_last_off.sl.r_2); (try delta gmm_last_off.sl.v11); (try delta gmm_last_off.sl.v13); (try delta gmm_last_off.sl.v17); (try delta gmm_last_off.sl.v18); (try delta gmm_last_off.sl.v20); (try delta gmm_last_off.sl.v24); (try delta gmm_last_off.sl.H8_1); (try delta gmm_last_off.sl.H8_2); (try delta gmm_last_off.sl.H8_3)
  (try rw [rc8]); (try rw [rc8]); (try rw [rd4]); (try rw [rd5]); (try rw [rd6]); (try rw [rd7]); (try rw [rd8]); try rfl

set_option maxHeartbeats 4000000 in
/-- The last hidden block of an active tile. -/
theorem gmm_last_act (c : Dev nD) (i : grid1.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k1_cond1 i = 1#1) (hc2 : k1_cond2 (actAt T i) = 1#1) (hc3 : k1_cond3 i = 1#1) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc1__gmm_body i arg2 harg2 arg3 harg3 arg4 harg4 arg5 harg5 arg6 harg6 arg7 harg7 arg8 harg8) K := by
  rw [cc1__gmm_body_eq_skeleton]; unfold cc1__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k1_off1 i) S1.size (k1_off1_inb i)).toLoadRect (harg3.unread T) (Shape.Idx.first (numel1_S1.symm ▸ Nat.one_pos)) = actAt T i := by
    unfold actAt; exact congrFun (harg3.read_unread T) _
  have hc2' : k1_cond2 (View.readAt (Elt F) arg3.view (Rect.unit (s := S40) (k1_off1 i) S1.size (k1_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k1_pay3 (k1_pay2 x w1 acc w2) g) := by
    unfold step closed added opened; rw [if_neg hc1, if_pos hc2, if_pos hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_last_act.sl.r); (try delta gmm_last_act.sl.r_1); (try delta gmm_last_act.sl.r_2); (try delta gmm_last_act.sl.v11); (try delta gmm_last_act.sl.v13); (try delta gmm_last_act.sl.v17); (try delta gmm_last_act.sl.v18); (try delta gmm_last_act.sl.v20); (try delta gmm_last_act.sl.v24); (try delta gmm_last_act.sl.H8_1); (try delta gmm_last_act.sl.H8_2); (try delta gmm_last_act.sl.H8_3)
  (try rw [rc8]); (try rw [rc8]); (try rw [rd4]); (try rw [rd5]); (try rw [rd6]); (try rw [rd7]); (try rw [rd8]); try rfl

end Cert.KernelIdeal.Gmm

end
-- ==== Proof.Ideal.GmmRegion.lean ====
/- The expert-tile call as a region of the program, at any contents of its two tables: what its proof data are (the tile
   accumulated over the hidden blocks), and that the body meets them at every point. -/
module

public import proofs.«01_k».proof.Proof.Ideal.GmmBody
public import Idealize.ShloMosaic.Lib.Pipeline.RegionArraysTS

@[expose] public section

set_option maxRecDepth 16384

noncomputable section

namespace Cert.KernelIdeal.Gmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is cleared at the first of its four hidden blocks, -/
theorem cond1_iff (t : Fin grid1.N) : k1_cond1 (grid1.coords t) = 1#1 ↔ t.val % 4 = 0 := by
  have e1 : (grid1.coords t 1).val = t.val / 1 % 4 := Pipeline.Grid.coords_val t 1 (by decide) rfl
  have h : k1_cond1 (grid1.coords t) = 1#1 ↔ t.val / 1 % 4 = 0 := by
    simp only [k1_cond1, e1]
    word_cmp
  rw [h]; omega
/-- and weighted at the last. -/
theorem cond3_iff (t : Fin grid1.N) : k1_cond3 (grid1.coords t) = 1#1 ↔ t.val % 4 = 3 := by
  have e1 : (grid1.coords t 1).val = t.val / 1 % 4 := Pipeline.Grid.coords_val t 1 (by decide) rfl
  have h : k1_cond3 (grid1.coords t) = 1#1 ↔ t.val / 1 % 4 = 3 := by
    simp only [k1_cond3, e1]
    word_cmp
  rw [h]; omega

variable (a : (pcfg1 (F := F)).Adm) (W : Dev nD → Valuation τ sig (Elt F))

/-- The activity word the configuration reads is the one the body loads. -/
theorem act_eq (i : grid1.Coords) : a.1.atD 1 (k1_off1 i) = actAt (a.1 1) i := by
  unfold Pipeline.Prefetch.Contents.atD
  rw [dif_pos (show ∀ b : Fin (pcfg1 (F := F).pre.ref 1).ty.shape.rank, k1_off1 i b + 1 ≤ (pcfg1 (F := F).pre.ref 1).ty.shape.size b from
    fun b => match b with | ⟨0, _⟩ => k1_off1_inb i 0)]
  unfold actAt
  refine congrArg (a.1 1) (funext fun b => Fin.ext ?_)
  show k1_off1 i b = k1_off1 i b + 1 * 0
  omega

/-- The output tile is written back after its last hidden block. -/
theorem flush4 (t : Fin (cfg1 a).N) : ((cfg1 a).win 4).flush t = true ↔ t.val % 4 = 3 :=
  Pipeline.Window.flush_reads ((cfg1 a).win 4) rfl (0 : Fin grid1.rank) (show 1 < grid1.bound 0 by decide) (show grid1.fixedAfter reads1_4 0 = true by decide)
    (Pipeline.Window.sep_of_coord cc1_transform_4 0 0 (fun _ => rfl) (by decide)) (P := 4) (m := 3) (show grid1.stride 0 = 4 by decide) rfl t

/-- Window `w`'s block at point `t` of the array the region finds. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

abbrev xb (c : Dev nD) (t : Fin (cfg1 a).N) : Vec F S256x1024 .f32 := iblk a W c 0 t
abbrev w1b (c : Dev nD) (t : Fin (cfg1 a).N) : Vec F S1x1024x1024 .f32 := iblk a W c 1 t
abbrev w2b (c : Dev nD) (t : Fin (cfg1 a).N) : Vec F S1x1024x1024 .f32 := iblk a W c 2 t
abbrev gb (c : Dev nD) (t : Fin (cfg1 a).N) : Vec F S256x1 .f32 := iblk a W c 3 t

/-- What point `t`'s body makes of the tile. -/
abbrev stepAt (c : Dev nD) (t : Fin (cfg1 a).N) (acc : Vec F S256x1024 .f32) : Vec F S256x1024 .f32 :=
  step (grid1.coords t) (actAt (a.1 1) (grid1.coords t)) (xb a W c t) (w1b a W c t) (w2b a W c t) (gb a W c t) acc

/-- What the current tile holds before point `n`. -/
def accAt (c : Dev nD) : ℕ → Vec F S256x1024 .f32
  | 0 => k1_pay1 (F := F)
  | n + 1 => if h : n < (cfg1 a).N then stepAt a W c ⟨n, h⟩ (accAt c n) else accAt c n

theorem accAt_succ (c : Dev nD) (t : Fin (cfg1 a).N) : accAt a W c (t.val + 1) = stepAt a W c t (accAt a W c t.val) :=
  dif_pos t.isLt

/-- At the first hidden block what the tile held does not matter. -/
theorem step_first (i : grid1.Coords) (h : k1_cond1 i = 1#1) (v : Elt F .i32) (x : Vec F S256x1024 .f32) (w1 w2 : Vec F S1x1024x1024 .f32) (g : Vec F S256x1 .f32)
    (acc acc' : Vec F S256x1024 .f32) : step i v x w1 w2 g acc = step i v x w1 w2 g acc' := by
  unfold step opened; rw [if_pos h, if_pos h]
/-- A point that neither clears, adds nor weights leaves the tile. -/
theorem step_idle (i : grid1.Coords) (v : Elt F .i32) (h1 : ¬k1_cond1 i = 1#1) (h2 : ¬k1_cond2 v = 1#1) (h3 : ¬k1_cond3 i = 1#1)
    (x : Vec F S256x1024 .f32) (w1 w2 : Vec F S1x1024x1024 .f32) (g : Vec F S256x1 .f32) (acc : Vec F S256x1024 .f32) : step i v x w1 w2 g acc = acc := by
  unfold step closed added opened; rw [if_neg h1, if_neg h2, if_neg h3]

/-- The two tables, one by one. -/
theorem tables_eq (c : Dev nD) :
    (Pipeline.prefHeld pre1 c (fun _ => fullShare) a.1 : sProp 𝕄)
      = iprop(owns (c : Thread nD τ) (Memref.whole main_v57) fullShare (a.1 0) ∗ owns (c : Thread nD τ) (Memref.whole main_v62) fullShare (a.1 1)) := by
  unfold Pipeline.prefHeld
  rw [show (Finset.univ : Finset (Fin 2)) = {0, 1} from rfl, bigSep_insert (by decide), bigSep_singleton]
  exact congrArg₂ BI.sep (owns_whole (c : Thread nD τ) main_v57 fullShare (a.1 0)).symm (owns_whole (c : Thread nD τ) main_v62 fullShare (a.1 1)).symm

/-- Between points: the scoped buffers no window stages and the tables. -/
def PhiS (c : Dev nD) : sProp 𝕄 :=
  iprop(iprop(Pipeline.scopedRest (Ix := Unit) (Name := ℕ) (U := UR sig nD τ) (Lvl := ℕ) (Val := Elt F) spec1 c ∗ BI.emp) ∗ Pipeline.prefHeld pre1 c (fun _ => fullShare) a.1)

/-- The proof data: the arrays as found; after point `t` the inputs' blocks in place and the tile as accumulated; nothing owed. -/
def dat (c : Dev nD) : Dat τ (Elt F) Unit ℕ (UR sig nD τ) ℕ (cfg1 a) c where
  A w := W c (Proc.devRef .tc (Pipeline.arrRef spec1 w))
  after w t := match w with
    | ⟨0, _⟩ => iblk a W c 0 t
    | ⟨1, _⟩ => iblk a W c 1 t
    | ⟨2, _⟩ => iblk a W c 2 t
    | ⟨3, _⟩ => iblk a W c 3 t
    | ⟨4, _⟩ => accAt a W c (t.val + 1)
  Φ _ := PhiS a c
  q _ := fullShare
  owed _ := 0

theorem A_eq (c : Dev nD) (w : Fin (cfg1 a).W) : (dat a W c).A w = W c (Proc.devRef .tc (Pipeline.arrRef spec1 w)) := by
  dsimp only [dat]
theorem after_0 (c : Dev nD) (t : Fin (cfg1 a).N) : (dat a W c).after 0 t = iblk a W c 0 t := rfl
theorem after_1 (c : Dev nD) (t : Fin (cfg1 a).N) : (dat a W c).after 1 t = iblk a W c 1 t := rfl
theorem after_2 (c : Dev nD) (t : Fin (cfg1 a).N) : (dat a W c).after 2 t = iblk a W c 2 t := rfl
theorem after_3 (c : Dev nD) (t : Fin (cfg1 a).N) : (dat a W c).after 3 t = iblk a W c 3 t := rfl
theorem after_4 (c : Dev nD) (t : Fin (cfg1 a).N) : (dat a W c).after 4 t = accAt a W c (t.val + 1) := rfl

/-- Each input's current buffer holds its block at every point, fetched there or not. -/
theorem before_0 (c : Dev nD) (t : Fin (cfg1 a).N) (d) : (dat a W c).before 0 t d = iblk a W c 0 t :=
  ((dat a W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat a W c).before 1 t d = iblk a W c 1 t :=
  ((dat a W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat a W c).before 2 t d = iblk a W c 2 t :=
  ((dat a W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat a W c).before 3 t d = iblk a W c 3 t :=
  ((dat a W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output tile is left alone exactly at an inactive tile's middle hidden blocks. -/
theorem idle_iff (t : Fin (cfg1 a).N) : (cfg1 a).idle 4 (grid1.coords t) = true ↔
    ¬k1_cond1 (grid1.coords t) = 1#1 ∧ ¬k1_cond2 (actAt (a.1 1) (grid1.coords t)) = 1#1 ∧ ¬k1_cond3 (grid1.coords t) = 1#1 := by
  show (!(k1_cond1 (grid1.coords t) == 1#1) && !(k1_cond2 (a.1.atD 1 (k1_off1 (grid1.coords t))) == 1#1) && !(k1_cond3 (grid1.coords t) == 1#1)) = true ↔ _
  rw [act_eq]
  simp only [Bool.and_eq_true, Bool.not_eq_true', beq_eq_false_iff_ne, ne_eq, and_assoc]

/-- Past a tile's first hidden block the buffer holds what the points before accumulated. -/
theorem before_4 (c : Dev nD) (d) : ∀ (n : ℕ) (h : n < (cfg1 a).N), ¬n % 4 = 0 → (dat a W c).before 4 ⟨n, h⟩ d = accAt a W c n
  | 0, _, h0 => absurd rfl h0
  | n + 1, h, h0 => by
    have hn : n < (cfg1 a).N := Nat.lt_of_succ_lt h
    have hf : ((cfg1 a).win 4).flush ⟨n, hn⟩ = false := Bool.eq_false_iff.mpr fun e => by
      have := (flush4 a ⟨n, hn⟩).mp e; simp only at this; omega
    rw [(dat a W c).before_of_pos 4 ⟨n + 1, h⟩ (Nat.succ_ne_zero n) rfl d]
    show (if ((cfg1 a).win 4).flush ⟨n, hn⟩ = true then d else (dat a W c).left 4 ⟨n, hn⟩ d) = _
    rw [if_neg (by rw [hf]; exact Bool.false_ne_true)]
    unfold Dat.left
    rw [show accAt a W c (n + 1) = stepAt a W c ⟨n, hn⟩ (accAt a W c n) from accAt_succ a W c ⟨n, hn⟩]
    cases hi : (cfg1 a).idle 4 ((cfg1 a).grid.coords ⟨n, hn⟩) with
    | true =>
      obtain ⟨h1, h2, h3⟩ := (idle_iff a ⟨n, hn⟩).mp hi
      have hn0 : ¬n % 4 = 0 := fun e => h1 ((cond1_iff ⟨n, hn⟩).mpr e)
      show (dat a W c).before 4 ⟨n, hn⟩ d = _
      rw [before_4 c d n hn hn0, stepAt, step_idle _ _ h1 h2 h3]
    | false =>
      show (dat a W c).after 4 ⟨n, hn⟩ = _
      rw [after_4]; exact accAt_succ a W c ⟨n, hn⟩

/-- The body at any point: the tile goes from `acc` to what the point makes of it. -/
theorem gmm_body (c : Dev nD) (t : Fin grid1.N) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (E : Set ℕ) (K : PUnit → sProp 𝕄) :
    iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step (grid1.coords t) (actAt T (grid1.coords t)) x w1 w2 g acc)) -∗ K ⟨⟩))
      ⊢ wp frame (wpE (defs₀ (F := F)) Variants.none c none) E (cc1__gmm_body (grid1.coords t) arg2 harg2 arg3 harg3 arg4 harg4 arg5 harg5 arg6 harg6 arg7 harg7 arg8 harg8) K := by
  by_cases h1 : k1_cond1 (grid1.coords t) = 1#1
  · have h3 : ¬k1_cond3 (grid1.coords t) = 1#1 := by rw [cond1_iff] at h1; rw [cond3_iff]; omega
    by_cases h2 : k1_cond2 (actAt T (grid1.coords t)) = 1#1
    · exact gmm_first_act c _ _ _ _ _ _ _ _ _ _ _ _ _ _ _ T x w1 w2 g acc h1 h2 h3 E K
    · exact gmm_first_off c _ _ _ _ _ _ _ _ _ _ _ _ _ _ _ T x w1 w2 g acc h1 h2 h3 E K
  · by_cases h3 : k1_cond3 (grid1.coords t) = 1#1
    · by_cases h2 : k1_cond2 (actAt T (grid1.coords t)) = 1#1
      · exact gmm_last_act c _ _ _ _ _ _ _ _ _ _ _ _ _ _ _ T x w1 w2 g acc h1 h2 h3 E K
      · exact gmm_last_off c _ _ _ _ _ _ _ _ _ _ _ _ _ _ _ T x w1 w2 g acc h1 h2 h3 E K
    · by_cases h2 : k1_cond2 (actAt T (grid1.coords t)) = 1#1
      · exact gmm_mid_act c _ _ _ _ _ _ _ _ _ _ _ _ _ _ _ T x w1 w2 g acc h1 h2 h3 E K
      · exact gmm_mid_off c _ _ _ _ _ _ _ _ _ _ _ _ _ _ _ T x w1 w2 g acc h1 h2 h3 E K

/-- The kernel body at point `t`, on what the pipeline calls it with. -/
abbrev bodyAt (t : Fin (cfg1 a).N) : Prog (TpuEff nD τ sig (Elt F) Λ₀ .tc) PUnit :=
  cc1__gmm_body (grid1.coords t) (Memref.whole main_v57) (Memref.isWhole_whole _) (Memref.whole main_v62) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
/-- The body table's row at point `t` is that. -/
theorem defs₀_row (t : Fin (cfg1 a).N) : defs₀ (F := F) .tc (cfg1 a).body ((cfg1 a).bodyArgs t ((cfg1 a).slots t)) = bodyAt a t := by
  unfold defs₀; rw [Defs.onTc_tc]

abbrev st (t : Fin (cfg1 a).N) (w : Fin (cfg1 a).W) := ((cfg1 a).win w).stage ((cfg1 a).slots t w)

/-- What a window that is written at a point is left with, -/
theorem leaves_live (c : Dev nD) (t : Fin (cfg1 a).N) (w : Fin (cfg1 a).W) (h : (cfg1 a).idle w (grid1.coords t) = false) :
    (dat a W c).leavesExact w t = owns (c : Thread nD τ) (st a t w) fullShare ((dat a W c).after w t) := by
  unfold Dat.leavesExact; rw [show (cfg1 a).idle w ((cfg1 a).grid.coords t) = false from h]
/-- and one that is not. -/
theorem leaves_idle (c : Dev nD) (t : Fin (cfg1 a).N) (w : Fin (cfg1 a).W) (h : (cfg1 a).idle w (grid1.coords t) = true) (hf : ((cfg1 a).win w).flush t = false) :
    (dat a W c).leavesExact w t = iprop(∃ d, owns (c : Thread nD τ) (st a t w) fullShare ((dat a W c).before w t d)) := by
  unfold Dat.leavesExact; rw [show (cfg1 a).idle w ((cfg1 a).grid.coords t) = true from h, hf]

/-- What the output's buffer is left with: the accumulated tile, in either case. -/
theorem leaves_4 (c : Dev nD) (t : Fin (cfg1 a).N) :
    owns (c : Thread nD τ) (st a t 4) fullShare (accAt a W c (t.val + 1)) ⊢ ((dat a W c).leavesExact 4 t : sProp 𝕄) := by
  cases hi : (cfg1 a).idle 4 (grid1.coords t) with
  | false => rw [leaves_live a W c t 4 hi, after_4]
  | true =>
    obtain ⟨h1, h2, h3⟩ := (idle_iff a t).mp hi
    have hf : ((cfg1 a).win 4).flush t = false := Bool.eq_false_iff.mpr fun e => h3 ((cond3_iff t).mpr ((flush4 a t).mp e))
    have hn0 : ¬t.val % 4 = 0 := fun e => h1 ((cond1_iff t).mpr e)
    rw [leaves_idle a W c t 4 hi hf, accAt_succ, stepAt, step_idle _ _ h1 h2 h3]
    iintro H
    iexists (accAt a W c t.val)
    have e : (dat a W c).before 4 t (accAt a W c t.val) = accAt a W c t.val := before_4 a W c _ t.val t.isLt hn0
    rw [e]
    iexact H

/-- What the body is called with at point `t`, -/
def bodyPre (c : Dev nD) (t : Fin (cfg1 a).N) : sProp 𝕄 :=
  iprop((dat a W c).Φ t.castSucc ∗ (dat a W c).owesAt () t.castSucc
    ∗ (∃ d, owns (c : Thread nD τ) (st a t 0) fullShare ((dat a W c).before 0 t d))
    ∗ (∃ d, owns (c : Thread nD τ) (st a t 1) fullShare ((dat a W c).before 1 t d))
    ∗ (∃ d, owns (c : Thread nD τ) (st a t 2) fullShare ((dat a W c).before 2 t d))
    ∗ (∃ d, owns (c : Thread nD τ) (st a t 3) fullShare ((dat a W c).before 3 t d))
    ∗ (∃ d, owns (c : Thread nD τ) (st a t 4) fullShare ((dat a W c).before 4 t d)))
/-- and what it returns. -/
def bodyPost (c : Dev nD) (t : Fin (cfg1 a).N) : sProp 𝕄 :=
  iprop((dat a W c).Φ t.succ ∗ (dat a W c).owesAt () t.succ
    ∗ (dat a W c).leavesExact 0 t ∗ (dat a W c).leavesExact 1 t ∗ (dat a W c).leavesExact 2 t ∗ (dat a W c).leavesExact 3 t
    ∗ (dat a W c).leavesExact 4 t)

/-- What the buffer holds leads to the accumulated tile. -/
theorem reach (c : Dev nD) (t : Fin (cfg1 a).N) (d) : stepAt a W c t ((dat a W c).before 4 t d) = accAt a W c (t.val + 1) := by
  rw [accAt_succ]
  by_cases h0 : t.val % 4 = 0
  · exact step_first _ ((cond1_iff t).mpr h0) _ _ _ _ _ _ _
  · rw [before_4 a W c d t.val t.isLt h0]

set_option maxHeartbeats 4000000 in
/-- The body at any point. -/
theorem sound_body (c : Dev nD) (t : Fin (cfg1 a).N) :
    bodyPre a W c t ⊢ wp frame (wpE (defs₀ (F := F)) Variants.none c none) Set.univ (bodyAt a t) (fun _ => bodyPost a W c t) := by
  unfold bodyPre bodyPost bodyAt
  simp only [before_0, before_1, before_2, before_3]
  rw [show (dat a W c).owesAt () t.succ = (dat a W c).owesAt () t.castSucc from rfl,
    show (dat a W c).Φ t.succ = PhiS a c from rfl, show (dat a W c).Φ t.castSucc = PhiS a c from rfl,
    leaves_live a W c t 0 rfl, leaves_live a W c t 1 rfl, leaves_live a W c t 2 rfl, leaves_live a W c t 3 rfl,
    after_0, after_1, after_2, after_3]
  unfold PhiS; rw [tables_eq]
  iintro ⟨⟨HR, HT0, HT1⟩, Ho, ⟨%d0, H0⟩, ⟨%d1, H1⟩, ⟨%d2, H2⟩, ⟨%d3, H3⟩, ⟨%d4, H4⟩⟩
  iapply (gmm_body c t _ _ _ _ _ _ _ _ _ _ _ _ _ _ (a.1 1) (xb a W c t) (w1b a W c t) (w2b a W c t) (gb a W c t) ((dat a W c).before 4 t d4) Set.univ _)
  isplitl [HT1]; · iexact HT1
  isplitl [H0]; · iexact H0
  isplitl [H1]; · iexact H1
  isplitl [H2]; · iexact H2
  isplitl [H3]; · iexact H3
  isplitl [H4]; · iexact H4
  iintro ⟨HT1, H0, H1, H2, H3, H4⟩
  isplitl [HR HT0 HT1]
  · isplitl [HR]; · iexact HR
    isplitl [HT0]; · iexact HT0
    iexact HT1
  isplitl [Ho]; · iexact Ho
  isplitl [H0]; · iexact H0
  isplitl [H1]; · iexact H1
  isplitl [H2]; · iexact H2
  isplitl [H3]; · iexact H3
  iapply (leaves_4 a W c t)
  rw [← reach a W c t d4]
  iexact H4

/-- The obligation at every point. -/
theorem body_obligation (c : Dev nD) : BodyObligation (dat a W c) (defs₀ (F := F)) Variants.none () Set.univ := fun t => by
  rw [bigSep_W1, bigSep_W1, defs₀_row]
  exact triple_restated (sound_body a W c t) rfl .rfl fun _ => .rfl

end Cert.KernelIdeal.Gmm

end
-- ==== Proof.Ideal.Tables.lean ====
/- The two tables that the host prepares for the expert-tile call: which expert each tile of 256 rows belongs to, and whether
   the tile holds any row. Whatever the bounds they are computed from, the expert read is one of the eight, so the call's blocks
   are inside its arrays. -/
module

public import proofs.«01_k».proof.Proof.Gen.KernelIdeal.Regions
public import proofs.«01_k».proof.Proof.Gen.KernelIdeal.Skeleton
public import Idealize.ShloMosaic.Lib.StableHlo.RunRead

@[expose] public section

set_option maxRecDepth 16384

noncomputable section

namespace Cert.KernelIdeal.Tables

open Cert.KernelIdeal Cert.KernelIdeal.Gen
open Idealize.ShloMosaic Idealize.ShloMosaic.TcCoe Idealize.ShloMosaic.Tactic

variable {F : FTy → Type} [FloatOps F]

/-- Where each of the forty tiles starts. -/
def tileStart : IVec S40 32 := muli (iotaInDim S40 32 0) (broadcastInDim S40 ![] bcast_S_S40 (constantI S_ 32 256#32))

/-- The expert of each tile: how many experts' rows end at or before it, at most seven. -/
def tileEid (bnd : IVec S8 32) : IVec S40 32 :=
  minsi (Host.reduce IntOp.addi
      (extui 32 (cmpi .sge
        (broadcastInDim S40x8 ![0, 1] bcast_S40x1_S40x8_0_1 (broadcastInDim S40x1 ![0] bcast_S40_S40x1_0 tileStart))
        (broadcastInDim S40x8 ![0, 1] bcast_S1x8_S40x8_0_1 (broadcastInDim S1x8 ![1] bcast_S8_S1x8_1 bnd))) natLt_1_32)
      (constantI S_ 32 0#32) reducesTo_S40x8_S40_d1 h_S_)
    (broadcastInDim S40 ![] bcast_S_S40 (constantI S_ 32 7#32))

/-- Whether each tile starts before the last expert's rows end. -/
def tileAct (bnd : IVec S8 32) : IVec S40 32 :=
  extui 32 (cmpi .slt tileStart
    (broadcastInDim S40 ![] bcast_S_S40 (shapeCast S_ (extractStridedSlice S1 ![7] bnd slices_S8_S1_7) shapeCasts_S1_S_))) natLt_1_32

set_option maxHeartbeats 4000000 in
theorem read_v57 (V : Valuation τ sig (Elt F)) :
    StableHlo.after hostOps1_4 V (Proc.devRef .tc main_v57) = tileEid (V (Proc.devRef .tc main_v10)) := by
  after_reads_simp; rfl

set_option maxHeartbeats 4000000 in
theorem read_v62 (V : Valuation τ sig (Elt F)) :
    StableHlo.after hostOps1_4 V (Proc.devRef .tc main_v62) = tileAct (V (Proc.devRef .tc main_v10)) := by
  after_reads_simp; rfl

/-- A sum of words that are each 0 or 1 is at most their number. -/
theorem foldl_le {α : Type} (f : α → BitVec 32) (hf : ∀ x, (f x).toNat ≤ 1) (l : List α) (a : BitVec 32) :
    (l.foldl (fun r n => IntOp.addi r (f n)) a).toNat ≤ a.toNat + l.length := by
  induction l generalizing a with
  | nil => simp
  | cons x l ih =>
    refine (ih _).trans ?_
    have h1 := hf x
    have h2 : (IntOp.addi a (f x)).toNat ≤ a.toNat + (f x).toNat := by
      show (a + f x).toNat ≤ _
      rw [BitVec.toNat_add]; exact Nat.mod_le _ _
    simp only [List.length_cons]; omega

/-- The signed minimum with seven of a word of at most 320 is at most seven. -/
theorem minsi_le (x : BitVec 32) (h : x.toNat ≤ 320) : (IntOp.minsi x 7#32).toNat ≤ 7 := by
  unfold IntOp.minsi
  split
  · rename_i hc
    have : x.toInt ≤ 7 := by
      first
      | exact hc
      | (have := hc; simp [BitVec.slt, BitVec.sle] at this; omega)
    rw [BitVec.toInt_eq_toNat_of_lt (by omega)] at this; omega
  · decide

/-- The expert of a tile is one of the eight. -/
theorem tileEid_le (bnd : IVec S8 32) (i : S40.Idx) : (tileEid bnd i).toNat ≤ 7 := by
  refine minsi_le _ ?_
  unfold Host.reduce
  refine (foldl_le _ (fun n => ?_) _ _).trans ?_
  · show ((BitVec.setWidth 32 _ : BitVec 32)).toNat ≤ 1
    rw [BitVec.toNat_setWidth]
    refine (Nat.mod_le _ _).trans ?_
    exact Nat.le_of_lt_succ (BitVec.isLt _)
  · have h0 : ((constantI S_ 32 0#32 : IVec S_ 32) (Shape.Idx.first h_S_)).toNat = 0 := rfl
    have h1 := List.length_filter_le (fun n => decide (reducesTo_S40x8_S40_d1.drop (S40x8.rowMajor.symm n) = i)) (List.finRange S40x8.numel)
    replace h1 := h1.trans (Nat.le_of_eq (List.length_finRange.trans (show S40x8.numel = 320 from by decide)))
    rw [h0, Nat.zero_add]; exact h1

/-- The tables that the call finds, from the bounds of the experts' rows. -/
def contents (bnd : IVec S8 32) : pre1.Contents (Elt F) := fun k => match k with
  | ⟨0, _⟩ => tileEid bnd
  | ⟨1, _⟩ => tileAct bnd
  | ⟨_ + 2, h⟩ => absurd h (Nat.not_lt.2 (Nat.le_add_left _ _))

/-- With them every block of the call is inside its array. -/
theorem contents_ok (bnd : IVec S8 32) : ok1 (F := F) (contents bnd) := by
  have hx : ∀ (i : grid1.Coords), ∃ e : ℕ, e ≤ 7 ∧ cc1_transform_1 k1_off1_inb numel1_S1 (contents (F := F) bnd) i = ![e, (i 1).val, 0]
      ∧ cc1_transform_2 k1_off1_inb numel1_S1 (contents (F := F) bnd) i = ![e, 0, (i 1).val] := fun i => by
    refine ⟨(tileEid bnd ((Rect.unit (s := S40) _ S1.size (k1_off1_inb i)).emb (Shape.Idx.first (numel1_S1.symm ▸ Nat.one_pos)))).toNat, tileEid_le bnd _, ?_, ?_⟩
    · have e1 : (BitVec.ofNat 32 (i 1).val).toNat = (i 1).val := by
        rw [BitVec.toNat_ofNat]; exact Nat.mod_eq_of_lt (lt_trans (i 1).isLt (by decide))
      show (![_, (BitVec.ofNat 32 (i 1).val).toNat, 0] : Fin 3 → ℕ) = _
      rw [e1]; rfl
    · have e1 : (BitVec.ofNat 32 (i 1).val).toNat = (i 1).val := by
        rw [BitVec.toNat_ofNat]; exact Nat.mod_eq_of_lt (lt_trans (i 1).isLt (by decide))
      show (![_, 0, (BitVec.ofNat 32 (i 1).val).toNat] : Fin 3 → ℕ) = _
      rw [e1]; rfl
  have h4 : ∀ i : grid1.Coords, (i 1).val < 4 := fun i => (i 1).isLt
  refine ⟨fun i => ?_, fun i => ?_⟩
  · obtain ⟨e, he, e1, -⟩ := hx i
    refine ⟨fun b => ?_, .inl rfl⟩
    rw [e1]
    have := h4 i
    match b with
    | ⟨0, _⟩ => show (e + 1) * 1 ≤ 8; omega
    | ⟨1, _⟩ => show ((i 1).val + 1) * 1024 ≤ 4096; omega
    | ⟨2, _⟩ => show (0 + 1) * 1024 ≤ 1024; omega
  · obtain ⟨e, he, -, e1⟩ := hx i
    refine ⟨fun b => ?_, .inl rfl⟩
    rw [e1]
    have := h4 i
    match b with
    | ⟨0, _⟩ => show (e + 1) * 1 ≤ 8; omega
    | ⟨1, _⟩ => show (0 + 1) * 1024 ≤ 1024; omega
    | ⟨2, _⟩ => show ((i 1).val + 1) * 1024 ≤ 4096; omega

end Cert.KernelIdeal.Tables

end
-- ==== Proof.Ideal.Run.lean ====
/- The whole program's run: the two calls' proof data put between the host stretches, and what every buffer of the core holds
   at the end. -/
module

public import proofs.«01_k».proof.Proof.Ideal.RouteRegion
public import proofs.«01_k».proof.Proof.Ideal.GmmRegion
public import proofs.«01_k».proof.Proof.Ideal.Tables
public import Idealize.ShloMosaic.Lib.Pipeline.FrameTail
public import Idealize.ShloMosaic.Lib.Pipeline.RegionArraysS
public import Idealize.ShloMosaic.Lib.Pipeline.RegionArraysTS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

variable (m : (ℓ : Loc nD τ sig) → Buf (Elt F) ℓ)

/-- What the routing call leaves, from what the host gives it. -/
def outs0 : Outs (F := F) := fun _ r c => Pipeline.afterRegion (Route.dat (V1 m) c) (V1 m c) (Proc.devRef .tc r)

/-- The tables the expert-tile call finds. -/
def adm1 : (pcfg1 (F := F)).Adm := ⟨Tables.contents (V6 m (outs0 m) 0 (Proc.devRef .tc main_v10)), Tables.contents_ok _⟩

/-- What both calls leave: the routing call's results, and the expert-tile call's. -/
def outs : Outs (F := F) := fun n r c => match n with
  | 2 => outs0 m 2 r c
  | _ => Pipeline.afterRegion (Gmm.dat (adm1 m) (V7 m (outs0 m)) c) (V7 m (outs0 m) c) (Proc.devRef .tc r)

theorem V7_outs (c : Dev nD) : V7 m (outs m) c = V7 m (outs0 m) c := rfl

/-- The tables of the two calls: the first has none. -/
def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

/-- The two calls' proof data. -/
def pdats : (p : Fin 2) → (c : Dev nD) → Dat τ (Elt F) Unit ℕ (UR sig nD τ) ℕ (Pipeline.pin (pcfgs (F := F)) (adm m) p) c
  | ⟨0, _⟩ => fun c => Route.dat (V1 m) c
  | ⟨1, _⟩ => fun c => Gmm.dat (adm1 m) (V7 m (outs0 m)) c
  | ⟨_ + 2, h⟩ => absurd h (Nat.not_lt.2 (Nat.le_add_left _ _))

/-- The TensorCore's cells carry the one index, the others none; -/
def lev : GSem nD τ sig → Finset Unit := fun g => if g.1.2 = .tc then {()} else ∅
/-- every level is zero. -/
def lv : GSem nD τ sig → Unit → ℕ := fun _ _ => 0

theorem cut (p : Fin 2) : Pipeline.LevelCut (nD := nD) (τ := τ) (pcfgs (F := F)) (adm m) () lev lv p (fun _ => 0) (fun _ => 0) where
  hι c w s := by
    show () ∈ (if _ then _ else _)
    rw [if_pos (by rfl)]; exact Finset.mem_singleton_self _
  hιb _ _ _ := Nat.le_refl _
  hD _ _ _ h := absurd h (Nat.lt_irrefl 0)

/-- The routing call as a segment of the run. -/
def R0 : RegionSeg (pcfgs (F := F)) (adm m) (pdats m) () defs₀ Variants.none lev lv 0 :=
  RegionSeg.ofHeldIn (pcfgs (F := F)) (adm m) (pdats m) () defs₀ Variants.none lev lv 0 (fun _ => 0) (Pipeline.ucRefs τ sig)
    (fun _ => BI.emp) (fun _ => BI.emp) launch0 rfl
    (fun c => (Route.body_obligation (V1 m) c).loose) (fun _ _ => rfl) (fun _ => rfl)
    (fun c => (pdats m 0 c).share_full fun _ => rfl)
    (fun c => Route.hin (V1 m) c) (fun c => Route.hout (V1 m) c) (fun _ => 0) (cut m 0) (fun _ => BI.emp) (V1 m)
    (fun c w => Route.A_eq (V1 m) c w)

theorem tables_found (c : Dev nD) (k : Fin 2) : (adm1 m).1 k = V7 m (outs0 m) c (Proc.devRef .tc (pre1.ref k)) := by
  obtain rfl : c = 0 := Subsingleton.elim _ _
  match k with
  | ⟨0, _⟩ => exact (Tables.read_v57 _).symm
  | ⟨1, _⟩ => exact (Tables.read_v62 _).symm

/-- The expert-tile call as a segment of the run. -/
def R1 : RegionSeg (pcfgs (F := F)) (adm m) (pdats m) () defs₀ Variants.none lev lv 1 :=
  RegionSeg.ofHeldInT (pcfgs (F := F)) (adm m) (pdats m) () defs₀ Variants.none lev lv 1 (fun _ => 0) (Pipeline.ucRefs τ sig)
    (fun _ => BI.emp) (fun _ => BI.emp) launch1
    (fun c => (Gmm.body_obligation (adm1 m) (V7 m (outs0 m)) c).loose) (fun _ _ => rfl) (fun _ => rfl)
    (fun c => (pdats m 1 c).share_full fun _ => rfl)
    (fun _ => .rfl) (fun _ => .rfl) (fun _ => 0) (cut m 1) (fun _ => BI.emp) (V7 m (outs0 m))
    (fun c w => Gmm.A_eq (adm1 m) (V7 m (outs0 m)) c w) (fun c k => tables_found m c k)

/-- What the core owes between two items: nothing. -/
abbrev rest (c : Dev nD) : sProp 𝕄 := iprop(∃ W, owes (c : Thread nD τ) (0 : CellTallies nD τ sig Unit) W)

theorem arr0_sub : Pipeline.arrRefs (τ := τ) (pcfgs (F := F) 0).spec ⊆ Pipeline.ucRefs τ sig := Pipeline.arrRefs_sub_ucRefs spec0 (by decide)
theorem arr1_sub : Pipeline.arrRefs (τ := τ) (pcfgs (F := F) 1).spec ⊆ Pipeline.ucRefs τ sig := Pipeline.arrRefs_sub_ucRefs spec1 (by decide)
theorem tbl1_sub : Pipeline.tblRefs (τ := τ) (pcfgs (F := F) 1).pre ⊆ Pipeline.ucRefs τ sig := by
  exact Pipeline.tblRefs_sub_ucRefs pre1 (by decide)

/-- After the routing call the buffers hold what the run's valuation says. -/
theorem after0_eq (c : Dev nD) (b : DevRef τ sig) (hb : b ∈ Pipeline.ucRefs τ sig) :
    Pipeline.afterRegion (Route.dat (V1 m) c) (V1 m c) b = V2 m (outs m) c b := by
  obtain ⟨r, -, rfl⟩ := Finset.mem_map.mp (Finset.mem_filter.mp hb).1
  by_cases hr : r ∈ ([main_v1_0, main_v1_1, main_v1_2, main_v1_3, main_v1_4] : List (Ref sig .tc))
  · have h5 : r = main_v1_0 ∨ r = main_v1_1 ∨ r = main_v1_2 ∨ r = main_v1_3 ∨ r = main_v1_4 := by simpa using hr
    symm
    rcases h5 with rfl | rfl | rfl | rfl | rfl
    · exact (Function.update_of_ne (StableHlo.devRef_ne_of_ne (by decide)) _ _).trans <|
        (Function.update_of_ne (StableHlo.devRef_ne_of_ne (by decide)) _ _).trans <|
        (Function.update_of_ne (StableHlo.devRef_ne_of_ne (by decide)) _ _).trans <|
        (Function.update_of_ne (StableHlo.devRef_ne_of_ne (by decide)) _ _).trans <| Function.update_self _ _ _
    · exact (Function.update_of_ne (StableHlo.devRef_ne_of_ne (by decide)) _ _).trans <|
        (Function.update_of_ne (StableHlo.devRef_ne_of_ne (by decide)) _ _).trans <|
        (Function.update_of_ne (StableHlo.devRef_ne_of_ne (by decide)) _ _).trans <| Function.update_self _ _ _
    · exact (Function.update_of_ne (StableHlo.devRef_ne_of_ne (by decide)) _ _).trans <|
        (Function.update_of_ne (StableHlo.devRef_ne_of_ne (by decide)) _ _).trans <| Function.update_self _ _ _
    · exact (Function.update_of_ne (StableHlo.devRef_ne_of_ne (by decide)) _ _).trans <| Function.update_self _ _ _
    · exact Function.update_self _ _ _
  · refine Eq.trans ?_ (V2_of m (outs m) c r hr).symm
    refine Pipeline.afterRegion_keeps _ _ winFacts0.arr_inj (Route.A_eq (V1 m) c) r fun w hw => ?_
    subst hw
    match w with
    | ⟨0, _⟩ => rfl
    | ⟨1, _⟩ => rfl
    | ⟨2, _⟩ => exact absurd (by simp [Pipeline.arrRef]) hr
    | ⟨3, _⟩ => exact absurd (by simp [Pipeline.arrRef]) hr
    | ⟨4, _⟩ => exact absurd (by simp [Pipeline.arrRef]) hr
    | ⟨5, _⟩ => exact absurd (by simp [Pipeline.arrRef]) hr
    | ⟨6, _⟩ => exact absurd (by simp [Pipeline.arrRef]) hr

/-- After the expert-tile call likewise. -/
theorem after1_eq (c : Dev nD) (b : DevRef τ sig) (hb : b ∈ Pipeline.ucRefs τ sig) :
    Pipeline.afterRegion (Gmm.dat (adm1 m) (V7 m (outs0 m)) c) (V7 m (outs0 m) c) b = V8 m (outs m) c b := by
  obtain ⟨r, -, rfl⟩ := Finset.mem_map.mp (Finset.mem_filter.mp hb).1
  by_cases hr : r = main_v70
  · subst hr
    symm; exact Function.update_self _ _ _
  · refine Eq.trans ?_ (V8_of m (outs m) c r (by simpa using hr)).symm
    refine Pipeline.afterRegion_keeps _ _ winFacts1.arr_inj (Gmm.A_eq (adm1 m) (V7 m (outs0 m)) c) r fun w hw => ?_
    subst hw
    match w with
    | ⟨0, _⟩ => rfl
    | ⟨1, _⟩ => rfl
    | ⟨2, _⟩ => rfl
    | ⟨3, _⟩ => rfl
    | ⟨4, _⟩ => exact absurd rfl hr

theorem pre0 (c : Dev nD) : iprop(StableHlo.held (c : Thread nD τ) (Pipeline.ucRefs τ sig) (V1 m c) ∗ rest (F := F) c) ⊢ (R0 m).pre c := by
  unfold R0
  refine BIBase.Entails.trans ?_ (RegionSeg.ofHeldIn_pre (pcs := pcfgs (F := F)) (p := 0) (S := Pipeline.ucRefs τ sig) arr0_sub (W := V1 m) c)
  iintro ⟨Hh, HE⟩
  isplitl [Hh]; · iexact Hh
  isplitl [HE]; · iexact HE
  isplitl <;> iempintro

theorem post0 (c : Dev nD) : (R0 m).post c ⊢ iprop(StableHlo.held (c : Thread nD τ) (Pipeline.ucRefs τ sig) (V2 m (outs m) c) ∗ rest (F := F) c) := by
  unfold R0
  refine (RegionSeg.ofHeldIn_post (pcs := pcfgs (F := F)) (p := 0) (S := Pipeline.ucRefs τ sig) arr0_sub (W := V1 m) c).trans ?_
  rw [show pdats m 0 c = Route.dat (V1 m) c from rfl, StableHlo.held_congr (c : Thread nD τ) (after0_eq m c)]
  iintro ⟨Hh, HE, -, -⟩
  isplitl [Hh]; · iexact Hh
  iexact HE

theorem pre1_ (c : Dev nD) : iprop(StableHlo.held (c : Thread nD τ) (Pipeline.ucRefs τ sig) (V7 m (outs m) c) ∗ rest (F := F) c) ⊢ (R1 m).pre c := by
  unfold R1
  refine BIBase.Entails.trans ?_ (RegionSeg.ofHeldInT_pre (pcs := pcfgs (F := F)) (p := 1) (S := Pipeline.ucRefs τ sig) arr1_sub tbl1_sub (W := V7 m (outs0 m)) c)
  iintro ⟨Hh, HE⟩
  isplitl [Hh]; · iexact Hh
  isplitl [HE]; · iexact HE
  isplitl <;> iempintro

theorem post1 (c : Dev nD) : (R1 m).post c ⊢ iprop(StableHlo.held (c : Thread nD τ) (Pipeline.ucRefs τ sig) (V8 m (outs m) c) ∗ rest (F := F) c) := by
  unfold R1
  refine (RegionSeg.ofHeldInT_post (pcs := pcfgs (F := F)) (p := 1) (S := Pipeline.ucRefs τ sig) arr1_sub tbl1_sub (W := V7 m (outs0 m)) c).trans ?_
  have h : ∀ b ∈ Pipeline.ucRefs τ sig, Pipeline.afterRegion (pdats m 1 c) (V7 m (outs0 m) c) b = V8 m (outs m) c b := after1_eq m c
  rw [StableHlo.held_congr (c : Thread nD τ) h]
  iintro ⟨Hh, HE, -, -⟩
  isplitl [Hh]; · iexact Hh
  iexact HE

/-- The launch's ghost state: every call's transfers. -/
abbrev u₀ : UR sig nD τ := initOf (Pipeline.cells (Pipeline.pin (pcfgs (F := F)) (adm m)) (cellOf_inj (adm m))) (Pipeline.launchToks (Pipeline.pin (pcfgs (F := F)) (adm m)) (cellOf_inj (adm m)))

-- the launch theorem's implicit arguments are found by unifying its conclusion with this one
set_option backward.isDefEq.respectTransparency.types false in
/-- THE RUN. Every execution from memory `m` with zero counters ends, with every unscoped buffer of the core at the last
    valuation and every counter at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem ((c.tc : Thread nD τ).1, b) = V9 m (outs m) c b) ∧ r.2.sem = fun _ => 0) := by
  refine Pipeline.θ_run_regions_kit_dev_sems (pcfgs (F := F)) (adm m) (pdats m) () (cellOf_inj (adm m)) emb₁ defs₀ Variants.none lev lv m ρ main
    (segs m (outs m) Variants.none lev lv (fun _ c => rest c) () (adm m) (pdats m) (R0 m) (R1 m))
    (fun c Q => by
      rewrite [main_chain c, Seg.run_eq_chain,
        show (segs m (outs m) Variants.none lev lv (fun _ c => rest c) () (adm m) (pdats m) (R0 m) (R1 m) c).map Seg.prog = [
          StableHlo.seq hostOps0, Prog.lift (.customCall (Pipeline.entry 0) ()), StableHlo.seq hostOps1, StableHlo.seq hostOps1_1,
          StableHlo.seq hostOps1_2, StableHlo.seq hostOps1_3, StableHlo.seq hostOps1_4, Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) (u₀ m)
    (by
      iintro Hu
      imodintro
      isplitl [Hu]
      · iapply (show (ownU _ : sProp 𝕄) ⊢ BI.own (emb₁ (u₀ m)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V9 m (outs m) c))
    (hch := fun c => ⟨.rfl, pre0 m c, post0 m c, .rfl, .rfl, .rfl, .rfl, pre1_ m c, post1 m c, .rfl⟩)
    (hinit := ?_) (QY := fun c s => ∀ b ∈ Pipeline.ucRefs τ sig, s.mem ((c.tc : Thread nD τ).1, b) = V9 m (outs m) c b)
    (hfin := fun c s' => ?_) (hQ := fun _ h hz => ⟨h, funext fun g => hz g (.inr (regions_no_unscoped g.2))⟩)
  · refine Pipeline.initEach lev lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -⟩, -⟩
    imodintro
    isplitl [Hh]; · iexact Hh
    iexists _; iexact HO
  · unfold StableHlo.held
    iintro ⟨Hh, HSI⟩
    ihave Hr := (pointsTo_read_all (Pipeline.ucRefs τ sig) (fun b => ((c.tc : Thread nD τ).1, b)) (V9 m (outs m) c) s') $$ [Hh HSI]
    · isplitl [Hh] <;> iassumption
    imodintro; iexact Hr

/-- What an unscoped reference ends at. -/
theorem run_at (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = V9 m (outs m) c (Proc.devRef .tc b)) ∧ r.2.sem = fun _ => 0) :=
  (θ_run _ _ _).mono (fun _ h => ⟨fun c b hb => h.1 c _ (Pipeline.devRef_mem_ucRefs hb), h.2⟩) (run m ρ)

/-- Every execution leaves the arguments unchanged and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun _ h => ⟨fun c => ⟨(h.1 c main_arg0 rfl).trans (V9_main_arg0 m _ c), (h.1 c main_arg1 rfl).trans (V9_main_arg1 m _ c),
    (h.1 c main_arg2 rfl).trans (V9_main_arg2 m _ c), (h.1 c main_arg3 rfl).trans (V9_main_arg3 m _ c)⟩, h.2⟩) (run_at m ρ)

end Cert.KernelIdeal.Run

end
-- ==== Proof.Tiles.Mix.lean ====
/- The mathematics of the expert tiles, over plain arrays of extended reals: what one expert makes of a row, which of the
   eight experts a row keeps, and how four blocks of the hidden axis add up to the whole of it. -/
module

public import Idealize.ShloMosaic.PureOps.Ideal.Laws
public import Idealize.ShloMosaic.Lib.ValueIdx

@[expose] public section

noncomputable section

namespace Cert.Tiles.Mix

open Idealize.ShloMosaic Idealize.ShloMosaic.ValueIdx

/-- The gathered rows, the two weight arrays and the gate weights. -/
abbrev Rows := (⟨2, ![10240, 1024]⟩ : Shape).Idx → EReal
abbrev Weights1 := (⟨3, ![8, 4096, 1024]⟩ : Shape).Idx → EReal
abbrev Weights2 := (⟨3, ![8, 1024, 4096]⟩ : Shape).Idx → EReal
abbrev Gates := (⟨2, ![10240, 1]⟩ : Shape).Idx → EReal
abbrev Words := (⟨1, ![40]⟩ : Shape).Idx → BitVec 32

/-- `z · 1 / (1 + e⁻ᶻ)`. -/
def silu (z : EReal) : EReal := z * Ideal.logistic z

/-- Hidden unit `h` of expert `e` at row `i`, before the activation. -/
def hidden (x : Rows) (w1 : Weights1) (e : Fin 8) (i : Fin 10240) (h : Fin 4096) : EReal :=
  ∑ k : Fin 1024, x (ix2 i k) * w1 (ix3 e h k)

/-- What hidden unit `h` of expert `e` adds to feature `d` of row `i`. -/
def unit (x : Rows) (w1 : Weights1) (w2 : Weights2) (e : Fin 8) (i : Fin 10240) (d : Fin 1024) (h : Fin 4096) : EReal :=
  silu (hidden x w1 e i h) * w2 (ix3 e d h)

/-- What expert `e` makes of row `i`, at feature `d`. -/
def expert (x : Rows) (w1 : Weights1) (w2 : Weights2) (e : Fin 8) (i : Fin 10240) (d : Fin 1024) : EReal :=
  ∑ h : Fin 4096, unit x w1 w2 e i d h

/-- The tile row `i` lies in. -/
def tileOf (i : Fin 10240) : Fin 40 := ⟨i.val / 256, by omega⟩

/-- The expert a table names for tile `q`. -/
def named (t0 : Words) (h : ∀ j, (t0 j).toNat ≤ 7) (q : Fin 40) : Fin 8 := ⟨(t0 (ix1 q)).toNat, Nat.lt_succ_of_le (h _)⟩

/-- THE RESULT: row `i` of an active tile is what the tile's expert makes of it, weighted; of an inactive one, zero. -/
def mixed (t0 t1 : Words) (h : ∀ j, (t0 j).toNat ≤ 7) (x : Rows) (w1 : Weights1) (w2 : Weights2) (g : Gates) (i : Fin 10240) (d : Fin 1024) : EReal :=
  if t1 (ix1 (tileOf i)) = 0#32 then 0 else expert x w1 w2 (named t0 h (tileOf i)) i d * g (ix2 i 0)

/-- The weight the reference gives expert `k` at a row of tile word `a`, activity word `b` and gate weight `g`. -/
def weight (k a b : BitVec 32) (g : EReal) : EReal :=
  Scalar.select (IntOp.andi (IntOp.cmpi .eq a k) (IntOp.cmpi .ne b 0#32)) g (Ideal.ofBits .f32 0x00000000#32)

theorem weight_eq (k a b : BitVec 32) (g : EReal) : weight k a b g = if a = k ∧ b ≠ 0#32 then g else 0 := by
  unfold weight
  rw [Ideal.ofBits_zero_f32]
  have both : ∀ p q : Bool, BitVec.ofBool p &&& BitVec.ofBool q = 1#1 ↔ p = true ∧ q = true := by decide
  have e : IntOp.andi (IntOp.cmpi .eq a k) (IntOp.cmpi .ne b 0#32) = 1#1 ↔ a = k ∧ b ≠ 0#32 := by
    simp only [IntOp.cmpi, IntOp.andi]
    rw [both, beq_iff_eq, bne_iff_ne]
  unfold Scalar.select
  by_cases h : a = k ∧ b ≠ 0#32
  · rw [if_pos h]; exact if_pos (e.mpr h)
  · rw [if_neg h]; exact if_neg (fun h' => h (e.mp h'))

/-- Of the eight weighted terms only the named expert's survives, -/
theorem sum_kept (f : Fin 8 → EReal) (a b : BitVec 32) (ha : a.toNat ≤ 7) (g : EReal) :
    ∑ e : Fin 8, f e * weight (BitVec.ofNat 32 e.val) a b g = if b = 0#32 then 0 else f ⟨a.toNat, Nat.lt_succ_of_le ha⟩ * g := by
  simp only [weight_eq]
  by_cases hb : b = 0#32
  · rw [if_pos hb]
    exact Finset.sum_eq_zero fun e _ => by rw [if_neg (fun h => h.2 hb), mul_zero]
  · rw [if_neg hb, Finset.sum_eq_single ⟨a.toNat, Nat.lt_succ_of_le ha⟩]
    · rw [if_pos ⟨by rw [BitVec.ofNat_toNat, BitVec.setWidth_eq], hb⟩]
    · intro e _ he
      rw [if_neg, mul_zero]
      rintro ⟨h, -⟩
      refine he (Fin.ext ?_)
      have := congrArg BitVec.toNat h
      rw [BitVec.toNat_ofNat, Nat.mod_eq_of_lt (by have := e.isLt; omega)] at this
      exact this.symm
    · exact fun h => absurd (Finset.mem_univ _) h

/-- and the terms added one after the other onto zero are their sum. -/
theorem chain_eq (p : Fin 8 → EReal) : 0 + p 0 + p 1 + p 2 + p 3 + p 4 + p 5 + p 6 + p 7 = ∑ e : Fin 8, p e := by
  rw [Fin.sum_univ_eight, zero_add]

/-- Hidden unit `n` of block `j`. -/
def unitOf (j : Fin 4) (n : Fin 1024) : Fin 4096 := ⟨j.val * 1024 + n.val, by omega⟩

/-- Four blocks of 1024 units, added one after the other onto zero, are all 4096. -/
theorem blocks_eq (f : Fin 4096 → EReal) :
    0 + ∑ n, f (unitOf 0 n) + ∑ n, f (unitOf 1 n) + ∑ n, f (unitOf 2 n) + ∑ n, f (unitOf 3 n) = ∑ h, f h := by
  have e : ∑ h, f h = ∑ p : Fin 4 × Fin 1024, f (unitOf p.1 p.2) :=
    (Fintype.sum_equiv (finProdFinEquiv (m := 4) (n := 1024)) _ _ fun p => congrArg f (Fin.ext (by
      show p.1.val * 1024 + p.2.val = p.2.val + 1024 * p.1.val; omega))).symm
  rw [e, Fintype.sum_prod_type, Fin.sum_univ_four, zero_add]

end Cert.Tiles.Mix

end
-- ==== Proof.Tiles.GmmBody.lean ====
/- The expert-tile body of the second pallas_call, one grid point, at any float values: what it leaves in the output tile
   as a function of the tile's activity word, the four input blocks and what the tile held before. -/
module

public import proofs.«01_k».proof.Proof.Gen.TilesIdeal.Skeleton
public import proofs.«01_k».proof.Proof.Gen.TilesIdeal.Launch
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.TilesIdeal.Gmm

open Cert.TilesIdeal Cert.TilesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile's activity word, of the second table. -/
def actAt (T : Vec F S40 .i32) (i : grid0.Coords) : Elt F .i32 :=
  T ((Rect.unit (s := S40) (k0_off1 i) S1.size (k0_off1_inb i)).emb (Shape.Idx.first (numel1_S1.symm ▸ Nat.one_pos)))

/-- The tile before the point's product is added: cleared at the first hidden block. -/
def opened (i : grid0.Coords) (acc : Vec F S256x1024 .f32) : Vec F S256x1024 .f32 := if k0_cond1 i = 1#1 then k0_pay1 (F := F) else acc
/-- The point's product added, in an active tile. -/
def added (v : Elt F .i32) (x : Vec F S256x1024 .f32) (w1 w2 : Vec F S1x1024x1024 .f32) (acc : Vec F S256x1024 .f32) : Vec F S256x1024 .f32 :=
  if k0_cond2 v = 1#1 then k0_pay2 x w1 acc w2 else acc
/-- The rows weighted, at the last hidden block. -/
def closed (i : grid0.Coords) (g : Vec F S256x1 .f32) (acc : Vec F S256x1024 .f32) : Vec F S256x1024 .f32 :=
  if k0_cond3 i = 1#1 then k0_pay3 acc g else acc
/-- What the body leaves in the output tile. -/
def step (i : grid0.Coords) (v : Elt F .i32) (x : Vec F S256x1024 .f32) (w1 w2 : Vec F S1x1024x1024 .f32) (g : Vec F S256x1 .f32) (acc : Vec F S256x1024 .f32) :
    Vec F S256x1024 .f32 := closed i g (added v x w1 w2 (opened i acc))

set_option maxHeartbeats 4000000 in
/-- The first hidden block of an inactive tile. -/
theorem gmm_first_off (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : k0_cond1 i = 1#1) (hc2 : ¬k0_cond2 (actAt T i) = 1#1) (hc3 : ¬k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : ¬k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k0_pay1 (F := F)) := by
    unfold step closed added opened; rw [if_pos hc1, if_neg hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_first_off.sl.r); (try delta gmm_first_off.sl.r_1); (try delta gmm_first_off.sl.r_2); (try delta gmm_first_off.sl.v11); (try delta gmm_first_off.sl.v13); (try delta gmm_first_off.sl.v17); (try delta gmm_first_off.sl.v18); (try delta gmm_first_off.sl.v20); (try delta gmm_first_off.sl.v24); (try delta gmm_first_off.sl.H8_1); (try delta gmm_first_off.sl.H8_2); (try delta gmm_first_off.sl.H8_3)
  (try rw [rc8]); (try rw [rc8]); (try rw [rd4]); (try rw [rd5]); (try rw [rd6]); (try rw [rd7]); (try rw [rd8]); try rfl

set_option maxHeartbeats 4000000 in
/-- The first hidden block of an active tile. -/
theorem gmm_first_act (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : k0_cond1 i = 1#1) (hc2 : k0_cond2 (actAt T i) = 1#1) (hc3 : ¬k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k0_pay2 x w1 (k0_pay1 (F := F)) w2) := by
    unfold step closed added opened; rw [if_pos hc1, if_pos hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_first_act.sl.r); (try delta gmm_first_act.sl.r_1); (try delta gmm_first_act.sl.r_2); (try delta gmm_first_act.sl.v11); (try delta gmm_first_act.sl.v13); (try delta gmm_first_act.sl.v17); (try delta gmm_first_act.sl.v18); (try delta gmm_first_act.sl.v20); (try delta gmm_first_act.sl.v24); (try delta gmm_first_act.sl.H8_1); (try delta gmm_first_act.sl.H8_2); (try delta gmm_first_act.sl.H8_3)
  (try rw [rc8]); (try rw [rc8]); (try rw [rd4]); (try rw [rd5]); (try rw [rd6]); (try rw [rd7]); (try rw [rd8]); try rfl

set_option maxHeartbeats 4000000 in
/-- A middle hidden block of an inactive tile. -/
theorem gmm_mid_off (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k0_cond1 i = 1#1) (hc2 : ¬k0_cond2 (actAt T i) = 1#1) (hc3 : ¬k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : ¬k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = acc := by
    unfold step closed added opened; rw [if_neg hc1, if_neg hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; exact harg8.read_unread _

set_option maxHeartbeats 4000000 in
/-- A middle hidden block of an active tile. -/
theorem gmm_mid_act (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k0_cond1 i = 1#1) (hc2 : k0_cond2 (actAt T i) = 1#1) (hc3 : ¬k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k0_pay2 x w1 acc w2) := by
    unfold step closed added opened; rw [if_neg hc1, if_pos hc2, if_neg hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_mid_act.sl.r); (try delta gmm_mid_act.sl.r_1); (try delta gmm_mid_act.sl.r_2); (try delta gmm_mid_act.sl.v11); (try delta gmm_mid_act.sl.v13); (try delta gmm_mid_act.sl.v17); (try delta gmm_mid_act.sl.v18); (try delta gmm_mid_act.sl.v20); (try delta gmm_mid_act.sl.v24); (try delta gmm_mid_act.sl.H8_1); (try delta gmm_mid_act.sl.H8_2); (try delta gmm_mid_act.sl.H8_3)
  (try rw [rc8]); (try rw [rc8]); (try rw [rd4]); (try rw [rd5]); (try rw [rd6]); (try rw [rd7]); (try rw [rd8]); try rfl

set_option maxHeartbeats 4000000 in
/-- The last hidden block of an inactive tile. -/
theorem gmm_last_off (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k0_cond1 i = 1#1) (hc2 : ¬k0_cond2 (actAt T i) = 1#1) (hc3 : k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : ¬k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k0_pay3 acc g) := by
    unfold step closed added opened; rw [if_neg hc1, if_neg hc2, if_pos hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_last_off.sl.r); (try delta gmm_last_off.sl.r_1); (try delta gmm_last_off.sl.r_2); (try delta gmm_last_off.sl.v11); (try delta gmm_last_off.sl.v13); (try delta gmm_last_off.sl.v17); (try delta gmm_last_off.sl.v18); (try delta gmm_last_off.sl.v20); (try delta gmm_last_off.sl.v24); (try delta gmm_last_off.sl.H8_1); (try delta gmm_last_off.sl.H8_2); (try delta gmm_last_off.sl.H8_3)
  (try rw [rc8]); (try rw [rc8]); (try rw [rd4]); (try rw [rd5]); (try rw [rd6]); (try rw [rd7]); (try rw [rd8]); try rfl

set_option maxHeartbeats 4000000 in
/-- The last hidden block of an active tile. -/
theorem gmm_last_act (c : Dev nD) (i : grid0.Coords) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (hc1 : ¬k0_cond1 i = 1#1) (hc2 : k0_cond2 (actAt T i) = 1#1) (hc3 : k0_cond3 i = 1#1) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step i (actAt T i) x w1 w2 g acc)) -∗ K ⟨⟩))
      ⊢ wp frame (wpE (defs₀ (F := F)) Variants.none c none) E (cc0__gmm_body i arg2 harg2 arg3 harg3 arg4 harg4 arg5 harg5 arg6 harg6 arg7 harg7 arg8 harg8) K := by
  rw [cc0__gmm_body_eq_skeleton]; unfold cc0__gmm_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  have rd3 : View.readAt (Elt F) arg3.view (Rect.unit (s := S40) (k0_off1 i) S1.size (k0_off1_inb i)).toLoadRect (harg3.unread T) (Shape.Idx.first (numel1_S1.symm ▸ Nat.one_pos)) = actAt T i := by
    unfold actAt; exact congrFun (harg3.read_unread T) _
  have hc2' : k0_cond2 (View.readAt (Elt F) arg3.view (Rect.unit (s := S40) (k0_off1 i) S1.size (k0_off1_inb i)).toLoadRect (harg3.unread T) (Shape.Idx.first (numel1_S1.symm ▸ Nat.one_pos))) = 1#1 := by rw [rd3]; exact hc2
  have rd4 : View.readAt (Elt F) arg4.view (Rect.unit (s := S256x1024) ![0, 0] S256x1024.size inb_S256x1024_S256x1024_0_0).toLoadRect (harg4.unread x) = x :=
    (View.readAt_full _ _ _).trans (harg4.read_unread _)
  have rd5 : View.readAt (Elt F) arg5.view (Rect.unit (s := S1x1024x1024) ![0, 0, 0] S1x1024x1024.size inb_S1x1024x1024_S1x1024x1024_0_0_0).toLoadRect (harg5.unread w1) = w1 :=
    (View.readAt_full _ _ _).trans (harg5.read_unread _)
  have rd6 : View.readAt (Elt F) arg6.view (Rect.unit (s := S1x1024x1024) ![0, 0, 0] S1x1024x1024.size inb_S1x1024x1024_S1x1024x1024_0_0_0).toLoadRect (harg6.unread w2) = w2 :=
    (View.readAt_full _ _ _).trans (harg6.read_unread _)
  have rd7 : View.readAt (Elt F) arg7.view (Rect.unit (s := S256x1) ![0, 0] S256x1.size inb_S256x1_S256x1_0_0).toLoadRect (harg7.unread g) = g :=
    (View.readAt_full _ _ _).trans (harg7.read_unread _)
  have rd8 : View.readAt (Elt F) arg8.view (Rect.unit (s := S256x1024) ![0, 0] S256x1024.size inb_S256x1024_S256x1024_0_0).toLoadRect (harg8.unread acc) = acc :=
    (View.readAt_full _ _ _).trans (harg8.read_unread _)
  have rc8 : ∀ (w : Vec F S256x1024 .f32) (L : List (View.Piece (Elt F) S256x1024 .f32)), arg8.view.readCov (Val := Elt F) (⟨Rect.unit (s := S256x1024) ![0, 0] S256x1024.size inb_S256x1024_S256x1024_0_0, w⟩ :: L) (Rect.unit (s := S256x1024) ![0, 0] S256x1024.size inb_S256x1024_S256x1024_0_0).toLoadRect = w :=
    fun w L => View.readCov_full _ _ _ _ _
  have es : step i (actAt T i) x w1 w2 g acc = (k0_pay3 (k0_pay2 x w1 acc w2) g) := by
    unfold step closed added opened; rw [if_neg hc1, if_pos hc2, if_pos hc3]
  rw [es]
  sl_exec (disch := first | sl_exact hc1 | sl_exact hc2' | sl_exact hc3); sl_step; iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  iexists _; isplitr
  swap; · iexact H8
  ipureintro; refine (View.read_writes_full _ _ _ _ _).trans ?_
  (try delta gmm_last_act.sl.r); (try delta gmm_last_act.sl.r_1); (try delta gmm_last_act.sl.r_2); (try delta gmm_last_act.sl.v11); (try delta gmm_last_act.sl.v13); (try delta gmm_last_act.sl.v17); (try delta gmm_last_act.sl.v18); (try delta gmm_last_act.sl.v20); (try delta gmm_last_act.sl.v24); (try delta gmm_last_act.sl.H8_1); (try delta gmm_last_act.sl.H8_2); (try delta gmm_last_act.sl.H8_3)
  (try rw [rc8]); (try rw [rc8]); (try rw [rd4]); (try rw [rd5]); (try rw [rd6]); (try rw [rd7]); (try rw [rd8]); try rfl

end Cert.TilesIdeal.Gmm

end
-- ==== Proof.Tiles.GmmRegion.lean ====
/- The expert-tile call as a region of the program, at any contents of its two tables: what its proof data are (the tile
   accumulated over the hidden blocks), and that the body meets them at every point. -/
module

public import proofs.«01_k».proof.Proof.Tiles.GmmBody
public import Idealize.ShloMosaic.Lib.Pipeline.RegionArraysTS

@[expose] public section

set_option maxRecDepth 16384

noncomputable section

namespace Cert.TilesIdeal.Gmm

open Cert.TilesIdeal Cert.TilesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is cleared at the first of its four hidden blocks, -/
theorem cond1_iff (t : Fin grid0.N) : k0_cond1 (grid0.coords t) = 1#1 ↔ t.val % 4 = 0 := by
  have e1 : (grid0.coords t 1).val = t.val / 1 % 4 := Pipeline.Grid.coords_val t 1 (by decide) rfl
  have h : k0_cond1 (grid0.coords t) = 1#1 ↔ t.val / 1 % 4 = 0 := by
    simp only [k0_cond1, e1]
    word_cmp
  rw [h]; omega
/-- and weighted at the last. -/
theorem cond3_iff (t : Fin grid0.N) : k0_cond3 (grid0.coords t) = 1#1 ↔ t.val % 4 = 3 := by
  have e1 : (grid0.coords t 1).val = t.val / 1 % 4 := Pipeline.Grid.coords_val t 1 (by decide) rfl
  have h : k0_cond3 (grid0.coords t) = 1#1 ↔ t.val / 1 % 4 = 3 := by
    simp only [k0_cond3, e1]
    word_cmp
  rw [h]; omega

variable (a : (pcfg0 (F := F)).Adm) (W : Dev nD → Valuation τ sig (Elt F))

/-- The activity word the configuration reads is the one the body loads. -/
theorem act_eq (i : grid0.Coords) : a.1.atD 1 (k0_off1 i) = actAt (a.1 1) i := by
  unfold Pipeline.Prefetch.Contents.atD
  rw [dif_pos (show ∀ b : Fin (pcfg0 (F := F).pre.ref 1).ty.shape.rank, k0_off1 i b + 1 ≤ (pcfg0 (F := F).pre.ref 1).ty.shape.size b from
    fun b => match b with | ⟨0, _⟩ => k0_off1_inb i 0)]
  unfold actAt
  refine congrArg (a.1 1) (funext fun b => Fin.ext ?_)
  show k0_off1 i b = k0_off1 i b + 1 * 0
  omega

/-- The output tile is written back after its last hidden block. -/
theorem flush4 (t : Fin (cfg0 a).N) : ((cfg0 a).win 4).flush t = true ↔ t.val % 4 = 3 :=
  Pipeline.Window.flush_reads ((cfg0 a).win 4) rfl (0 : Fin grid0.rank) (show 1 < grid0.bound 0 by decide) (show grid0.fixedAfter reads0_4 0 = true by decide)
    (Pipeline.Window.sep_of_coord cc0_transform_4 0 0 (fun _ => rfl) (by decide)) (P := 4) (m := 3) (show grid0.stride 0 = 4 by decide) rfl t

/-- Window `w`'s block at point `t` of the array the region finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

abbrev xb (c : Dev nD) (t : Fin (cfg0 a).N) : Vec F S256x1024 .f32 := iblk a W c 0 t
abbrev w1b (c : Dev nD) (t : Fin (cfg0 a).N) : Vec F S1x1024x1024 .f32 := iblk a W c 1 t
abbrev w2b (c : Dev nD) (t : Fin (cfg0 a).N) : Vec F S1x1024x1024 .f32 := iblk a W c 2 t
abbrev gb (c : Dev nD) (t : Fin (cfg0 a).N) : Vec F S256x1 .f32 := iblk a W c 3 t

/-- What point `t`'s body makes of the tile. -/
abbrev stepAt (c : Dev nD) (t : Fin (cfg0 a).N) (acc : Vec F S256x1024 .f32) : Vec F S256x1024 .f32 :=
  step (grid0.coords t) (actAt (a.1 1) (grid0.coords t)) (xb a W c t) (w1b a W c t) (w2b a W c t) (gb a W c t) acc

/-- What the current tile holds before point `n`. -/
def accAt (c : Dev nD) : ℕ → Vec F S256x1024 .f32
  | 0 => k0_pay1 (F := F)
  | n + 1 => if h : n < (cfg0 a).N then stepAt a W c ⟨n, h⟩ (accAt c n) else accAt c n

theorem accAt_succ (c : Dev nD) (t : Fin (cfg0 a).N) : accAt a W c (t.val + 1) = stepAt a W c t (accAt a W c t.val) :=
  dif_pos t.isLt

/-- At the first hidden block what the tile held does not matter. -/
theorem step_first (i : grid0.Coords) (h : k0_cond1 i = 1#1) (v : Elt F .i32) (x : Vec F S256x1024 .f32) (w1 w2 : Vec F S1x1024x1024 .f32) (g : Vec F S256x1 .f32)
    (acc acc' : Vec F S256x1024 .f32) : step i v x w1 w2 g acc = step i v x w1 w2 g acc' := by
  unfold step opened; rw [if_pos h, if_pos h]
/-- A point that neither clears, adds nor weights leaves the tile. -/
theorem step_idle (i : grid0.Coords) (v : Elt F .i32) (h1 : ¬k0_cond1 i = 1#1) (h2 : ¬k0_cond2 v = 1#1) (h3 : ¬k0_cond3 i = 1#1)
    (x : Vec F S256x1024 .f32) (w1 w2 : Vec F S1x1024x1024 .f32) (g : Vec F S256x1 .f32) (acc : Vec F S256x1024 .f32) : step i v x w1 w2 g acc = acc := by
  unfold step closed added opened; rw [if_neg h1, if_neg h2, if_neg h3]

/-- The two tables, one by one. -/
theorem tables_eq (c : Dev nD) :
    (Pipeline.prefHeld pre0 c (fun _ => fullShare.right) a.1 : sProp 𝕄)
      = iprop(owns (c : Thread nD τ) (Memref.whole main_arg0) fullShare.right (a.1 0) ∗ owns (c : Thread nD τ) (Memref.whole main_arg1) fullShare.right (a.1 1)) := by
  unfold Pipeline.prefHeld
  rw [show (Finset.univ : Finset (Fin 2)) = {0, 1} from rfl, bigSep_insert (by decide), bigSep_singleton]
  exact congrArg₂ BI.sep (owns_whole (c : Thread nD τ) main_arg0 fullShare.right (a.1 0)).symm (owns_whole (c : Thread nD τ) main_arg1 fullShare.right (a.1 1)).symm

/-- Between points: the scoped buffers no window stages and the tables. -/
def PhiS (c : Dev nD) : sProp 𝕄 :=
  iprop(iprop(Pipeline.scopedRest (Ix := Unit) (Name := ℕ) (U := UR sig nD τ) (Lvl := ℕ) (Val := Elt F) spec0 c ∗ BI.emp) ∗ Pipeline.prefHeld pre0 c (fun _ => fullShare.right) a.1)

/-- The proof data: the arrays as found; after point `t` the inputs' blocks in place and the tile as accumulated; nothing owed. -/
def dat (c : Dev nD) : Dat τ (Elt F) Unit ℕ (UR sig nD τ) ℕ (cfg0 a) c where
  A w := W c (Proc.devRef .tc (Pipeline.arrRef spec0 w))
  after w t := match w with
    | ⟨0, _⟩ => iblk a W c 0 t
    | ⟨1, _⟩ => iblk a W c 1 t
    | ⟨2, _⟩ => iblk a W c 2 t
    | ⟨3, _⟩ => iblk a W c 3 t
    | ⟨4, _⟩ => accAt a W c (t.val + 1)
  Φ _ := PhiS a c
  q _ := fullShare
  owed _ := 0

theorem A_eq (c : Dev nD) (w : Fin (cfg0 a).W) : (dat a W c).A w = W c (Proc.devRef .tc (Pipeline.arrRef spec0 w)) := by
  dsimp only [dat]
theorem after_0 (c : Dev nD) (t : Fin (cfg0 a).N) : (dat a W c).after 0 t = iblk a W c 0 t := rfl
theorem after_1 (c : Dev nD) (t : Fin (cfg0 a).N) : (dat a W c).after 1 t = iblk a W c 1 t := rfl
theorem after_2 (c : Dev nD) (t : Fin (cfg0 a).N) : (dat a W c).after 2 t = iblk a W c 2 t := rfl
theorem after_3 (c : Dev nD) (t : Fin (cfg0 a).N) : (dat a W c).after 3 t = iblk a W c 3 t := rfl
theorem after_4 (c : Dev nD) (t : Fin (cfg0 a).N) : (dat a W c).after 4 t = accAt a W c (t.val + 1) := rfl

/-- Each input's current buffer holds its block at every point, fetched there or not. -/
theorem before_0 (c : Dev nD) (t : Fin (cfg0 a).N) (d) : (dat a W c).before 0 t d = iblk a W c 0 t :=
  ((dat a W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat a W c).before 1 t d = iblk a W c 1 t :=
  ((dat a W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dat a W c).before 2 t d = iblk a W c 2 t :=
  ((dat a W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dat a W c).before 3 t d = iblk a W c 3 t :=
  ((dat a W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output tile is left alone exactly at an inactive tile's middle hidden blocks. -/
theorem idle_iff (t : Fin (cfg0 a).N) : (cfg0 a).idle 4 (grid0.coords t) = true ↔
    ¬k0_cond1 (grid0.coords t) = 1#1 ∧ ¬k0_cond2 (actAt (a.1 1) (grid0.coords t)) = 1#1 ∧ ¬k0_cond3 (grid0.coords t) = 1#1 := by
  show (!(k0_cond1 (grid0.coords t) == 1#1) && !(k0_cond2 (a.1.atD 1 (k0_off1 (grid0.coords t))) == 1#1) && !(k0_cond3 (grid0.coords t) == 1#1)) = true ↔ _
  rw [act_eq]
  simp only [Bool.and_eq_true, Bool.not_eq_true', beq_eq_false_iff_ne, ne_eq, and_assoc]

/-- Past a tile's first hidden block the buffer holds what the points before accumulated. -/
theorem before_4 (c : Dev nD) (d) : ∀ (n : ℕ) (h : n < (cfg0 a).N), ¬n % 4 = 0 → (dat a W c).before 4 ⟨n, h⟩ d = accAt a W c n
  | 0, _, h0 => absurd rfl h0
  | n + 1, h, h0 => by
    have hn : n < (cfg0 a).N := Nat.lt_of_succ_lt h
    have hf : ((cfg0 a).win 4).flush ⟨n, hn⟩ = false := Bool.eq_false_iff.mpr fun e => by
      have := (flush4 a ⟨n, hn⟩).mp e; simp only at this; omega
    rw [(dat a W c).before_of_pos 4 ⟨n + 1, h⟩ (Nat.succ_ne_zero n) rfl d]
    show (if ((cfg0 a).win 4).flush ⟨n, hn⟩ = true then d else (dat a W c).left 4 ⟨n, hn⟩ d) = _
    rw [if_neg (by rw [hf]; exact Bool.false_ne_true)]
    unfold Dat.left
    rw [show accAt a W c (n + 1) = stepAt a W c ⟨n, hn⟩ (accAt a W c n) from accAt_succ a W c ⟨n, hn⟩]
    cases hi : (cfg0 a).idle 4 ((cfg0 a).grid.coords ⟨n, hn⟩) with
    | true =>
      obtain ⟨h1, h2, h3⟩ := (idle_iff a ⟨n, hn⟩).mp hi
      have hn0 : ¬n % 4 = 0 := fun e => h1 ((cond1_iff ⟨n, hn⟩).mpr e)
      show (dat a W c).before 4 ⟨n, hn⟩ d = _
      rw [before_4 c d n hn hn0, stepAt, step_idle _ _ h1 h2 h3]
    | false =>
      show (dat a W c).after 4 ⟨n, hn⟩ = _
      rw [after_4]; exact accAt_succ a W c ⟨n, hn⟩

/-- The body at any point: the tile goes from `acc` to what the point makes of it. -/
theorem gmm_body (c : Dev nD) (t : Fin grid0.N) (arg2 : Memref sig .tc .smem S40 .i32) (harg2 : arg2.IsWhole) (arg3 : Memref sig .tc .smem S40 .i32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S256x1 .f32) (harg7 : arg7.IsWhole) (arg8 : Memref sig .tc .vmem S256x1024 .f32) (harg8 : arg8.IsWhole)
    (T : Vec F S40 .i32) (x : Vec F S256x1024 .f32) (w1 w2 : Vec F S1x1024x1024 .f32) (g : Vec F S256x1 .f32) (acc : Vec F S256x1024 .f32) (E : Set ℕ) (K : PUnit → sProp 𝕄) :
    iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare acc
      ∗ (iprop(owns (c : Thread nD τ) arg3 fullShare.right T ∗ owns (c : Thread nD τ) arg4 fullShare x ∗ owns (c : Thread nD τ) arg5 fullShare w1 ∗ owns (c : Thread nD τ) arg6 fullShare w2 ∗ owns (c : Thread nD τ) arg7 fullShare g ∗ owns (c : Thread nD τ) arg8 fullShare (step (grid0.coords t) (actAt T (grid0.coords t)) x w1 w2 g acc)) -∗ K ⟨⟩))
      ⊢ wp frame (wpE (defs₀ (F := F)) Variants.none c none) E (cc0__gmm_body (grid0.coords t) arg2 harg2 arg3 harg3 arg4 harg4 arg5 harg5 arg6 harg6 arg7 harg7 arg8 harg8) K := by
  by_cases h1 : k0_cond1 (grid0.coords t) = 1#1
  · have h3 : ¬k0_cond3 (grid0.coords t) = 1#1 := by rw [cond1_iff] at h1; rw [cond3_iff]; omega
    by_cases h2 : k0_cond2 (actAt T (grid0.coords t)) = 1#1
    · exact gmm_first_act c _ _ _ _ _ _ _ _ _ _ _ _ _ _ _ T x w1 w2 g acc h1 h2 h3 E K
    · exact gmm_first_off c _ _ _ _ _ _ _ _ _ _ _ _ _ _ _ T x w1 w2 g acc h1 h2 h3 E K
  · by_cases h3 : k0_cond3 (grid0.coords t) = 1#1
    · by_cases h2 : k0_cond2 (actAt T (grid0.coords t)) = 1#1
      · exact gmm_last_act c _ _ _ _ _ _ _ _ _ _ _ _ _ _ _ T x w1 w2 g acc h1 h2 h3 E K
      · exact gmm_last_off c _ _ _ _ _ _ _ _ _ _ _ _ _ _ _ T x w1 w2 g acc h1 h2 h3 E K
    · by_cases h2 : k0_cond2 (actAt T (grid0.coords t)) = 1#1
      · exact gmm_mid_act c _ _ _ _ _ _ _ _ _ _ _ _ _ _ _ T x w1 w2 g acc h1 h2 h3 E K
      · exact gmm_mid_off c _ _ _ _ _ _ _ _ _ _ _ _ _ _ _ T x w1 w2 g acc h1 h2 h3 E K

/-- The kernel body at point `t`, on what the pipeline calls it with. -/
abbrev bodyAt (t : Fin (cfg0 a).N) : Prog (TpuEff nD τ sig (Elt F) Λ₀ .tc) PUnit :=
  cc0__gmm_body (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
/-- The body table's row at point `t` is that. -/
theorem defs₀_row (t : Fin (cfg0 a).N) : defs₀ (F := F) .tc (cfg0 a).body ((cfg0 a).bodyArgs t ((cfg0 a).slots t)) = bodyAt a t := by
  unfold defs₀; rw [Defs.onTc_tc]

abbrev st (t : Fin (cfg0 a).N) (w : Fin (cfg0 a).W) := ((cfg0 a).win w).stage ((cfg0 a).slots t w)

/-- What a window that is written at a point is left with, -/
theorem leaves_live (c : Dev nD) (t : Fin (cfg0 a).N) (w : Fin (cfg0 a).W) (h : (cfg0 a).idle w (grid0.coords t) = false) :
    (dat a W c).leavesExact w t = owns (c : Thread nD τ) (st a t w) fullShare ((dat a W c).after w t) := by
  unfold Dat.leavesExact; rw [show (cfg0 a).idle w ((cfg0 a).grid.coords t) = false from h]
/-- and one that is not. -/
theorem leaves_idle (c : Dev nD) (t : Fin (cfg0 a).N) (w : Fin (cfg0 a).W) (h : (cfg0 a).idle w (grid0.coords t) = true) (hf : ((cfg0 a).win w).flush t = false) :
    (dat a W c).leavesExact w t = iprop(∃ d, owns (c : Thread nD τ) (st a t w) fullShare ((dat a W c).before w t d)) := by
  unfold Dat.leavesExact; rw [show (cfg0 a).idle w ((cfg0 a).grid.coords t) = true from h, hf]

/-- What the output's buffer is left with: the accumulated tile, in either case. -/
theorem leaves_4 (c : Dev nD) (t : Fin (cfg0 a).N) :
    owns (c : Thread nD τ) (st a t 4) fullShare (accAt a W c (t.val + 1)) ⊢ ((dat a W c).leavesExact 4 t : sProp 𝕄) := by
  cases hi : (cfg0 a).idle 4 (grid0.coords t) with
  | false => rw [leaves_live a W c t 4 hi, after_4]
  | true =>
    obtain ⟨h1, h2, h3⟩ := (idle_iff a t).mp hi
    have hf : ((cfg0 a).win 4).flush t = false := Bool.eq_false_iff.mpr fun e => h3 ((cond3_iff t).mpr ((flush4 a t).mp e))
    have hn0 : ¬t.val % 4 = 0 := fun e => h1 ((cond1_iff t).mpr e)
    rw [leaves_idle a W c t 4 hi hf, accAt_succ, stepAt, step_idle _ _ h1 h2 h3]
    iintro H
    iexists (accAt a W c t.val)
    have e : (dat a W c).before 4 t (accAt a W c t.val) = accAt a W c t.val := before_4 a W c _ t.val t.isLt hn0
    rw [e]
    iexact H

/-- What the body is called with at point `t`, -/
def bodyPre (c : Dev nD) (t : Fin (cfg0 a).N) : sProp 𝕄 :=
  iprop((dat a W c).Φ t.castSucc ∗ (dat a W c).owesAt () t.castSucc
    ∗ (∃ d, owns (c : Thread nD τ) (st a t 0) fullShare ((dat a W c).before 0 t d))
    ∗ (∃ d, owns (c : Thread nD τ) (st a t 1) fullShare ((dat a W c).before 1 t d))
    ∗ (∃ d, owns (c : Thread nD τ) (st a t 2) fullShare ((dat a W c).before 2 t d))
    ∗ (∃ d, owns (c : Thread nD τ) (st a t 3) fullShare ((dat a W c).before 3 t d))
    ∗ (∃ d, owns (c : Thread nD τ) (st a t 4) fullShare ((dat a W c).before 4 t d)))
/-- and what it returns. -/
def bodyPost (c : Dev nD) (t : Fin (cfg0 a).N) : sProp 𝕄 :=
  iprop((dat a W c).Φ t.succ ∗ (dat a W c).owesAt () t.succ
    ∗ (dat a W c).leavesExact 0 t ∗ (dat a W c).leavesExact 1 t ∗ (dat a W c).leavesExact 2 t ∗ (dat a W c).leavesExact 3 t
    ∗ (dat a W c).leavesExact 4 t)

/-- What the buffer holds leads to the accumulated tile. -/
theorem reach (c : Dev nD) (t : Fin (cfg0 a).N) (d) : stepAt a W c t ((dat a W c).before 4 t d) = accAt a W c (t.val + 1) := by
  rw [accAt_succ]
  by_cases h0 : t.val % 4 = 0
  · exact step_first _ ((cond1_iff t).mpr h0) _ _ _ _ _ _ _
  · rw [before_4 a W c d t.val t.isLt h0]

set_option maxHeartbeats 4000000 in
/-- The body at any point. -/
theorem sound_body (c : Dev nD) (t : Fin (cfg0 a).N) :
    bodyPre a W c t ⊢ wp frame (wpE (defs₀ (F := F)) Variants.none c none) Set.univ (bodyAt a t) (fun _ => bodyPost a W c t) := by
  unfold bodyPre bodyPost bodyAt
  simp only [before_0, before_1, before_2, before_3]
  rw [show (dat a W c).owesAt () t.succ = (dat a W c).owesAt () t.castSucc from rfl,
    show (dat a W c).Φ t.succ = PhiS a c from rfl, show (dat a W c).Φ t.castSucc = PhiS a c from rfl,
    leaves_live a W c t 0 rfl, leaves_live a W c t 1 rfl, leaves_live a W c t 2 rfl, leaves_live a W c t 3 rfl,
    after_0, after_1, after_2, after_3]
  unfold PhiS; rw [tables_eq]
  iintro ⟨⟨HR, HT0, HT1⟩, Ho, ⟨%d0, H0⟩, ⟨%d1, H1⟩, ⟨%d2, H2⟩, ⟨%d3, H3⟩, ⟨%d4, H4⟩⟩
  iapply (gmm_body c t _ _ _ _ _ _ _ _ _ _ _ _ _ _ (a.1 1) (xb a W c t) (w1b a W c t) (w2b a W c t) (gb a W c t) ((dat a W c).before 4 t d4) Set.univ _)
  isplitl [HT1]; · iexact HT1
  isplitl [H0]; · iexact H0
  isplitl [H1]; · iexact H1
  isplitl [H2]; · iexact H2
  isplitl [H3]; · iexact H3
  isplitl [H4]; · iexact H4
  iintro ⟨HT1, H0, H1, H2, H3, H4⟩
  isplitl [HR HT0 HT1]
  · isplitl [HR]; · iexact HR
    isplitl [HT0]; · iexact HT0
    iexact HT1
  isplitl [Ho]; · iexact Ho
  isplitl [H0]; · iexact H0
  isplitl [H1]; · iexact H1
  isplitl [H2]; · iexact H2
  isplitl [H3]; · iexact H3
  iapply (leaves_4 a W c t)
  rw [← reach a W c t d4]
  iexact H4

/-- The obligation at every point. -/
theorem body_obligation (c : Dev nD) : BodyObligation (dat a W c) (defs₀ (F := F)) Variants.none () Set.univ := fun t => by
  rw [bigSep_W0, bigSep_W0, defs₀_row]
  exact triple_restated (sound_body a W c t) rfl .rfl fun _ => .rfl

end Cert.TilesIdeal.Gmm

end
-- ==== Proof.Tiles.Run.lean ====
/- The expert-tile call as a program of its own: when every tile names one of the eight experts, it runs, its arguments end
   unchanged, and its result holds what the region's proof data compute. -/
module

public import proofs.«01_k».proof.Proof.Tiles.GmmRegion
public import proofs.«01_k».proof.Proof.Gen.Pre_tiles_name_experts
public import Idealize.ShloMosaic.Lib.Pipeline.Quiescent
public import Idealize.ShloMosaic.Lib.StableHlo.Predicate

@[expose] public section

set_option maxRecDepth 16384

noncomputable section

namespace Cert.TilesIdeal.Run

open Cert.TilesIdeal Cert.TilesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word that is at least zero and below eight, read signed, is at most seven. -/
theorem word_le (x : BitVec 32) (h0 : (0#32).sle x = true) (h8 : x.slt 8#32 = true) : x.toNat ≤ 7 := by
  have a0 : (0 : ℤ) ≤ x.toInt := by
    have := of_decide_eq_true h0
    simpa using this
  have a8 : x.toInt < 8 := by
    have := of_decide_eq_true h8
    simpa using this
  rw [BitVec.toInt_eq_toNat_cond] at a0 a8
  split at a0 <;> omega

/-- Two truth words whose conjunction is one are both one. -/
theorem both (p q : Bool) (h : BitVec.ofBool p &&& BitVec.ofBool q = 1#1) : p = true ∧ q = true := by
  revert h; cases p <;> cases q <;> decide

/-- Where the precondition's function is all ones, every word of the first table is at most seven. -/
theorem named [Cert.Pre_tiles_name_experts.Facts] (a0 a1 : IVec S40 32) (xs : FVec F S10240x1024 .f32) (w1 : FVec F S8x4096x1024 .f32) (w2 : FVec F S8x1024x4096 .f32) (g : FVec F S10240x1 .f32)
    (h : Cert.Pre_tiles_name_experts.fn (F := F) a0 a1 xs w1 w2 g = fun _ => 1#1) (i : S40.Idx) : (a0 i).toNat ≤ 7 := by
  have e : (IntOp.cmpi .sge (a0 i) 0#32) &&& (IntOp.cmpi .slt (a0 i) 8#32) = 1#1 := congrFun h i
  simp only [IntOp.cmpi] at e
  obtain ⟨e0, e8⟩ := both _ _ e
  exact word_le (a0 i) e0 e8

variable (m : (ℓ : Loc nD τ sig) → Buf (Elt F) ℓ)

/-- The contents of the two tables in memory `m`. -/
def contents : pre0.Contents (Elt F) := fun k => m (((0 : Dev nD).tc : Thread nD τ).loc (pre0.ref k))

/-- Every tile names one of the eight experts. -/
def Named : Prop := ∀ i : S40.Idx, (m (((0 : Dev nD).tc : Thread nD τ).loc main_arg0) i : BitVec 32).toNat ≤ 7

variable (hm : Named m)
include hm

/-- Then every block of the call is inside its array. -/
theorem contents_ok : ok0 (F := F) (contents m) := by
  have hx : ∀ (i : grid0.Coords), ∃ e : ℕ, e ≤ 7 ∧ cc0_transform_1 k0_off1_inb numel1_S1 (contents m) i = ![e, (i 1).val, 0]
      ∧ cc0_transform_2 k0_off1_inb numel1_S1 (contents m) i = ![e, 0, (i 1).val] := fun i => by
    refine ⟨((contents m 0 : IVec S40 32) ((Rect.unit (s := S40) _ S1.size (k0_off1_inb i)).emb (Shape.Idx.first (numel1_S1.symm ▸ Nat.one_pos)))).toNat, hm _, ?_, ?_⟩
    · have e1 : (BitVec.ofNat 32 (i 1).val).toNat = (i 1).val := by
        rw [BitVec.toNat_ofNat]; exact Nat.mod_eq_of_lt (lt_trans (i 1).isLt (by decide))
      show (![_, (BitVec.ofNat 32 (i 1).val).toNat, 0] : Fin 3 → ℕ) = _
      rw [e1]; rfl
    · have e1 : (BitVec.ofNat 32 (i 1).val).toNat = (i 1).val := by
        rw [BitVec.toNat_ofNat]; exact Nat.mod_eq_of_lt (lt_trans (i 1).isLt (by decide))
      show (![_, 0, (BitVec.ofNat 32 (i 1).val).toNat] : Fin 3 → ℕ) = _
      rw [e1]; rfl
  have h4 : ∀ i : grid0.Coords, (i 1).val < 4 := fun i => (i 1).isLt
  refine ⟨fun i => ?_, fun i => ?_⟩
  · obtain ⟨e, he, e1, -⟩ := hx i
    refine ⟨fun b => ?_, .inl rfl⟩
    rw [e1]
    have := h4 i
    match b with
    | ⟨0, _⟩ => show (e + 1) * 1 ≤ 8; omega
    | ⟨1, _⟩ => show ((i 1).val + 1) * 1024 ≤ 4096; omega
    | ⟨2, _⟩ => show (0 + 1) * 1024 ≤ 1024; omega
  · obtain ⟨e, he, -, e1⟩ := hx i
    refine ⟨fun b => ?_, .inl rfl⟩
    rw [e1]
    have := h4 i
    match b with
    | ⟨0, _⟩ => show (e + 1) * 1 ≤ 8; omega
    | ⟨1, _⟩ => show (0 + 1) * 1024 ≤ 1024; omega
    | ⟨2, _⟩ => show ((i 1).val + 1) * 1024 ≤ 4096; omega

/-- The tables the call runs at. -/
def adm : (pcfg0 (F := F)).Adm := ⟨contents m, contents_ok m hm⟩

/-- The call's proof data at each core. -/
def dats (_ : Fin 1) (c : Dev nD) : Dat τ (Elt F) Unit ℕ (UR sig nD τ) ℕ (cfg0 (adm m hm)) c :=
  Gmm.dat (adm m hm) (fun c => StableHlo.launchContents m c) c

abbrev pcs : Fin 1 → Pipeline.Cfg sig Λ₀ := Pipeline.pin (pcfgs (F := F)) fun _ => adm m hm

/-- The launch's element of the rounds' algebra. -/
def u₀ : UR sig nD τ :=
  initOf (Pipeline.cells (pcs m hm) ((launch0 (F := F)).cellOf_inj fun _ => adm m hm))
    (Pipeline.launchToks (pcs m hm) ((launch0 (F := F)).cellOf_inj fun _ => adm m hm))

theorem share_eq (c : Dev nD) (w : Fin (cfg0 (adm m hm)).W) : (dats m hm 0 c).share w = fullShare := by
  unfold Dat.share; split <;> rfl

theorem tables_found (c : Dev nD) (j : Fin 2) : m ((c : Thread nD τ).loc (pre0.ref j)) = (adm m hm).1 j := by
  obtain rfl : c = 0 := Subsingleton.elim _ _
  rfl

/-- What holds at the end: every window's array as computed, every table as found. -/
def Post : PUnit × MemSt nD τ sig (Elt F) → Prop := fun r =>
  ∀ c : Dev nD, (∀ w : Fin (cfg0 (adm m hm)).W, r.2.mem (((cfg0 (adm m hm)).win w).arr.view.loc (c : Thread nD τ)) = (dats m hm 0 c).arrAt w (cfg0 (adm m hm)).N)
    ∧ ∀ j, r.2.mem ((c : Thread nD τ).loc (pre0.ref j)) = (adm m hm).1 j

-- the launch theorem's implicit arguments are found by unifying its conclusion with this one
set_option backward.isDefEq.respectTransparency.types false in
set_option maxHeartbeats 4000000 in
/-- THE RUN. Every execution from memory `m` with zero counters ends so, with every counter at zero. -/
theorem run (ρ : Dev nD → PrngReg) :
    θ_run defs (onTc (τ := τ) (main (F := F))) ⟨m, fun _ => 0, ρ⟩ (fun r => Post m hm r ∧ r.2.sem = fun _ => 0) :=
  Pipeline.θ_run_region_noSem_pf_quiescent pcfgs (fun _ => adm m hm) (dats m hm) () ((launch0 (F := F)).cellOf_inj fun _ => adm m hm) (0 : Fin 1)
    (launch0 (F := F)).win.to₀ (launch0 (F := F)).pre emb₁ defs₀ Variants.none m ρ main
    (hbody := fun c => (Gmm.body_obligation (adm m hm) (fun c => StableHlo.launchContents m c) c).loose) (hne := (launch0 (F := F)).block_pos)
    (harr := (launch0 (F := F)).arr_whole) (hstage := (launch0 (F := F)).stage_whole) (howed := fun _ _ => rfl)
    (u₀ := u₀ m hm) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hm) (dats m hm) 0 (launch0 (F := F)).win.arr_inj c (launch0 (F := F)).arr_whole
      (share_eq m hm c) _ _ fun _ => rfl)
    (hpf := tables_found m hm)
    (X := fun _ => iprop(emp)) (Y := fun _ => iprop(emp)) (Z := fun _ => iprop(emp))
    (hX := fun c => by rw [unscopedRestP0_eq]; iintro -; isplitr <;> iempintro)
    (hin := fun c => by
      show _ ⊢ Gmm.PhiS (adm m hm) c
      unfold Gmm.PhiS
      iintro ⟨-, HT, HR⟩
      isplitl [HR]
      · isplitl [HR]; · iexact HR
        iempintro
      iexact HT)
    (hout := fun c => by
      show Gmm.PhiS (adm m hm) c ⊢ _
      unfold Gmm.PhiS
      iintro ⟨⟨HR, -⟩, -⟩
      isplitr; · iempintro
      iexact HR)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run at the arguments and the result. -/
theorem run_args (ρ : Dev nD → PrngReg) :
    θ_run defs (onTc (τ := τ) (main (F := F))) ⟨m, fun _ => 0, ρ⟩ (fun r => (∀ c : Dev nD,
      r.2.mem ((c.tc : Thread nD τ).loc main_v0) = (dats m hm 0 c).arrAt 4 (cfg0 (adm m hm)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun _ h => ⟨fun c => ⟨(h.1 c).1 4, ((h.1 c).2 0).trans (tables_found m hm c 0).symm, ((h.1 c).2 1).trans (tables_found m hm c 1).symm,
    ((h.1 c).1 0).trans ((dats m hm 0 c).arrAt_in 0 rfl _), ((h.1 c).1 1).trans ((dats m hm 0 c).arrAt_in 1 rfl _),
    ((h.1 c).1 2).trans ((dats m hm 0 c).arrAt_in 2 rfl _), ((h.1 c).1 3).trans ((dats m hm 0 c).arrAt_in 3 rfl _)⟩, h.2⟩) (run m hm ρ)

end Cert.TilesIdeal.Run

end
-- ==== Proof.Tiles.Value.lean ====
/- What the expert-tile call leaves in its result, read at an element: the tile's expert applied to the row, weighted by the
   row's gate weight, in an active tile; zero in an inactive one. -/
module

public import proofs.«01_k».proof.Proof.Tiles.Mix
public import proofs.«01_k».proof.Proof.Tiles.Run
public import Idealize.ShloMosaic.Lib.Pipeline.Value
public import Idealize.ShloMosaic.Lib.Pipeline.ValueKit.Geometry
public import Idealize.ShloMosaic.Lib.MatmulPlain

@[expose] public section

set_option maxRecDepth 16384

noncomputable section

namespace Cert.TilesIdeal.Value

open Cert.TilesIdeal Cert.TilesIdeal.Gen Cert.TilesIdeal.Gmm Cert.Tiles.Mix
open Idealize.ShloMosaic Idealize.ShloMosaic.TcCoe Idealize.ShloMosaic.ValueIdx

/-! ## The body's arithmetic at an element -/

/-- A weight block with its leading axis of one element dropped. -/
theorem drop_at (w : FVec Ideal S1x1024x1024 .f32) (n k : Fin 1024) :
    shapeCast S1024x1024 w shapeCasts_S1x1024x1024_S1024x1024 (ix2 n k) = w (ix3 0 n k) :=
  shapeCast_apply w shapeCasts_S1x1024x1024_S1024x1024 (ix2 n k) (ix3 0 n k)
    (by rewrite [Shape.rowMajor_val_three, Shape.rowMajor_val_two]; show (0 * 1024 + n.val) * 1024 + k.val = n.val * 1024 + k.val; omega)

/-- A product against a transposed block, from zero. -/
theorem product_at (x : FVec Ideal S256x1024 .f32) (w : FVec Ideal S1024x1024 .f32) (r : Fin 256) (n : Fin 1024) :
    matmul dot_S256x1024_S1024x1024_S256x1024_1_1_0_0_n_n none x w (constant S256x1024 .f32 0x00000000#32) (ix2 r n)
      = ∑ k : Fin 1024, x (ix2 r k) * w (ix2 n k) := by
  refine (Ideal.matmul_transposedRhs_apply none x w (constant S256x1024 .f32 0x00000000#32) r n).trans ?_
  show Ideal.ofBits .f32 0x00000000#32 + _ = _
  rw [Ideal.ofBits_zero_f32, zero_add]

theorem logistic_at (z : FVec Ideal S256x1024 .f32) (i : S256x1024.Idx) : logistic z i = Ideal.logistic (z i) := rfl

/-- What a point adds to the tile. -/
theorem pay2_at (x : FVec Ideal S256x1024 .f32) (w1 : FVec Ideal S1x1024x1024 .f32) (acc : FVec Ideal S256x1024 .f32) (w2 : FVec Ideal S1x1024x1024 .f32)
    (r : Fin 256) (d : Fin 1024) : k0_pay2 (F := Ideal) x w1 acc w2 (ix2 r d)
      = acc (ix2 r d) + ∑ n : Fin 1024, silu (∑ k : Fin 1024, x (ix2 r k) * w1 (ix3 0 n k)) * w2 (ix3 0 d n) := by
  unfold k0_pay2
  simp only [addf_apply, product_at, mulf_apply, logistic_at, drop_at]
  rw [shapeCast_apply acc shapeCasts_S256x1024_S256x1024 (ix2 r d) (ix2 r d) rfl]
  rfl

/-- The rows weighted. -/
theorem pay3_at (acc : FVec Ideal S256x1024 .f32) (g : FVec Ideal S256x1 .f32) (r : Fin 256) (d : Fin 1024) :
    k0_pay3 (F := Ideal) acc g (ix2 r d) = acc (ix2 r d) * g (ix2 r 0) := by
  unfold k0_pay3
  simp only [mulf_apply]
  rw [shapeCast_apply acc shapeCasts_S256x1024_S256x1024 (ix2 r d) (ix2 r d) rfl,
    broadcastTo_apply g broadcasts_S256x1_S256x1024 (ix2 r d) (ix2 r 0) (fun a => match a with
      | ⟨0, _⟩ => by show r.val = if (256 : Nat) = 1 then 0 else r.val; rw [if_neg (by decide)]
      | ⟨1, _⟩ => by show 0 = if (1 : Nat) = 1 then 0 else d.val; rw [if_pos rfl])]

/-- The tile is added to in an active tile only. -/
theorem cond2_iff (v : BitVec 32) : k0_cond2 v = 1#1 ↔ ¬v = 0#32 := by
  by_cases h : v = 0#32
  · subst h; decide
  · have e : Scalar.cmpi .ne v 0#32 = 1#1 := by
      show BitVec.ofBool (v != 0#32) = 1#1
      rw [bne_iff_ne.mpr h]; rfl
    unfold k0_cond2
    simp only [e]
    exact ⟨fun _ => h, fun _ => by decide⟩

/-! ## The blocks at a point -/

variable (a : (pcfg0 (F := Ideal)).Adm) (W : Dev nD → Valuation τ sig (Elt Ideal)) (c : Dev nD)

/-- The two tables: each tile's expert, and whether it is active. -/
abbrev t0 : Words := a.1 0
abbrev t1 : Words := a.1 1

/-- Hidden block `j` of tile `q`. -/
def pt (q : Fin 40) (j : Fin 4) : Fin (cfg0 a).N := ⟨4 * q.val + j.val, by show _ < 160; omega⟩

theorem coord0 (q : Fin 40) (j : Fin 4) : (grid0.coords (pt a q j) 0).val = q.val := by
  have e : (grid0.coords (pt a q j) 0).val = (pt a q j).val / 4 % 40 := Pipeline.Grid.coords_val _ 0 (by decide) rfl
  rw [e]; show (4 * q.val + j.val) / 4 % 40 = q.val; omega
theorem coord1 (q : Fin 40) (j : Fin 4) : (grid0.coords (pt a q j) 1).val = j.val := by
  have e : (grid0.coords (pt a q j) 1).val = (pt a q j).val / 1 % 4 := Pipeline.Grid.coords_val _ 1 (by decide) rfl
  rw [e]; show (4 * q.val + j.val) / 1 % 4 = j.val; omega

theorem word40 (n : ℕ) (h : n < 40) : (BitVec.ofNat 32 n).toNat = n := by
  rw [BitVec.toNat_ofNat]; exact Nat.mod_eq_of_lt (by omega)

/-- The one entry of a table a point reads. -/
theorem entry (T : IVec S40 32) (q : Fin 40) (j : Fin 4) :
    T ((Rect.unit (s := S40) (k0_off1 (grid0.coords (pt a q j))) S1.size (k0_off1_inb _)).emb (Shape.Idx.first (numel1_S1.symm ▸ Nat.one_pos))) = T (ix1 q) := by
  refine congrArg T (funext fun b => Fin.ext ?_)
  match b with
  | ⟨0, _⟩ =>
    show (BitVec.ofNat 32 (grid0.coords (pt a q j) 0).val).toNat + 1 * 0 = q.val
    rw [coord0, word40 _ q.isLt]; rfl

/-- The row of the array that row `r` of tile `q` is. -/
def rowOf (q : Fin 40) (r : Fin 256) : Fin 10240 := ⟨q.val * 256 + r.val, by omega⟩

theorem index0 (q : Fin 40) (j : Fin 4) : ((cfg0 a).win 0).index (pt a q j) = ![q.val, 0] := by
  show cc0_transform_0 (grid0.coords (pt a q j)) = _
  unfold cc0_transform_0
  simp only [coord0, word40 _ q.isLt]
  rfl
theorem index1 (q : Fin 40) (j : Fin 4) : ((cfg0 a).win 1).index (pt a q j) = ![(t0 a (ix1 q)).toNat, j.val, 0] := by
  show (![(a.1 0 ((Rect.unit (s := S40) (k0_off1 (grid0.coords (pt a q j))) S1.size (k0_off1_inb _)).emb (Shape.Idx.first (numel1_S1.symm ▸ Nat.one_pos))) : BitVec 32).toNat,
    (BitVec.ofNat 32 (grid0.coords (pt a q j) 1).val).toNat, 0] : Fin 3 → ℕ) = _
  exact congrArg₂ (fun x y : ℕ => (![x, y, 0] : Fin 3 → ℕ)) (congrArg BitVec.toNat (entry a (t0 a) q j)) (by rw [coord1, word40 _ (by omega)])
theorem index2 (q : Fin 40) (j : Fin 4) : ((cfg0 a).win 2).index (pt a q j) = ![(t0 a (ix1 q)).toNat, 0, j.val] := by
  show (![(a.1 0 ((Rect.unit (s := S40) (k0_off1 (grid0.coords (pt a q j))) S1.size (k0_off1_inb _)).emb (Shape.Idx.first (numel1_S1.symm ▸ Nat.one_pos))) : BitVec 32).toNat,
    0, (BitVec.ofNat 32 (grid0.coords (pt a q j) 1).val).toNat] : Fin 3 → ℕ) = _
  exact congrArg₂ (fun x y : ℕ => (![x, 0, y] : Fin 3 → ℕ)) (congrArg BitVec.toNat (entry a (t0 a) q j)) (by rw [coord1, word40 _ (by omega)])
theorem index3 (q : Fin 40) (j : Fin 4) : ((cfg0 a).win 3).index (pt a q j) = ![q.val, 0] := index0 a q j
theorem index4 (q : Fin 40) (j : Fin 4) : ((cfg0 a).win 4).index (pt a q j) = ![q.val, 0] := index0 a q j

/-- The rows, the weights and the gate weights the region finds. -/
abbrev xs : Rows := W c (Proc.devRef .tc main_arg2)
abbrev ws1 : Weights1 := W c (Proc.devRef .tc main_arg3)
abbrev ws2 : Weights2 := W c (Proc.devRef .tc main_arg4)
abbrev gs : Gates := W c (Proc.devRef .tc main_arg5)

theorem x_at (q : Fin 40) (j : Fin 4) (r : Fin 256) (k : Fin 1024) : xb a W c (pt a q j) (ix2 r k) = xs W c (ix2 (rowOf q r) k) := by
  show W c (Proc.devRef .tc main_arg2) ((((cfg0 a).win 0).rect (pt a q j)).emb (ix2 r k)) = _
  refine congrArg (W c (Proc.devRef .tc main_arg2)) (funext fun b => Fin.ext ?_)
  refine (Pipeline.Window.rect_emb_val ((cfg0 a).win 0) (pt a q j) (ix2 r k) b).trans ?_
  rw [index0]
  match b with
  | ⟨0, _⟩ => rfl
  | ⟨1, _⟩ => show 0 * 1024 + k.val = k.val; omega
theorem g_at (q : Fin 40) (j : Fin 4) (r : Fin 256) : gb a W c (pt a q j) (ix2 r 0) = gs W c (ix2 (rowOf q r) 0) := by
  show W c (Proc.devRef .tc main_arg5) ((((cfg0 a).win 3).rect (pt a q j)).emb (ix2 r 0)) = _
  refine congrArg (W c (Proc.devRef .tc main_arg5)) (funext fun b => Fin.ext ?_)
  refine (Pipeline.Window.rect_emb_val ((cfg0 a).win 3) (pt a q j) (ix2 r 0) b).trans ?_
  rw [index3]
  match b with
  | ⟨0, _⟩ => rfl
  | ⟨1, _⟩ => rfl

variable (hq : ∀ j : S40.Idx, (t0 a j).toNat ≤ 7)

theorem w1_at (q : Fin 40) (j : Fin 4) (n k : Fin 1024) :
    w1b a W c (pt a q j) (ix3 0 n k) = ws1 W c (ix3 (named (t0 a) hq q) (unitOf j n) k) := by
  show W c (Proc.devRef .tc main_arg3) ((((cfg0 a).win 1).rect (pt a q j)).emb (ix3 0 n k)) = _
  refine congrArg (W c (Proc.devRef .tc main_arg3)) (funext fun b => Fin.ext ?_)
  refine (Pipeline.Window.rect_emb_val ((cfg0 a).win 1) (pt a q j) (ix3 0 n k) b).trans ?_
  rw [index1]
  match b with
  | ⟨0, _⟩ => show (t0 a (ix1 q)).toNat * 1 + 0 = (t0 a (ix1 q)).toNat; omega
  | ⟨1, _⟩ => rfl
  | ⟨2, _⟩ => show 0 * 1024 + k.val = k.val; omega
theorem w2_at (q : Fin 40) (j : Fin 4) (d n : Fin 1024) :
    w2b a W c (pt a q j) (ix3 0 d n) = ws2 W c (ix3 (named (t0 a) hq q) d (unitOf j n)) := by
  show W c (Proc.devRef .tc main_arg4) ((((cfg0 a).win 2).rect (pt a q j)).emb (ix3 0 d n)) = _
  refine congrArg (W c (Proc.devRef .tc main_arg4)) (funext fun b => Fin.ext ?_)
  refine (Pipeline.Window.rect_emb_val ((cfg0 a).win 2) (pt a q j) (ix3 0 d n) b).trans ?_
  rw [index2]
  match b with
  | ⟨0, _⟩ => show (t0 a (ix1 q)).toNat * 1 + 0 = (t0 a (ix1 q)).toNat; omega
  | ⟨1, _⟩ => show 0 * 1024 + d.val = d.val; omega
  | ⟨2, _⟩ => rfl

/-! ## The tile accumulated over its four hidden blocks -/

/-- What block `j` adds to row `r`, feature `d` of tile `q`. -/
def part (q : Fin 40) (r : Fin 256) (d : Fin 1024) (j : Fin 4) : EReal :=
  if t1 a (ix1 q) = 0#32 then 0 else ∑ n, unit (xs W c) (ws1 W c) (ws2 W c) (named (t0 a) hq q) (rowOf q r) d (unitOf j n)

theorem added_at (q : Fin 40) (j : Fin 4) (r : Fin 256) (d : Fin 1024) (acc : FVec Ideal S256x1024 .f32) :
    added (actAt (a.1 1) (grid0.coords (pt a q j))) (xb a W c (pt a q j)) (w1b a W c (pt a q j)) (w2b a W c (pt a q j)) acc (ix2 r d)
      = acc (ix2 r d) + part a W c hq q r d j := by
  have e : actAt (F := Ideal) (a.1 1) (grid0.coords (pt a q j)) = t1 a (ix1 q) := entry a (t1 a) q j
  unfold added part
  rw [e]
  by_cases h : t1 a (ix1 q) = 0#32
  · rw [if_neg (fun h' => (cond2_iff _).mp h' h), if_pos h, add_zero]
  · rw [if_pos ((cond2_iff _).mpr h), if_neg h, pay2_at]
    refine congrArg (acc (ix2 r d) + ·) (Finset.sum_congr rfl fun n _ => ?_)
    rw [w2_at a W c hq]
    simp only [x_at, w1_at a W c hq]
    rfl

theorem first_at (q : Fin 40) (r : Fin 256) (d : Fin 1024) : accAt a W c ((pt a q 0).val + 1) (ix2 r d) = 0 + part a W c hq q r d 0 := by
  rw [accAt_succ]
  unfold stepAt step closed opened
  rw [if_neg (fun h => by have := (cond3_iff _).mp h; have e : (pt a q 0).val = 4 * q.val + 0 := rfl; omega),
    if_pos ((cond1_iff _).mpr (by have e : (pt a q 0).val = 4 * q.val + 0 := rfl; omega)), added_at a W c hq]
  show Ideal.ofBits .f32 0x00000000#32 + _ = _
  rw [Ideal.ofBits_zero_f32]

theorem mid_at (q : Fin 40) (j : Fin 4) (h1 : ¬j.val = 0) (h3 : ¬j.val = 3) (r : Fin 256) (d : Fin 1024) :
    accAt a W c ((pt a q j).val + 1) (ix2 r d) = accAt a W c (pt a q j).val (ix2 r d) + part a W c hq q r d j := by
  have e : (pt a q j).val = 4 * q.val + j.val := rfl
  rw [accAt_succ]
  unfold stepAt step closed opened
  rw [if_neg (fun h => by have := (cond3_iff _).mp h; omega), if_neg (fun h => by have := (cond1_iff _).mp h; omega), added_at a W c hq]

theorem last_at (q : Fin 40) (r : Fin 256) (d : Fin 1024) :
    accAt a W c ((pt a q 3).val + 1) (ix2 r d) = (accAt a W c (pt a q 3).val (ix2 r d) + part a W c hq q r d 3) * gs W c (ix2 (rowOf q r) 0) := by
  have e : (pt a q 3).val = 4 * q.val + 3 := rfl
  rw [accAt_succ]
  unfold stepAt step closed opened
  rw [if_pos ((cond3_iff _).mpr (by omega)), if_neg (fun h => by have := (cond1_iff _).mp h; omega), pay3_at, added_at a W c hq, g_at]

/-- THE TILE after its last hidden block. -/
theorem tile_at (q : Fin 40) (r : Fin 256) (d : Fin 1024) :
    accAt a W c ((pt a q 3).val + 1) (ix2 r d) = mixed (t0 a) (t1 a) hq (xs W c) (ws1 W c) (ws2 W c) (gs W c) (rowOf q r) d := by
  rw [last_at a W c hq, show (pt a q 3).val = (pt a q 2).val + 1 from rfl, mid_at a W c hq q 2 (by decide) (by decide),
    show (pt a q 2).val = (pt a q 1).val + 1 from rfl, mid_at a W c hq q 1 (by decide) (by decide),
    show (pt a q 1).val = (pt a q 0).val + 1 from rfl, first_at a W c hq]
  have et : tileOf (rowOf q r) = q := Fin.ext (by show (q.val * 256 + r.val) / 256 = q.val; omega)
  unfold part mixed
  rw [et]
  by_cases h : t1 a (ix1 q) = 0#32
  · simp only [if_pos h, add_zero, zero_mul]
  · simp only [if_neg h]
    rw [blocks_eq]
    rfl

/-- Every element of the result is written back, by its tile's last point. -/
theorem covered (i : S10240x1024.Idx) : ∃ t : Fin (cfg0 a).N, ((cfg0 a).win 4).flush t = true ∧ i ∈ (((cfg0 a).win 4).blk t).view.set := by
  have hi : (i 0).val < 10240 := (i 0).isLt
  have hd : (i 1).val < 1024 := (i 1).isLt
  refine ⟨pt a ⟨(i 0).val / 256, by omega⟩ 3, (flush4 a _).mpr (by show (4 * ((i 0).val / 256) + 3) % 4 = 3; omega), ?_⟩
  refine (Pipeline.Window.emb_mem_blk_iff ((cfg0 a).win 4) _ i rfl).mpr fun b => ?_
  rw [index4]
  match b with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-- THE RESULT ARRAY after the call. -/
theorem result_eq : (dat a W c).arrAt 4 (cfg0 a).N
    = fun i : S10240x1024.Idx => mixed (t0 a) (t1 a) hq (xs W c) (ws1 W c) (ws2 W c) (gs W c) (i 0) (i 1) := by
  refine (dat a W c).arrAt_eq_of_emb 4 _ (fun t hf y => ?_) (covered a)
  · have split : ∀ y : S256x1024.Idx, ∃ (r : Fin 256) (d : Fin 1024), y = ix2 r d := fun y => ⟨y 0, y 1, eq_ix2 y⟩
    have h3 := (flush4 a t).mp hf
    have ht : t.val < 160 := t.isLt
    obtain ⟨q, rfl⟩ : ∃ q : Fin 40, t = pt a q 3 := ⟨⟨t.val / 4, by omega⟩, Fin.ext (by show t.val = 4 * (t.val / 4) + 3; omega)⟩
    obtain ⟨r, d, rfl⟩ : ∃ (r : Fin 256) (d : Fin 1024), y = (ix2 r d : S256x1024.Idx) := split y
    refine (tile_at a W c hq q r d).trans ?_
    have e : (((cfg0 a).win 4).rect (pt a q 3)).emb (ix2 r d) = (ix2 (rowOf q r) d : S10240x1024.Idx) := funext fun b => Fin.ext (by
      refine (Pipeline.Window.rect_emb_val ((cfg0 a).win 4) (pt a q 3) (ix2 r d) b).trans ?_
      rw [index4]
      match b with
      | ⟨0, _⟩ => rfl
      | ⟨1, _⟩ => show 0 * 1024 + d.val = d.val; omega)
    exact (congrArg (fun i : S10240x1024.Idx => mixed (t0 a) (t1 a) hq (xs W c) (ws1 W c) (ws2 W c) (gs W c) (i 0) (i 1)) e).symm

end Cert.TilesIdeal.Value

end
-- ==== Proof.Tiles.Reference.lean ====
/- What the dense reference for the expert tiles computes, read at an element: the eight experts' weighted terms added up,
   of which the row's own expert's is left. -/
module

public import proofs.«01_k».proof.Proof.Tiles.Mix
public import proofs.«01_k».proof.Proof.Gen.TilesReferenceIdeal.Read
public import Idealize.ShloMosaic.Lib.IdealHost

@[expose] public section

set_option maxRecDepth 16384

noncomputable section

namespace Cert.TilesReferenceIdeal.Mixed

open Cert.TilesReferenceIdeal Cert.TilesReferenceIdeal.Gen Cert.TilesReferenceIdeal.Read Cert.Tiles.Mix
open Idealize.ShloMosaic Idealize.ShloMosaic.TcCoe Idealize.ShloMosaic.ValueIdx

/-- The weights of expert `e`, standing where expert 0's stand. -/
def first1 (e : Fin 8) (x3 : Weights1) : Weights1 := fun j => x3 (ix3 e (j 1) (j 2))
def first2 (e : Fin 8) (x4 : Weights2) : Weights2 := fun j => x4 (ix3 e (j 1) (j 2))

/-- Row `h` of expert 0's first weights. -/
theorem v14_at (x3 : Weights1) (h : Fin 4096) (k : Fin 1024) : val_main_v14 (F := Ideal) x3 (ix2 h k) = x3 (ix3 0 h k) := by
  rw [val_main_v14_apply, val_main_v13_apply]
  refine congrArg x3 (funext fun a => Fin.ext ?_)
  match a with
  | ⟨0, _⟩ => rfl
  | ⟨1, _⟩ => show (h.val * 1024 + k.val) / 1024 % 4096 = h.val; omega
  | ⟨2, _⟩ => show (h.val * 1024 + k.val) % 1024 = k.val; omega
theorem v19_at (x4 : Weights2) (d : Fin 1024) (h : Fin 4096) : val_main_v19 (F := Ideal) x4 (ix2 d h) = x4 (ix3 0 d h) := by
  rw [val_main_v19_apply, val_main_v18_apply]
  refine congrArg x4 (funext fun a => Fin.ext ?_)
  match a with
  | ⟨0, _⟩ => rfl
  | ⟨1, _⟩ => show (d.val * 4096 + h.val) / 4096 % 1024 = d.val; omega
  | ⟨2, _⟩ => show (d.val * 4096 + h.val) % 4096 = h.val; omega

/-- Expert 0's product is `expert` at 0. -/
theorem v21_at (x2 : Rows) (x3 : Weights1) (x4 : Weights2) (i : Fin 10240) (d : Fin 1024) :
    val_main_v21 (F := Ideal) x2 x3 x4 (ix2 i d) = expert x2 x3 x4 0 i d := by
  rw [val_main_v21_apply]
  refine Finset.sum_congr rfl fun h _ => ?_
  have e0 : lidx_main_v21 (ix2 i d) h = ix2 i h := funext fun a => match a with | ⟨0, _⟩ => rfl | ⟨1, _⟩ => rfl
  have e1 : idx_main_v20 (ridx_main_v21 (ix2 i d) h) = ix2 d h := funext fun a => match a with | ⟨0, _⟩ => rfl | ⟨1, _⟩ => rfl
  have e2 : val_main_v16 (F := Ideal) x2 x3 (ix2 i h) = hidden x2 x3 0 i h := by
    rw [val_main_v16_apply]
    refine Finset.sum_congr rfl fun k _ => ?_
    have e0 : lidx_main_v16 (ix2 i h) k = ix2 i k := funext fun a => match a with | ⟨0, _⟩ => rfl | ⟨1, _⟩ => rfl
    have e1 : idx_main_v15 (ridx_main_v16 (ix2 i h) k) = ix2 h k := funext fun a => match a with | ⟨0, _⟩ => rfl | ⟨1, _⟩ => rfl
    rw [val_main_v15_apply, e0, e1, v14_at]
  have e3 : val_main_v17 (F := Ideal) x2 x3 (ix2 i h) = silu (hidden x2 x3 0 i h) := by
    rw [val_main_v17_apply, val_main_call1_v5_apply, val_main_call1_v3_apply, val_main_call1_v1_apply, val_main_call1_v0_apply,
      val_main_call1_v2_apply, val_main_call1_v4_apply, val_main_call1_cst_apply, val_main_call1_cst_0_apply, e2]
    show hidden x2 x3 0 i h * Ideal.div (Ideal.ofBits .f32 0x3F800000#32) (Ideal.ofBits .f32 0x3F800000#32 + Ideal.exp (-hidden x2 x3 0 i h)) = _
    rw [Ideal.ofBits_one_f32]
    rfl
  rw [val_main_v20_apply, e0, e1, e3, v19_at]
  rfl

/-- A slice of one expert's first weights, reshaped to a matrix, is expert 0's of the moved array; -/
theorem slice1 (e : Fin 8) (x3 : Weights1) (y : Weights1 → (⟨2, ![4096, 1024]⟩ : Shape).Idx → EReal)
    (h : ∀ a b, y x3 (ix2 a b) = x3 (ix3 e a b)) : y x3 = val_main_v14 (F := Ideal) (first1 e x3) := by
  funext j
  rw [eq_ix2 j]
  exact (h _ _).trans (v14_at (first1 e x3) _ _).symm
/-- so is one of its second weights. -/
theorem slice2 (e : Fin 8) (x4 : Weights2) (y : Weights2 → (⟨2, ![1024, 4096]⟩ : Shape).Idx → EReal)
    (h : ∀ a b, y x4 (ix2 a b) = x4 (ix3 e a b)) : y x4 = val_main_v19 (F := Ideal) (first2 e x4) := by
  funext j
  rw [eq_ix2 j]
  exact (h _ _).trans (v19_at (first2 e x4) _ _).symm

/-- One expert's product as the program writes it, from its two weight matrices. -/
def block (x2 : Rows) (y1 : (⟨2, ![4096, 1024]⟩ : Shape).Idx → EReal) (y2 : (⟨2, ![1024, 4096]⟩ : Shape).Idx → EReal) : (⟨2, ![10240, 1024]⟩ : Shape).Idx → EReal :=
  let z : FVec Ideal S10240x4096 .f32 := Host.dotGeneral (F := Ideal) (φ₁ := .f32) (φ₂ := .f32) dot_S10240x1024_S1024x4096_S10240x4096_1_0_0_1_n_n none x2 (transpose S1024x4096 [1, 0] y1 transposes_S4096x1024_S1024x4096_1_0)
  Host.dotGeneral (F := Ideal) (φ₁ := .f32) (φ₂ := .f32) dot_S10240x4096_S4096x1024_S10240x1024_1_0_0_1_n_n none
    (mulf z (Host.divf (val_main_call1_v4 (F := Ideal)) (addf (val_main_call1_v2 (F := Ideal)) (Host.exp (Host.negf z)))))
    (transpose S4096x1024 [1, 0] y2 transposes_S1024x4096_S4096x1024_1_0)

/-- It is `expert`, of whichever expert the two matrices are. -/
theorem block_at (e : Fin 8) (x2 : Rows) (x3 : Weights1) (x4 : Weights2) (y1 : Weights1 → (⟨2, ![4096, 1024]⟩ : Shape).Idx → EReal)
    (y2 : Weights2 → (⟨2, ![1024, 4096]⟩ : Shape).Idx → EReal) (h1 : ∀ a b, y1 x3 (ix2 a b) = x3 (ix3 e a b)) (h2 : ∀ a b, y2 x4 (ix2 a b) = x4 (ix3 e a b))
    (i : Fin 10240) (d : Fin 1024) : block x2 (y1 x3) (y2 x4) (ix2 i d) = expert x2 x3 x4 e i d := by
  rw [slice1 e x3 y1 h1, slice2 e x4 y2 h2]
  exact v21_at x2 (first1 e x3) (first2 e x4) i d

/-- An index of a reshaped slice, read back. -/
theorem read1 (e : Fin 8) (x3 : Weights1) (j : (⟨3, ![8, 4096, 1024]⟩ : Shape).Idx) (h : Fin 4096) (k : Fin 1024)
    (h0 : (j 0).val = e.val) (h1 : (j 1).val = (h.val * 1024 + k.val) / 1024 % 4096) (h2 : (j 2).val = (h.val * 1024 + k.val) % 1024) :
    x3 j = x3 (ix3 e h k) := by
  refine congrArg x3 (funext fun a => Fin.ext ?_)
  match a with
  | ⟨0, _⟩ => exact h0
  | ⟨1, _⟩ => refine h1.trans ?_; show _ = h.val; omega
  | ⟨2, _⟩ => refine h2.trans ?_; show _ = k.val; omega
theorem read2 (e : Fin 8) (x4 : Weights2) (j : (⟨3, ![8, 1024, 4096]⟩ : Shape).Idx) (d : Fin 1024) (h : Fin 4096)
    (h0 : (j 0).val = e.val) (h1 : (j 1).val = (d.val * 4096 + h.val) / 4096 % 1024) (h2 : (j 2).val = (d.val * 4096 + h.val) % 4096) :
    x4 j = x4 (ix3 e d h) := by
  refine congrArg x4 (funext fun a => Fin.ext ?_)
  match a with
  | ⟨0, _⟩ => exact h0
  | ⟨1, _⟩ => refine h1.trans ?_; show _ = d.val; omega
  | ⟨2, _⟩ => refine h2.trans ?_; show _ = h.val; omega

variable (x0 x1 : Words) (x2 : Rows) (x3 : Weights1) (x4 : Weights2) (x5 : Gates) (i : Fin 10240) (d : Fin 1024)

/-- The expert and the activity the tables name for row `i`. -/
theorem v2_at : val_main_v2 (F := Ideal) x0 (ix2 i 0) = x0 (ix1 (tileOf i)) := by
  rw [val_main_v2_apply, val_main_v1_apply, val_main_v0_apply]
  exact congrArg x0 (funext fun a => Fin.ext (match a with | ⟨0, _⟩ => by show (i.val * 1 + 0) / 256 = i.val / 256; omega))
theorem v5_at : val_main_v5 (F := Ideal) x1 (ix2 i 0) = x1 (ix1 (tileOf i)) := by
  rw [val_main_v5_apply, val_main_v4_apply, val_main_v3_apply]
  exact congrArg x1 (funext fun a => Fin.ext (match a with | ⟨0, _⟩ => by show (i.val * 1 + 0) / 256 = i.val / 256; omega))

/-- The weight column of expert `e`, as the program writes it, over the whole width. -/
def column (k : BitVec 32) : (⟨2, ![10240, 1024]⟩ : Shape).Idx → EReal :=
  broadcastInDim S10240x1024 ![0, 1] bcast_S10240x1_S10240x1024_0_1
    (select (andi (cmpi .eq (val_main_v2 (F := Ideal) x0) (broadcastInDim S10240x1 ![] bcast_S_S10240x1 (constantI S_ 32 k)))
      (cmpi .ne (val_main_v5 (F := Ideal) x1) (val_main_v9 (F := Ideal)))) x5 (val_main_call0_v1 (F := Ideal)))
theorem column_at (k : BitVec 32) : column x0 x1 x5 k (ix2 i d) = weight k (x0 (ix1 (tileOf i))) (x1 (ix1 (tileOf i))) (x5 (ix2 i 0)) := by
  unfold column
  rw [broadcastInDim_apply _ bcast_S10240x1_S10240x1024_0_1 _ (ix2 i d) (ix2 i 0) (fun a => match a with
    | ⟨0, _⟩ => by show i.val = if (10240 : Nat) = 1 then 0 else i.val; rw [if_neg (by decide)]
    | ⟨1, _⟩ => by show 0 = if (1 : Nat) = 1 then 0 else d.val; rw [if_pos rfl])]
  rw [← v2_at x0 i, ← v5_at x1 i]
  rfl

/-- The whole program as eight weighted products added up. -/
theorem v150_eq : val_main_v150 (F := Ideal) x0 x1 x2 x3 x4 x5 =
    addf (F := Ideal) (φ := .f32) (addf (addf (addf (addf (addf (addf (addf (val_main_v6 (F := Ideal))
      (mulf (block x2 (val_main_v14 (F := Ideal) x3) (val_main_v19 (F := Ideal) x4)) (column x0 x1 x5 0#32)))
      (mulf (block x2 (val_main_v32 (F := Ideal) x3) (val_main_v37 (F := Ideal) x4)) (column x0 x1 x5 1#32)))
      (mulf (block x2 (val_main_v50 (F := Ideal) x3) (val_main_v55 (F := Ideal) x4)) (column x0 x1 x5 2#32)))
      (mulf (block x2 (val_main_v68 (F := Ideal) x3) (val_main_v73 (F := Ideal) x4)) (column x0 x1 x5 3#32)))
      (mulf (block x2 (val_main_v86 (F := Ideal) x3) (val_main_v91 (F := Ideal) x4)) (column x0 x1 x5 4#32)))
      (mulf (block x2 (val_main_v104 (F := Ideal) x3) (val_main_v109 (F := Ideal) x4)) (column x0 x1 x5 5#32)))
      (mulf (block x2 (val_main_v122 (F := Ideal) x3) (val_main_v127 (F := Ideal) x4)) (column x0 x1 x5 6#32)))
      (mulf (block x2 (val_main_v140 (F := Ideal) x3) (val_main_v145 (F := Ideal) x4)) (column x0 x1 x5 7#32)) := rfl

/-- THE REFERENCE at an element: the row's own expert, weighted, in an active tile; zero in an inactive one. -/
theorem v150_at (h : ∀ j, (x0 j).toNat ≤ 7) : val_main_v150 (F := Ideal) x0 x1 x2 x3 x4 x5 (ix2 i d) = mixed x0 x1 h x2 x3 x4 x5 i d := by
  rw [v150_eq]
  simp only [addf_apply, mulf_apply, column_at]
  rw [block_at 0 x2 x3 x4 (val_main_v14 (F := Ideal)) (val_main_v19 (F := Ideal)) (v14_at x3) (v19_at x4),
    block_at 1 x2 x3 x4 (val_main_v32 (F := Ideal)) (val_main_v37 (F := Ideal))
      (fun a b => by rw [val_main_v32_apply, val_main_v31_apply]; exact read1 _ _ _ _ _ rfl rfl rfl) (fun a b => by rw [val_main_v37_apply, val_main_v36_apply]; exact read2 _ _ _ _ _ rfl rfl rfl),
    block_at 2 x2 x3 x4 (val_main_v50 (F := Ideal)) (val_main_v55 (F := Ideal))
      (fun a b => by rw [val_main_v50_apply, val_main_v49_apply]; exact read1 _ _ _ _ _ rfl rfl rfl) (fun a b => by rw [val_main_v55_apply, val_main_v54_apply]; exact read2 _ _ _ _ _ rfl rfl rfl),
    block_at 3 x2 x3 x4 (val_main_v68 (F := Ideal)) (val_main_v73 (F := Ideal))
      (fun a b => by rw [val_main_v68_apply, val_main_v67_apply]; exact read1 _ _ _ _ _ rfl rfl rfl) (fun a b => by rw [val_main_v73_apply, val_main_v72_apply]; exact read2 _ _ _ _ _ rfl rfl rfl),
    block_at 4 x2 x3 x4 (val_main_v86 (F := Ideal)) (val_main_v91 (F := Ideal))
      (fun a b => by rw [val_main_v86_apply, val_main_v85_apply]; exact read1 _ _ _ _ _ rfl rfl rfl) (fun a b => by rw [val_main_v91_apply, val_main_v90_apply]; exact read2 _ _ _ _ _ rfl rfl rfl),
    block_at 5 x2 x3 x4 (val_main_v104 (F := Ideal)) (val_main_v109 (F := Ideal))
      (fun a b => by rw [val_main_v104_apply, val_main_v103_apply]; exact read1 _ _ _ _ _ rfl rfl rfl) (fun a b => by rw [val_main_v109_apply, val_main_v108_apply]; exact read2 _ _ _ _ _ rfl rfl rfl),
    block_at 6 x2 x3 x4 (val_main_v122 (F := Ideal)) (val_main_v127 (F := Ideal))
      (fun a b => by rw [val_main_v122_apply, val_main_v121_apply]; exact read1 _ _ _ _ _ rfl rfl rfl) (fun a b => by rw [val_main_v127_apply, val_main_v126_apply]; exact read2 _ _ _ _ _ rfl rfl rfl),
    block_at 7 x2 x3 x4 (val_main_v140 (F := Ideal)) (val_main_v145 (F := Ideal))
      (fun a b => by rw [val_main_v140_apply, val_main_v139_apply]; exact read1 _ _ _ _ _ rfl rfl rfl) (fun a b => by rw [val_main_v145_apply, val_main_v144_apply]; exact read2 _ _ _ _ _ rfl rfl rfl)]
  rw [val_main_v6_apply, val_main_cst_apply]
  refine Eq.trans ?_ ((chain_eq fun e => expert x2 x3 x4 e i d * weight (BitVec.ofNat 32 e.val) (x0 (ix1 (tileOf i))) (x1 (ix1 (tileOf i))) (x5 (ix2 i 0))).trans
    (sum_kept (fun e => expert x2 x3 x4 e i d) _ _ (h _) _))
  rw [← Ideal.ofBits_zero_f32]
  rfl

end Cert.TilesReferenceIdeal.Mixed

end
-- ==== Proof.Tiles.Agree.lean ====
/- The expert-tile call agrees with the dense reference, element by element. -/
module

public import proofs.«01_k».proof.Defs
public import proofs.«01_k».proof.Proof.Tiles.Value
public import proofs.«01_k».proof.Proof.Tiles.Reference

@[expose] public section

set_option maxRecDepth 16384

noncomputable section

namespace Cert.Tiles.Agree

open Idealize.ShloMosaic Idealize.ShloMosaic.TcCoe Idealize.ShloMosaic.ValueIdx Idealize.SL.Sem
open Cert.TilesIdeal (τ sig nD main_arg0 main_arg1 main_arg2 main_arg3 main_arg4 main_arg5)

variable (m : (ℓ : Loc nD τ sig) → Buf (Elt Ideal) ℓ) (hm : Cert.TilesIdeal.Run.Named m)

/-- What both programs compute from the argument arrays. -/
theorem tiles_eq (c : Dev nD) :
    Cert.TilesReferenceIdeal.Read.val_main_v150 (F := Ideal) (m (c.tc.loc main_arg0)) (m (c.tc.loc main_arg1)) (m (c.tc.loc main_arg2))
        (m (c.tc.loc main_arg3)) (m (c.tc.loc main_arg4)) (m (c.tc.loc main_arg5))
      = (Cert.TilesIdeal.Run.dats m hm 0 c).arrAt 4 (Cert.TilesIdeal.cfg0 (Cert.TilesIdeal.Run.adm m hm)).N := by
  obtain rfl : c = 0 := Subsingleton.elim _ _
  refine Eq.trans ?_ (Cert.TilesIdeal.Value.result_eq (Cert.TilesIdeal.Run.adm m hm) (fun c => StableHlo.launchContents m c) 0 hm).symm
  refine funext fun i : Cert.TilesIdeal.S10240x1024.Idx => ?_
  refine (congrArg _ (eq_ix2 i)).trans ?_
  exact Cert.TilesReferenceIdeal.Mixed.v150_at _ _ _ _ _ _ (i 0) (i 1) hm

end Cert.Tiles.Agree

namespace Cert.Proof

open Idealize.ShloMosaic Idealize.SL.Sem

/-- A memory meeting the precondition names an expert for every tile. -/
theorem named_ideal (m : (ℓ : Loc Cert.TilesIdeal.nD Cert.TilesIdeal.τ Cert.TilesIdeal.sig) → Buf (Elt Ideal) ℓ)
    (h : Cert.Pre_TilesIdeal (hPre_tiles_name_experts := Cert.Pre_tiles_name_experts.Gen.facts) m) : Cert.TilesIdeal.Run.Named m :=
  fun i => Cert.TilesIdeal.Run.named _ _ _ _ _ _ (h 0) i

/-- Over the extended reals the expert-tile call and the dense reference compute the same array. -/
theorem tiles_agree : Cert.algebraic_TilesIdeal_TilesReferenceIdeal (hTilesIdeal := Cert.TilesIdeal.Gen.facts)
    (hTilesReferenceIdeal := Cert.TilesReferenceIdeal.Gen.facts) (hPre_tiles_name_experts := Cert.Pre_tiles_name_experts.Gen.facts) := by
  intro m g m' g' hpre hargs
  have hm := named_ideal m hpre
  refine ⟨fun c => (Cert.TilesIdeal.Run.dats m hm 0 c).arrAt 4 (Cert.TilesIdeal.cfg0 (Cert.TilesIdeal.Run.adm m hm)).N,
    (θ_run _ _ _).mono (fun _ h => h.1) (Cert.TilesIdeal.Run.run_args m hm g), (θ_run _ _ _).mono (fun r h c => ⟨(h c).1.trans ?_, (h c).2⟩) (Cert.TilesReferenceIdeal.Value.run m' g')⟩
  refine (Cert.TilesReferenceIdeal.Read.val_main_v150_eq (StableHlo.launchContents m' c)).trans ?_
  refine Eq.trans ?_ (Cert.Tiles.Agree.tiles_eq m hm c)
  obtain ⟨h0, h1, h2, h3, h4, h5⟩ := hargs c
  exact (congr (congr (congr (congr (congr (congrArg (Cert.TilesReferenceIdeal.Read.val_main_v150 (F := Ideal)) h0) h1) h2) h3) h4) h5)

end Cert.Proof

end
-- ==== Proof.Gate.Loss.lean ====
/- The load-balancing loss of a table of gate logits, and a sum over all tokens as eight block sums. -/
module

public import Idealize.ShloMosaic.PureOps.Ideal.Laws
public import Idealize.ShloMosaic.Lib.ValueIdx

@[expose] public section

noncomputable section

namespace Cert.Gate.Loss

open Idealize.ShloMosaic Idealize.ShloMosaic.ValueIdx

/-- The tokens' features. -/
abbrev Tokens := (⟨⟨3, ![2, 2048, 1024]⟩, .f32⟩ : BufTy).Contents (Elt Ideal)
/-- The gate's weights. -/
abbrev Weights := (⟨⟨2, ![8, 1024]⟩, .f32⟩ : BufTy).Contents (Elt Ideal)

/-- Where token `t` stands in the batch. -/
abbrev place (t : Fin 4096) (k : Fin 1024) : (⟨3, ![2, 2048, 1024]⟩ : Shape).Idx :=
  ix3 ⟨t.val / 2048, by have := t.isLt; omega⟩ ⟨t.val % 2048, by omega⟩ k

/-- Token `t`'s logit of expert `e`. -/
def logit (x : Tokens) (w : Weights) (t : Fin 4096) (e : Fin 8) : EReal := ∑ k : Fin 1024, x (place t k) * w (ix2 e k)

/-- The greatest logit of a token, from minus infinity. -/
def top (l : Fin 8 → EReal) : EReal :=
  (Finset.univ : Finset (Fin 8)).fold max (FloatOps.ofBits (F := Ideal) .f32 0xFF800000#32) l

/-- Taking minus infinity into the maximum once more changes nothing. -/
theorem max_top (l : Fin 8 → EReal) : max (FloatOps.ofBits (F := Ideal) .f32 0xFF800000#32 : EReal) (top l) = top l :=
  max_eq_right ((Finset.le_fold_max _).mpr (Or.inl le_rfl))

/-- A token's unnormalised probability of an expert. -/
def mass (l : Fin 8 → EReal) (e : Fin 8) : EReal :=
  FloatOps.exp (F := Ideal) (φ := .f32) (FloatOps.subf (F := Ideal) (φ := .f32) (l e) (top l))

/-- A token's probability of an expert. -/
def prob (l : Fin 8 → EReal) (e : Fin 8) : EReal :=
  FloatOps.divf (F := Ideal) (φ := .f32) (mass l e) (∑ k, mass l k)

/-- Eight times the sum over the experts of the squared mean, from the sums over the tokens. -/
def lossOf (s : Fin 8 → EReal) : EReal :=
  FloatOps.ofBits (F := Ideal) .f32 0x41000000#32
    * ∑ e, (FloatOps.divf (F := Ideal) (φ := .f32) (s e) (FloatOps.ofBits .f32 0x45800000#32)
        * FloatOps.divf (F := Ideal) (φ := .f32) (s e) (FloatOps.ofBits .f32 0x45800000#32))

/-- The loss of a table of logits. -/
def loss (l : Fin 4096 → Fin 8 → EReal) : EReal := lossOf fun e => ∑ t, prob (l t) e

/-- The token in row `r` of block `n`. -/
abbrev token (n : ℕ) (h : n < 8) (r : Fin 512) : Fin 4096 := ⟨512 * n + r.val, by have := r.isLt; omega⟩

/-- The sum over the tokens of the first `n + 1` blocks. -/
def blocks (f : Fin 4096 → EReal) : (n : ℕ) → n < 8 → EReal
  | 0, h => ∑ r, f (token 0 h r)
  | n + 1, h => blocks f n (Nat.lt_of_succ_lt h) + ∑ r, f (token (n + 1) h r)

/-- All eight blocks together are all tokens. -/
theorem blocks_all (f : Fin 4096 → EReal) : blocks f 7 (by decide) = ∑ t, f t := by
  have e := Equiv.sum_comp (finProdFinEquiv (m := 8) (n := 512)) (fun t : Fin (8 * 512) => f t)
  rw [Fintype.sum_prod_type, Fin.sum_univ_eight] at e
  have key : ∀ (n : ℕ) (h : n < 8), ∑ r, f (token n h r) = ∑ r : Fin 512, f (finProdFinEquiv (m := 8) (n := 512) (⟨n, h⟩, r)) :=
    fun n h => Finset.sum_congr rfl fun r _ => congrArg f (Fin.ext (Nat.add_comm _ _))
  unfold blocks
  simp only [blocks, key]
  exact e

end Cert.Gate.Loss

end
-- ==== Proof.Gate.Steps.lean ====
/- What one grid point of the routing call leaves in the row of probability sums, and what the last one stores as the loss. -/
module

public import proofs.«01_k».proof.Proof.Gen.GateIdeal.Value
public import Idealize.ShloMosaic.Lib.Pipeline.Value
public import Idealize.ShloMosaic.Lib.Tactic

@[expose] public section

set_option maxRecDepth 16384

noncomputable section

namespace Cert.GateIdeal.Steps

open Cert.GateIdeal Cert.GateIdeal.Gen
open Idealize.ShloMosaic Idealize.ShloMosaic.TcCoe Idealize.SL.Sem

variable {F : FTy → Type} [FloatOps F]

/-- The running row after one more block: the old row plus the block's column sums of the gate probabilities. -/
abbrev step (x : Vec F S512x1024 .f32) (w : Vec F S8x1024 .f32) (acc : Vec F S1x8 .f32) : Vec F S1x8 .f32 :=
  k0_pay21 (k0_pay8 x w) (k0_pay9 x w) acc

theorem zeros : (![0, 0] : Fin 2 → Nat) = fun _ => 0 := funext fun a => by fin_cases a <;> rfl

section Cases

variable (c : Dev nD) (i : grid0.Coords) (a1 : Memref sig .tc .vmem S512x1024 .f32) (h1 : a1.IsWhole)
  (a2 : Memref sig .tc .vmem S8x1024 .f32) (h2 : a2.IsWhole) (a3 : Memref sig .tc .vmem S512x2 .i32) (h3 : a3.IsWhole)
  (a4 : Memref sig .tc .vmem S512x2 .f32) (h4 : a4.IsWhole) (a5 : Memref sig .tc .vmem S512x2 .i32) (h5 : a5.IsWhole)
  (a6 : Memref sig .tc .vmem S1x8 .i32) (h6 : a6.IsWhole) (a7 : Memref sig .tc .vmem S1x1 .f32) (h7 : a7.IsWhole)
  (a8 : Memref sig .tc .vmem S1x8 .f32) (h8 : a8.IsWhole) (a9 : Memref sig .tc .vmem S1x8 .f32) (h9 : a9.IsWhole)
  (x : Vec F S512x1024 .f32) (w : Vec F S8x1024 .f32) (n acc : Vec F S1x8 .f32)

/-- The first point clears the row, then adds its block. -/
theorem first (hc0 : cond0_0 i) (hc1 : ¬cond0_1 i) :
    sout0_A_1 c i a1 h1 a2 h2 a3 h3 a4 h4 a5 h5 a6 h6 a7 h7 a8 h8 a9 h9 hc0 hc1 x w = step x w k0_pay7 := by
  unfold sout0_A_1
  rw [View.read_writes_eq_canon _ _ _ (scover0_A_1 c i a1 h1 a2 h2 a3 h3 a4 h4 a5 h5 a6 h6 a7 h7 a8 h8 a9 h9 hc0 hc1 x w)]
  unfold kernelRun0_A
  dsimp only
  sl_unfold_words
  rw [View.canon_cons_unit_zero (S := S1x8) zeros]
  simp only [View.readCov_unit_zero (S := S1x8) _ zeros, View.readAt_eq_ld, h1.read_unread, h2.read_unread,
    View.ld_unit_zero (S := S512x1024) zeros, View.ld_unit_zero (S := S8x1024) zeros]

/-- A middle point adds its block to the row it finds. -/
theorem middle (hc0 : ¬cond0_0 i) (hc1 : ¬cond0_1 i) :
    sout0_B_1 c i a1 h1 a2 h2 a3 h3 a4 h4 a5 h5 a6 h6 a7 h7 a8 h8 a9 h9 hc0 hc1 x w n acc = step x w acc := by
  unfold sout0_B_1
  rw [View.read_writes_eq_canon _ _ _ (scover0_B_1 c i a1 h1 a2 h2 a3 h3 a4 h4 a5 h5 a6 h6 a7 h7 a8 h8 a9 h9 hc0 hc1 x w n acc)]
  unfold kernelRun0_B
  dsimp only
  sl_unfold_words
  rw [View.canon_unit_zero (S := S1x8) zeros]
  simp only [View.readAt_eq_ld, h1.read_unread, h2.read_unread, h9.read_unread,
    View.ld_unit_zero (S := S512x1024) zeros, View.ld_unit_zero (S := S8x1024) zeros, View.ld_unit_zero (S := S1x8) zeros]

/-- The last point stores the loss of the finished row. -/
theorem last (hc0 : ¬cond0_0 i) (hc1 : cond0_1 i) :
    out0_C_6 c i a1 h1 a2 h2 a3 h3 a4 h4 a5 h5 a6 h6 a7 h7 a8 h8 a9 h9 hc0 hc1 x w n acc = k0_pay5 (step x w acc) := by
  unfold out0_C_6
  rw [View.read_writes_eq_canon _ _ _ (cover0_C_6 c i a1 h1 a2 h2 a3 h3 a4 h4 a5 h5 a6 h6 a7 h7 a8 h8 a9 h9 hc0 hc1 x w n acc)]
  unfold kernelRun0_C
  dsimp only
  sl_unfold_words
  rw [View.canon_unit_zero (S := S1x1) zeros]
  simp only [View.readCov_unit_zero (S := S1x8) _ zeros, View.readAt_eq_ld, h1.read_unread, h2.read_unread, h9.read_unread,
    View.ld_unit_zero (S := S512x1024) zeros, View.ld_unit_zero (S := S8x1024) zeros, View.ld_unit_zero (S := S1x8) zeros]

end Cases

variable (m : (ℓ : Loc nD τ sig) → Buf (Elt F) ℓ)

/-- The row of probability sums after point `n`. -/
def row (c : Dev nD) : (n : ℕ) → n < cfg0.N → Vec F S1x8 .f32
  | 0, h => step (iblk m c 0 ⟨0, h⟩) (iblk m c 1 ⟨0, h⟩) k0_pay7
  | n + 1, h => step (iblk m c 0 ⟨n + 1, h⟩) (iblk m c 1 ⟨n + 1, h⟩) (row c n (Nat.lt_of_succ_lt h))

/-- Before the last point the kernel's scratch row is that row. -/
theorem scratch_eq (c : Dev nD) : ∀ (n : ℕ) (h : n < cfg0.N), n < 7 → (outsAt0 m c n h).2.2.2.2.2.2 = row m c n h
  | 0, h, _ => by
    rw [outsAt0_A m c ⟨0, h⟩ rfl (by decide : ¬(0 % 8 = 7))]
    dsimp only
    exact first (F := F) ..
  | n + 1, h, h7 => by
    have hA : ¬((⟨n + 1, h⟩ : Fin cfg0.N).val % 8 = 0) := by dsimp only; omega
    have hC : ¬((⟨n + 1, h⟩ : Fin cfg0.N).val % 8 = 7) := by dsimp only; omega
    rw [outsAt0_B m c ⟨n + 1, h⟩ hA hC]
    dsimp only
    refine (middle (F := F) ..).trans ?_
    show step _ _ (outsAt0 m c n _).2.2.2.2.2.2 = step _ _ (row m c n _)
    rw [scratch_eq c n _ (by omega)]

/-- The loss array the call leaves. -/
theorem result_eq (c : Dev nD) : Value.G6 m c = k0_pay5 (row m c 7 (lt_of_lt_of_eq (by decide) N_0.symm)) := by
  have h : 7 < cfg0.N := lt_of_lt_of_eq (by decide) N_0.symm
  rw [Value.G6_last, ← Value.outsAt0_sweep m c 7 h]
  rw [outsAt0_C m c ⟨7, h⟩ (by decide : ¬(7 % 8 = 0)) rfl]
  dsimp only
  refine (last (F := F) ..).trans ?_
  show k0_pay5 (step _ _ (outsAt0 m c 6 _).2.2.2.2.2.2) = k0_pay5 (step _ _ (row m c 6 _))
  rw [scratch_eq m c 6 _ (by decide)]

end Cert.GateIdeal.Steps

end
-- ==== Proof.Gate.Value.lean ====
/- The loss the routing call stores: its running row is the sum of the gate probabilities over the tokens seen. -/
module

public import proofs.«01_k».proof.Proof.Gate.Loss
public import proofs.«01_k».proof.Proof.Gate.Steps
public import Idealize.ShloMosaic.Lib.MatmulPlain
public import Idealize.ShloMosaic.Lib.Pipeline.ValueKit.Geometry
public import Idealize.ShloMosaic.Lib.StableHlo.RunRead

@[expose] public section

set_option maxRecDepth 16384

noncomputable section

namespace Cert.GateIdeal.Reading

open Cert.GateIdeal Cert.GateIdeal.Gen Cert.GateIdeal.Steps Cert.Gate.Loss
open Idealize.ShloMosaic Idealize.ShloMosaic.TcCoe Idealize.ShloMosaic.ValueIdx

/-! ## One block -/

section Block

variable (x : FVec Ideal S512x1024 .f32) (w : FVec Ideal S8x1024 .f32)

/-- A row's logits within its block. -/
abbrev local_ (r : Fin 512) (e : Fin 8) : EReal := ∑ k : Fin 1024, x (ix2 r k) * w (ix2 e k)

theorem logits_at (r : Fin 512) (e : Fin 8) : k0_pay8 (F := Ideal) x w (ix2 r e) = local_ x w r e := by
  unfold k0_pay8
  rw [shapeCast_self]
  refine (Ideal.matmul_transposedRhs_apply none x w (constant S512x8 .f32 0x00000000#32) r e).trans ?_
  show Ideal.ofBits .f32 0x00000000#32 + _ = _
  rw [Ideal.ofBits_zero_f32, zero_add]

/-- A column read from a vector. -/
theorem column_at (v : FVec Ideal S512 .f32) (r : Fin 512) : shapeCast S512x1 v shapeCasts_S512_S512x1 (ix2 r 0) = v (ix1 r) :=
  shapeCast_apply v shapeCasts_S512_S512x1 (ix2 r 0) (ix1 r)
    (by rewrite [Shape.rowMajor_val_one, Shape.rowMajor_val_two]; show r.val = r.val * 1 + 0; omega)

theorem top_at (r : Fin 512) : k0_pay9 (F := Ideal) x w (ix2 r 0) = top (local_ x w r) := by
  unfold k0_pay9
  dsimp only
  rw [column_at]
  refine (Ideal.multiReduction_maximumf_single _ _ reduces_S512x8_S512 (.inl rfl) rfl (ix1 r)).trans ?_
  unfold top
  refine congrArg (fun f => Finset.fold max _ f _) (funext fun k => ?_)
  refine (congrArg (k0_pay8 (F := Ideal) x w) (funext fun a => ?_)).trans (logits_at x w r k)
  match a with
  | ⟨0, _⟩ => rfl
  | ⟨1, _⟩ => rfl

/-- A column spread over the experts. -/
theorem spread_at (v : FVec Ideal S512x1 .f32) (r : Fin 512) (e : Fin 8) :
    broadcastTo S512x8 v broadcasts_S512x1_S512x8 (ix2 r e) = v (ix2 r 0) :=
  broadcastTo_apply v broadcasts_S512x1_S512x8 (ix2 r e) (ix2 r 0) (fun a => match a with
    | ⟨0, _⟩ => by show r.val = if (512 : Nat) = 1 then 0 else r.val; rw [if_neg (by decide)]
    | ⟨1, _⟩ => by show 0 = if (1 : Nat) = 1 then 0 else e.val; rw [if_pos rfl])

/-- One more block adds its tokens' probabilities. -/
theorem step_at (acc : FVec Ideal S1x8 .f32) (e : Fin 8) :
    step (F := Ideal) x w acc (ix2 0 e) = acc (ix2 0 e) + ∑ r, prob (local_ x w r) e := by
  unfold step k0_pay21
  dsimp only
  have hm : ∀ (r : Fin 512) (k : Fin 8), exp (subf (k0_pay8 (F := Ideal) x w) (broadcastTo S512x8 (k0_pay9 (F := Ideal) x w) broadcasts_S512x1_S512x8)) (ix2 r k)
      = mass (local_ x w r) k := fun r k => by
    show FloatOps.exp (F := Ideal) (φ := .f32) (FloatOps.subf (F := Ideal) (φ := .f32) (k0_pay8 (F := Ideal) x w (ix2 r k)) (broadcastTo S512x8 (k0_pay9 (F := Ideal) x w) broadcasts_S512x1_S512x8 (ix2 r k))) = _
    rw [spread_at, top_at, logits_at]
    rfl
  generalize exp (subf (k0_pay8 (F := Ideal) x w) (broadcastTo S512x8 (k0_pay9 (F := Ideal) x w) broadcasts_S512x1_S512x8)) = p at hm
  rw [shapeCast_self]
  refine congrArg (fun z : EReal => (acc (ix2 0 e) : EReal) + z) ?_
  refine (shapeCast_apply _ shapeCasts_S8_S1x8 (ix2 0 e) (ix1 e)
    (by rewrite [Shape.rowMajor_val_one, Shape.rowMajor_val_two]; show e.val = 0 * 8 + e.val; omega)).trans ?_
  refine (Ideal.multiReduction_add_single _ _ reduces_S512x8_S8 (.inl rfl) rfl (ix1 e)).trans (Finset.sum_congr rfl fun (r : Fin 512) _ => ?_)
  have hi : reduces_S512x8_S8.lift (ix1 e) r = (ix2 r e : S512x8.Idx) := funext fun a => match a with
    | ⟨0, _⟩ => rfl
    | ⟨1, _⟩ => rfl
  refine (congrArg _ hi).trans ?_
  unfold prob
  show FloatOps.divf (F := Ideal) (φ := .f32) (p (ix2 r e)) (broadcastTo S512x8 _ broadcasts_S512x1_S512x8 (ix2 r e)) = _
  rw [spread_at, column_at, hm]
  refine congrArg (FloatOps.divf (F := Ideal) (φ := .f32) _) ?_
  refine (Ideal.multiReduction_add_single _ _ reduces_S512x8_S512 (.inl rfl) rfl (ix1 r)).trans (Finset.sum_congr rfl fun (k : Fin 8) _ => ?_)
  refine (congrArg p (funext fun a => ?_)).trans (hm r k)
  match a with
  | ⟨0, _⟩ => rfl
  | ⟨1, _⟩ => rfl

end Block

/-- The row starts from zero. -/
theorem cleared_at (i : S1x8.Idx) : k0_pay7 (F := Ideal) i = (0 : EReal) := by
  unfold k0_pay7
  rw [shapeCast_self]
  exact Ideal.ofBits_zero_f32

/-- An index of a one-row block of eight is one of eight. -/
def eight : Fin 8 ≃ S1x1x8.Idx where
  toFun e := ix3 0 0 e
  invFun j := j 2
  left_inv _ := rfl
  right_inv j := ((eq_ix3 j).trans (congr (congr (congrArg ix3 (Subsingleton.elim (α := Fin 1) _ _)) (Subsingleton.elim (α := Fin 1) _ _)) rfl)).symm

/-- The stored loss of a finished row. -/
theorem stored_at (s : FVec Ideal S1x8 .f32) (i : S1x1.Idx) : k0_pay5 (F := Ideal) s i = lossOf fun e => s (ix2 0 e) := by
  unfold k0_pay5
  dsimp only
  unfold lossOf
  refine congrArg (FloatOps.mulf (F := Ideal) (φ := .f32) _) ?_
  refine (shapeCast_apply _ shapeCasts_S1_S1x1x1 _ (ix1 0) (by decide)).trans ?_
  refine (Ideal.multiReduction_add_total _ _ reduces_S1x1x8_S1 (fun b => by match b with | ⟨0, _⟩ => rfl) (.inl rfl) rfl (ix1 0)).trans ?_
  rw [← Equiv.sum_comp eight]
  refine Finset.sum_congr rfl fun e _ => ?_
  refine (shapeCast_apply _ shapeCasts_S1x8_S1x1x8 (ix3 0 0 e) (ix2 0 e)
    (by rewrite [Shape.rowMajor_val_three, Shape.rowMajor_val_two]; show 0 * 8 + e.val = (0 * 1 + 0) * 8 + e.val; omega)).trans ?_
  rfl

/-! ## The whole grid -/

variable (m : (ℓ : Loc nD τ sig) → Buf (Elt Ideal) ℓ) (c : Dev nD)

abbrev tokens : Tokens := m ((c : Thread nD τ).loc main_arg0)
abbrev weights : Weights := m ((c : Thread nD τ).loc main_arg1)

/-- The call's first operand is the tokens flattened. -/
theorem flat : V m c main_v0 = shapeCast S4096x1024 (tokens m c) shapeCasts_S2x2048x1024_S4096x1024 := by
  show StableHlo.after hostOps0 _ (Proc.devRef .tc main_v0) = _
  after_results
  rfl

theorem flat_at (t : Fin 4096) (k : Fin 1024) : V m c main_v0 (ix2 t k : S4096x1024.Idx) = tokens m c (place t k) := by
  rw [flat]
  exact shapeCast_apply (tokens m c) shapeCasts_S2x2048x1024_S4096x1024 (ix2 t k) (place t k)
    (by rewrite [Shape.rowMajor_val_three, Shape.rowMajor_val_two]; show (t.val / 2048 * 2048 + t.val % 2048) * 1024 + k.val = t.val * 1024 + k.val; omega)

theorem index0 : ∀ t : Fin grid0.N, win0_0.index t = ![t.val, 0] := by decide +kernel
theorem index1 : ∀ t : Fin grid0.N, win0_1.index t = ![0, 0] := by decide +kernel

theorem block_at (n : ℕ) (hn : n < cfg0.N) (h : n < 8) (r : Fin 512) (k : Fin 1024) :
    (iblk m c 0 ⟨n, hn⟩ : FVec Ideal S512x1024 .f32) (ix2 r k) = tokens m c (place (token n h r) k) := by
  refine Eq.trans ?_ (flat_at m c (token n h r) k)
  show V m c main_v0 (((cfg0.win 0).rect ⟨n, hn⟩).emb (ix2 r k)) = _
  refine congrArg (V m c main_v0) (funext fun b => Fin.ext ?_)
  refine (Pipeline.Window.rect_emb_val (cfg0.win 0) ⟨n, hn⟩ (ix2 r k) b).trans ?_
  rw [show (cfg0.win 0).index ⟨n, hn⟩ = ![n, 0] from index0 ⟨n, hn⟩]
  match b with
  | ⟨0, _⟩ => show n * 512 + r.val = 512 * n + r.val; omega
  | ⟨1, _⟩ => show 0 * 1024 + k.val = k.val; omega

theorem gate_at (n : ℕ) (hn : n < cfg0.N) (e : Fin 8) (k : Fin 1024) :
    (iblk m c 1 ⟨n, hn⟩ : FVec Ideal S8x1024 .f32) (ix2 e k) = weights m c (ix2 e k) := by
  refine Eq.trans ?_ (congrFun (V_main_arg1 m c) (ix2 e k : S8x1024.Idx))
  show V m c main_arg1 (((cfg0.win 1).rect ⟨n, hn⟩).emb (ix2 e k)) = _
  refine congrArg (V m c main_arg1) (funext fun b => Fin.ext ?_)
  refine (Pipeline.Window.rect_emb_val (cfg0.win 1) ⟨n, hn⟩ (ix2 e k) b).trans ?_
  rw [show (cfg0.win 1).index ⟨n, hn⟩ = ![0, 0] from index1 ⟨n, hn⟩]
  match b with
  | ⟨0, _⟩ => show 0 * 8 + e.val = e.val; omega
  | ⟨1, _⟩ => show 0 * 1024 + k.val = k.val; omega

theorem local_eq (n : ℕ) (hn : n < cfg0.N) (h : n < 8) (r : Fin 512) :
    local_ (iblk m c 0 ⟨n, hn⟩) (iblk m c 1 ⟨n, hn⟩) r = logit (tokens m c) (weights m c) (token n h r) :=
  funext fun e => Finset.sum_congr rfl fun k _ =>
    congr (congrArg (fun (p q : EReal) => p * q) (block_at m c n hn h r k)) (gate_at m c n hn e k)

/-- After each point the row holds the probability sums of the tokens seen so far. -/
theorem row_at (e : Fin 8) : ∀ (n : ℕ) (hn : n < cfg0.N) (h : n < 8),
    row m c n hn (ix2 0 e) = blocks (fun t => prob (logit (tokens m c) (weights m c) t) e) n h
  | 0, hn, h => by
    unfold row blocks
    refine (step_at _ _ _ e).trans ?_
    rw [cleared_at]
    refine (zero_add _).trans (Finset.sum_congr rfl fun r _ => ?_)
    rw [local_eq m c 0 hn h r]
  | n + 1, hn, h => by
    unfold row blocks
    refine (step_at _ _ _ e).trans ?_
    rw [row_at e n _ (Nat.lt_of_succ_lt h)]
    refine congrArg (fun z : EReal => _ + z) (Finset.sum_congr rfl fun r _ => ?_)
    rw [local_eq m c (n + 1) hn h r]

/-- The call leaves the loss of the tokens' logits. -/
theorem result_at (i : S1x1.Idx) : Value.G6 m c i = loss (logit (tokens m c) (weights m c)) := by
  rw [result_eq m c]
  refine (stored_at _ i).trans ?_
  unfold loss
  refine congrArg lossOf (funext fun e => ?_)
  rw [row_at m c e 7 _ (by decide), blocks_all]

end Cert.GateIdeal.Reading

end
-- ==== Proof.Gate.Reference.lean ====
/- What the plain gate computes: the load-balancing loss of the tokens' logits. -/
module

public import proofs.«01_k».proof.Proof.Gate.Loss
public import proofs.«01_k».proof.Proof.Gen.GateReferenceIdeal.Read
public import Idealize.ShloMosaic.Lib.KernelVsHost
public import Idealize.ShloMosaic.Lib.IdealHost

@[expose] public section

noncomputable section

namespace Cert.GateReferenceIdeal.Reading

open Cert.GateReferenceIdeal Cert.GateReferenceIdeal.Gen Cert.GateReferenceIdeal.Read Cert.Gate.Loss
open Idealize.ShloMosaic Idealize.ShloMosaic.TcCoe Idealize.ShloMosaic.ValueIdx

variable (x : Tokens) (w : Weights)

theorem logits_at (t : Fin 4096) (e : Fin 8) : val_main_v2 (F := Ideal) x w (ix2 t e) = logit x w t e := by
  refine (val_main_v2_apply x w (ix2 t e)).trans (Finset.sum_congr rfl fun k _ => ?_)
  rw [val_main_v0_apply, val_main_v1_apply]
  refine congr (congrArg _ (congrArg x (funext fun a => Fin.ext ?_))) (congrArg w (funext fun a => Fin.ext ?_))
  · have hk := k.isLt
    have ht := t.isLt
    match a with
    | ⟨0, _⟩ => show (t.val * 1024 + k.val) / 2097152 = t.val / 2048; omega
    | ⟨1, _⟩ => show (t.val * 1024 + k.val) / 1024 % 2048 = t.val % 2048; omega
    | ⟨2, _⟩ => show (t.val * 1024 + k.val) % 1024 = k.val; omega
  · match a with
    | ⟨0, _⟩ => rfl
    | ⟨1, _⟩ => rfl

theorem top_at (t : Fin 4096) : val_main_v3 (F := Ideal) x w (ix1 t) = top (logit x w t) := by
  have h' : S4096x8.Reduces [1] S4096 := by decide
  have e := congrFun (hostReduce_maximumf_eq_multiReduction (F := Ideal) (val_main_v2 (F := Ideal) x w) 0xFF800000#32
    reducesTo_S4096x8_S4096_d1 h_S_ h' (.inl rfl) rfl) (ix1 t)
  refine e.trans ((Ideal.multiReduction_maximumf_single _ _ h' (.inl rfl) rfl (ix1 t)).trans ?_)
  unfold top
  refine congrArg (fun f => Finset.fold max _ f _) (funext fun k => ?_)
  refine (congrArg (val_main_v2 (F := Ideal) x w) (funext fun a => ?_)).trans (logits_at x w t k)
  match a with
  | ⟨0, _⟩ => rfl
  | ⟨1, _⟩ => rfl

theorem mass_at (t : Fin 4096) (e : Fin 8) : val_main_v9 (F := Ideal) x w (ix2 t e) = mass (logit x w t) e := by
  rw [val_main_v9_apply, val_main_v8_apply, val_main_v7_apply, val_main_v6_apply, val_main_v5_apply, val_main_v4_apply, logits_at]
  have h : val_main_v3 (F := Ideal) x w (idx_main_v6 (idx_main_v7 (ix2 t e))) = top (logit x w t) :=
    (congrArg _ (eq_ix1 _)).trans (top_at x w t)
  rw [h]
  unfold mass
  rw [show FloatOps.maximumf (F := Ideal) (φ := .f32) (val_main_cst_0 (F := Ideal) (idx_main_v4 (idx_main_v6 (idx_main_v7 (ix2 t e)))))
    (top (logit x w t)) = top (logit x w t) from max_top _]
  rfl

theorem prob_at (t : Fin 4096) (e : Fin 8) : val_main_v13 (F := Ideal) x w (ix2 t e) = prob (logit x w t) e := by
  rw [val_main_v13_apply, val_main_v12_apply, val_main_v11_apply, val_main_v10_apply, mass_at]
  unfold prob
  refine congrArg (FloatOps.divf (F := Ideal) (φ := .f32) _) ?_
  rw [val_main_cst_1_apply]
  refine (congrArg (· + _) Ideal.ofBits_zero_f32).trans ((zero_add _).trans (Finset.sum_congr rfl fun k _ => ?_))
  refine (congrArg (val_main_v9 (F := Ideal) x w) (funext fun a => ?_)).trans (mass_at x w t k)
  match a with
  | ⟨0, _⟩ => rfl
  | ⟨1, _⟩ => rfl

theorem total_at (e : Fin 8) : val_main_v14 (F := Ideal) x w (ix1 e) = ∑ t, prob (logit x w t) e := by
  rw [val_main_v14_apply, val_main_cst_2_apply]
  refine (congrArg (· + _) Ideal.ofBits_zero_f32).trans ((zero_add _).trans (Finset.sum_congr rfl fun t _ => ?_))
  refine (congrArg (val_main_v13 (F := Ideal) x w) (funext fun a => ?_)).trans (prob_at x w t e)
  match a with
  | ⟨0, _⟩ => rfl
  | ⟨1, _⟩ => rfl

/-- An index of a row of eight is one of eight. -/
def eight : Fin 8 ≃ S8.Idx := ⟨fun e => ix1 e, fun j => j 0, fun _ => rfl, fun j => (eq_ix1 j).symm⟩

/-- The plain gate's result. -/
theorem result_at (i : S1x1.Idx) : val_main_v20 (F := Ideal) x w i = loss (logit x w) := by
  have h0 : (i 0).val = 0 := Nat.lt_one_iff.mp (i 0).isLt
  have h1 : (i 1).val = 0 := Nat.lt_one_iff.mp (i 1).isLt
  unfold val_main_v20
  rw [shapeCast_apply _ shapeCasts_S_S1x1 i ix0 (by rewrite [Shape.rowMajor_val_two]; show 0 = (i 0).val * 1 + (i 1).val; omega)]
  rw [val_main_v19_apply, val_main_v18_apply, val_main_cst_4_apply]
  unfold loss lossOf
  refine congrArg (FloatOps.mulf (F := Ideal) (φ := .f32) _) ?_
  refine (congrArg (· + _) Ideal.ofBits_zero_f32).trans ((zero_add _).trans ?_)
  rw [← Equiv.sum_comp eight]
  refine Finset.sum_congr rfl fun e _ => ?_
  rw [val_main_v17_apply, val_main_v16_apply]
  rw [show val_main_v14 (F := Ideal) x w (eight e) = _ from total_at x w e, val_main_v15_apply, val_main_cst_3_apply]
  rfl

end Cert.GateReferenceIdeal.Reading

end
-- ==== Proof.Gate.Agree.lean ====
/- The routing call's loss agrees with the plain gate's. -/
module

public import proofs.«01_k».proof.Defs
public import proofs.«01_k».proof.Proof.Gate.Value
public import proofs.«01_k».proof.Proof.Gate.Reference
public import proofs.«01_k».proof.Proof.Gen.GateReferenceIdeal.Run

@[expose] public section

noncomputable section

namespace Cert.Proof

open Idealize.ShloMosaic Idealize.SL.Sem

/-- Over the extended reals the routing call and the plain gate leave the same loss. -/
theorem gate_agrees : Cert.algebraic_GateIdeal_GateReferenceIdeal (hGateIdeal := Cert.GateIdeal.Gen.facts)
    (hGateReferenceIdeal := Cert.GateReferenceIdeal.Gen.facts) := by
  intro m g m' g' _ hargs
  refine ⟨fun c => Cert.GateIdeal.Value.G6 m c,
    (θ_run _ _ _).mono (fun _ h c => (h c).2.2.2.2) (Cert.GateIdeal.Value.run m g),
    (θ_run _ _ _).mono (fun r h c => ⟨(h c).1.trans ?_, (h c).2⟩) (Cert.GateReferenceIdeal.Value.run m' g')⟩
  refine (Cert.GateReferenceIdeal.Read.val_main_v20_eq m' c).trans ?_
  obtain ⟨h0, h1⟩ := hargs c
  refine (congr (congrArg (Cert.GateReferenceIdeal.Read.val_main_v20 (F := Ideal)) h0) h1).trans ?_
  exact funext fun i => (Cert.GateReferenceIdeal.Reading.result_at _ _ i).trans (Cert.GateIdeal.Reading.result_at m c i).symm

end Cert.Proof

end
-- ==== Proof.Whole.Choice.lean ====
/- The two experts a token chooses, the weights it gives them, and how a stable sort and a lane minimum find them. -/
module

public import Idealize.ShloMosaic.PureOps.Ideal.Laws
public import Idealize.ShloMosaic.Lib.IdealHost
public import Idealize.ShloMosaic.Lib.SortFacts
public import Idealize.ShloMosaic.Lib.SortNet.Extract

@[expose] public section

noncomputable section

namespace Cert.Whole.Choice

open Idealize.ShloMosaic

/-- `e` is the greatest of the experts in `S`, the earliest of them where several are. -/
def Best (S : Finset (Fin 8)) (L : Fin 8 → EReal) (e : Fin 8) : Prop :=
  e ∈ S ∧ ∀ k ∈ S, L k ≤ L e ∧ (k < e → L k < L e)

theorem best_unique {S : Finset (Fin 8)} {L : Fin 8 → EReal} {e e' : Fin 8} (h : Best S L e) (h' : Best S L e') : e = e' := by
  rcases lt_trichotomy e e' with c | c | c
  · exact absurd ((h'.2 e h.1).2 c) (not_lt.mpr (h.2 e' h'.1).1)
  · exact c
  · exact absurd ((h.2 e' h'.1).2 c) (not_lt.mpr (h'.2 e h.1).1)

theorem best_exists (S : Finset (Fin 8)) (L : Fin 8 → EReal) (hS : S.Nonempty) : ∃ e, Best S L e := by
  obtain ⟨m, hm, hmax⟩ := S.exists_max_image L hS
  have hne : (S.filter fun e => L e = L m).Nonempty := ⟨m, Finset.mem_filter.mpr ⟨hm, rfl⟩⟩
  have hmem := Finset.mem_filter.mp (Finset.min'_mem _ hne)
  refine ⟨(S.filter fun e => L e = L m).min' hne, hmem.1, fun k hk => ⟨?_, fun hlt => ?_⟩⟩
  · rw [hmem.2]; exact hmax k hk
  · rw [hmem.2]
    refine lt_of_le_of_ne (hmax k hk) fun heq => ?_
    exact absurd (Finset.min'_le _ k (Finset.mem_filter.mpr ⟨hk, heq⟩)) (not_le.mpr hlt)

/-- The expert of the greatest logit. -/
def fst (L : Fin 8 → EReal) : Fin 8 := (best_exists Finset.univ L Finset.univ_nonempty).choose

theorem fst_best (L : Fin 8 → EReal) : Best Finset.univ L (fst L) := (best_exists Finset.univ L Finset.univ_nonempty).choose_spec

theorem rest_nonempty (e : Fin 8) : (Finset.univ.erase e).Nonempty := by
  rw [← Finset.card_pos, Finset.card_erase_of_mem (Finset.mem_univ e), Finset.card_univ, Fintype.card_fin]
  decide

/-- The expert of the greatest logit among the others. -/
def snd (L : Fin 8 → EReal) : Fin 8 := (best_exists _ L (rest_nonempty (fst L))).choose

theorem snd_best (L : Fin 8 → EReal) : Best (Finset.univ.erase (fst L)) L (snd L) := (best_exists _ L (rest_nonempty (fst L))).choose_spec

theorem snd_ne (L : Fin 8 → EReal) : snd L ≠ fst L := Finset.ne_of_mem_erase (snd_best L).1

/-- Choice `j` of the two. -/
def pick (L : Fin 8 → EReal) (j : Fin 2) : Fin 8 := if j = 0 then fst L else snd L

/-- The second logit's exponential over the first's. -/
def gap (L : Fin 8 → EReal) : EReal :=
  FloatOps.exp (F := Ideal) (φ := .f32) (FloatOps.subf (F := Ideal) (φ := .f32) (L (snd L)) (L (fst L)))

/-- The weight of choice `j`. -/
def share (L : Fin 8 → EReal) (j : Fin 2) : EReal :=
  FloatOps.divf (F := Ideal) (φ := .f32) (if j = 0 then (1 : EReal) else gap L) ((1 : EReal) + gap L)

/-- A maximum over the lanes, from a start no greater, is the greatest lane. -/
theorem fold_max (f : Fin 8 → EReal) (b : EReal) (e : Fin 8) (hb : b ≤ f e) (h : ∀ k, f k ≤ f e) :
    (Finset.univ : Finset (Fin 8)).fold max b f = f e :=
  le_antisymm ((Finset.fold_max_le _).mpr ⟨hb, fun k _ => h k⟩) ((Finset.le_fold_max _).mpr (Or.inr ⟨e, Finset.mem_univ e, le_rfl⟩))

/-- The least lane index satisfying a property, lanes not satisfying it counting as eight. -/
theorem fold_min (p : Fin 8 → Prop) [DecidablePred p] (e : Fin 8) (he : p e) (h : ∀ k, k < e → ¬ p k) :
    (Finset.univ : Finset (Fin 8)).fold IntOp.minsi (2147483647#32) (fun k => if p k then BitVec.ofNat 32 k.val else 8#32)
      = BitVec.ofNat 32 e.val := by
  apply BitVec.eq_of_toInt_eq
  have hom := Finset.fold_hom (op := IntOp.minsi (w := 32)) (op' := (min : ℤ → ℤ → ℤ)) (s := (Finset.univ : Finset (Fin 8)))
    (b := 2147483647#32) (f := fun k => if p k then BitVec.ofNat 32 k.val else 8#32) (m := BitVec.toInt)
    (fun x y => SortNet.toInt_minsi x y)
  rw [← hom]
  have hv : ∀ k : Fin 8, (BitVec.ofNat 32 k.val).toInt = (k.val : ℤ) := by decide
  refine le_antisymm ((Finset.fold_min_le _).mpr (Or.inr ⟨e, Finset.mem_univ e, ?_⟩)) ((Finset.le_fold_min _).mpr ⟨?_, fun k _ => ?_⟩)
  · rw [if_pos he]
  · rw [hv]; have := e.isLt; simp; try omega
  · rw [hv]
    by_cases hk : p k
    · rw [if_pos hk, hv]
      have : ¬ k < e := fun c => h k c hk
      have := not_lt.mp this
      exact_mod_cast this
    · rw [if_neg hk]; have := e.isLt; simp; try omega

/-- `a` comes ahead of `b`: the greater logit, or the same one earlier. -/
def Ahead (L : Fin 8 → EReal) (a b : Fin 8) : Prop := L b < L a ∨ (L a = L b ∧ a < b)

/-- The comparison the sort decides by. -/
def beats (L : Fin 8 → EReal) (i k : Fin 8) : Bool := decide (L k < L i)

theorem insert_ahead (L : Fin 8 → EReal) (a : Fin 8) (l : List (Fin 8)) (hl : l.Pairwise (Ahead L)) (ha : ∀ b ∈ l, a < b) :
    (insertBefore (beats L) a l).Pairwise (Ahead L) := by
  induction l with
  | nil => simp [insertBefore]
  | cons b l ih =>
    obtain ⟨hb, hl'⟩ := List.pairwise_cons.mp hl
    unfold insertBefore
    split
    · rename_i hc
      have hlt : L a < L b := of_decide_eq_true hc
      refine List.pairwise_cons.mpr ⟨fun x hx => ?_, ih hl' fun x hx => ha x (List.mem_cons_of_mem _ hx)⟩
      rcases List.mem_cons.mp ((perm_insertBefore _ a l).mem_iff.mp hx) with rfl | hx
      · exact Or.inl hlt
      · exact hb x hx
    · rename_i hc
      have hle : L b ≤ L a := not_lt.mp fun c => hc (decide_eq_true c)
      refine List.pairwise_cons.mpr ⟨fun x hx => ?_, hl⟩
      have hxb : L x ≤ L b := by
        rcases List.mem_cons.mp hx with rfl | hx
        · exact le_rfl
        · rcases hb x hx with c | c
          · exact c.le
          · exact c.1.symm.le
      rcases lt_or_eq_of_le (hxb.trans hle) with c | c
      · exact Or.inl c
      · exact Or.inr ⟨c.symm, ha x hx⟩

theorem sort_ahead (L : Fin 8 → EReal) (l : List (Fin 8)) (h : l.Pairwise (· < ·)) : (stableSort (beats L) l).Pairwise (Ahead L) := by
  induction l with
  | nil => exact List.Pairwise.nil
  | cons a l ih =>
    obtain ⟨ha, hl⟩ := List.pairwise_cons.mp h
    exact insert_ahead L a _ (ih hl) fun b hb => ha b ((perm_stableSort _ l).mem_iff.mp hb)

/-- A stable sort by falling logit begins with the two choices. -/
theorem sorted_pick (L : Fin 8 → EReal) (j : Fin 2) (k : Fin 8) (hk : k.val = j.val) : sortedFrom (beats L) k = pick L j := by
  have hp : (sortPositions 8 (beats L)).Pairwise (Ahead L) := sort_ahead L _ (List.pairwise_lt_finRange 8)
  have hm : ∀ e : Fin 8, e ∈ sortPositions 8 (beats L) := fun e => (perm_sortPositions 8 _).mem_iff.mpr (List.mem_finRange e)
  have hlen : (sortPositions 8 (beats L)).length = 8 := (perm_sortPositions 8 _).length_eq.trans (List.length_finRange)
  have hget : sortedFrom (beats L) k = (sortPositions 8 (beats L))[k.val]'(by rw [hlen]; exact k.isLt) := rfl
  rw [hget]
  generalize sortPositions 8 (beats L) = l at hp hm hlen ⊢
  match l, hp, hm, hlen with
  | a :: b :: r, hp, hm, hlen =>
    obtain ⟨h1, hp'⟩ := List.pairwise_cons.mp hp
    obtain ⟨h2, _⟩ := List.pairwise_cons.mp hp'
    have over : ∀ {p q : Fin 8}, Ahead L p q → L q ≤ L p ∧ (q < p → L q < L p) := fun {p q} h => by
      rcases h with c | c
      · exact ⟨c.le, fun _ => c⟩
      · exact ⟨c.1.symm.le, fun d => absurd c.2 (not_lt.mpr d.le)⟩
    have e1 : a = fst L := best_unique ⟨Finset.mem_univ a, fun q _ => by
      rcases List.mem_cons.mp (hm q) with rfl | hq
      · exact ⟨le_rfl, fun c => absurd c (lt_irrefl _)⟩
      · exact over (h1 q hq)⟩ (fst_best L)
    have hba : b ≠ a := fun c => by
      rcases h1 b (List.mem_cons_self) with d | d
      · rw [c] at d; exact lt_irrefl _ d
      · rw [c] at d; exact lt_irrefl _ d.2
    have e2 : b = snd L := best_unique ⟨Finset.mem_erase.mpr ⟨e1 ▸ hba, Finset.mem_univ b⟩, fun q hq => by
      have hqa : q ≠ a := e1 ▸ Finset.ne_of_mem_erase hq
      rcases List.mem_cons.mp (hm q) with rfl | hq
      · exact absurd rfl hqa
      · rcases List.mem_cons.mp hq with rfl | hq
        · exact ⟨le_rfl, fun c => absurd c (lt_irrefl _)⟩
        · exact over (h2 q hq)⟩ (snd_best L)
    unfold pick
    match j, hk with
    | 0, hk =>
      rw [if_pos rfl, ← e1]
      have : k.val = 0 := hk
      simp only [this]; rfl
    | 1, hk =>
      rw [if_neg (by decide), ← e2]
      have : k.val = 1 := hk
      simp only [this]; rfl

end Cert.Whole.Choice

end
-- ==== Proof.Whole.Block.lean ====
/- One block of the routing call, read at an element: each token's two choices, their weights, and how many earlier tokens
   chose the same expert. -/
module

public import proofs.«01_k».proof.Proof.Gate.Value
public import proofs.«01_k».proof.Proof.Whole.Choice
public import proofs.«01_k».proof.Proof.Ideal.RouteBody
public import Idealize.ShloMosaic.Lib.Pipeline.Value

@[expose] public section

set_option maxRecDepth 16384

noncomputable section

namespace Cert.Whole.Block

open Cert.KernelIdeal hiding ix1
open Cert.KernelIdeal.Gen Cert.KernelIdeal.Route Cert.Whole.Choice
open Cert.GateIdeal.Reading (local_)
open Idealize.ShloMosaic Idealize.ShloMosaic.TcCoe Idealize.ShloMosaic.ValueIdx

/-- Whether a token chooses an expert, as a number. -/
def picked (L : Fin 8 → EReal) (e : Fin 8) : ℕ := if e = fst L ∨ e = snd L then 1 else 0

theorem lowest : (Ideal.ofBits .f32 0xFF800000#32 : EReal) = ⊥ := by simp [Ideal.ofBits, Ideal.ieee]

theorem bit_real (p : Prop) [Decidable p] :
    (FloatOps.sitofp (F := Ideal) .f32 ((BitVec.ofBool (decide p)).setWidth 32) : EReal) = if p then 1 else 0 := by
  by_cases h : p
  · rw [if_pos h, decide_eq_true h]
    show ((((BitVec.ofBool true).setWidth 32 : BitVec 32).toInt : ℝ) : EReal) = 1
    rw [show ((BitVec.ofBool true).setWidth 32 : BitVec 32).toInt = 1 from by decide]
    norm_num
  · rw [if_neg h, decide_eq_false h]
    show ((((BitVec.ofBool false).setWidth 32 : BitVec 32).toInt : ℝ) : EReal) = 0
    rw [show ((BitVec.ofBool false).setWidth 32 : BitVec 32).toInt = 0 from by decide]
    norm_num

/-- A count as a real converts back to the word of it. -/
theorem word_of_count (n : ℕ) (h : n < 2 ^ 31) : Ideal.fptosi 32 ((n : ℕ) : EReal) = BitVec.ofNat 32 n := by
  have e : ((n : ℕ) : EReal) = (((n : ℕ) : ℝ) : EReal) := by norm_cast
  rw [e, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num at h ⊢; omega
  rw [this]
  rfl

/-! ## Lanes -/

theorem column_at {α : Type} (v : S512.Idx → α) (r : Fin 512) : shapeCast S512x1 v shapeCasts_S512_S512x1 (ix2 r 0) = v (ix1 r) :=
  shapeCast_apply v shapeCasts_S512_S512x1 (ix2 r 0) (ix1 r)
    (by rewrite [Shape.rowMajor_val_one, Shape.rowMajor_val_two]; show r.val = r.val * 1 + 0; omega)

theorem spread_at {α : Type} (v : S512x1.Idx → α) (r : Fin 512) (e : Fin 8) :
    broadcastTo S512x8 v broadcasts_S512x1_S512x8 (ix2 r e) = v (ix2 r 0) :=
  broadcastTo_apply v broadcasts_S512x1_S512x8 (ix2 r e) (ix2 r 0) (fun a => match a with
    | ⟨0, _⟩ => by show r.val = if (512 : Nat) = 1 then 0 else r.val; rw [if_neg (by decide)]
    | ⟨1, _⟩ => by show 0 = if (1 : Nat) = 1 then 0 else e.val; rw [if_pos rfl])

theorem lift_row (r : Fin 512) (k : Fin 8) : reduces_S512x8_S512.lift (ValueIdx.ix1 r) k = (ix2 r k : S512x8.Idx) := funext fun a => match a with
  | ⟨0, _⟩ => rfl
  | ⟨1, _⟩ => rfl

theorem lanes_at (r : Fin 512) (k : Fin 8) : iota .tc S512x8 32 [1] iota_S512x8_d1_w32 (ix2 r k) = BitVec.ofNat 32 k.val :=
  iota_single_apply .tc S512x8 32 1 iota_S512x8_d1_w32 (ix2 r k)

/-- The greatest of a row's lanes. -/
theorem greatest_at (m : FVec Ideal S512x8 .f32) (r : Fin 512) (f : Fin 8 → EReal) (e : Fin 8) (hm : ∀ k, m (ix2 r k) = f k) (he : ∀ k, f k ≤ f e) :
    shapeCast S512x1 (multiReduction .maximumf [1] S512 m 0xFF800000#32 reduces_S512x8_S512 (.inl rfl) rfl) shapeCasts_S512_S512x1 (ix2 r 0) = f e := by
  rw [column_at]
  refine (Ideal.multiReduction_maximumf_single _ _ reduces_S512x8_S512 (.inl rfl) rfl (ix1 r)).trans ?_
  refine Eq.trans ?_ (fold_max f (Ideal.ofBits .f32 0xFF800000#32) e (by rw [lowest]; exact bot_le) he)
  refine congrArg (fun g => Finset.fold max _ g _) (funext fun k => ?_)
  exact (congrArg m (lift_row r k)).trans (hm k)

/-- The first lane holding the row's greatest. -/
theorem lane_at (m : FVec Ideal S512x8 .f32) (t : FVec Ideal S512x1 .f32) (r : Fin 512) (f : Fin 8 → EReal) (e : Fin 8)
    (hm : ∀ k, m (ix2 r k) = f k) (ht : t (ix2 r 0) = f e) (he : ∀ k, k < e → f k ≠ f e) :
    multiReductionI .minsi [1] S512 (select (cmpf .oeq m (broadcastTo S512x8 t broadcasts_S512x1_S512x8)) (iota .tc S512x8 32 [1] iota_S512x8_d1_w32) (broadcast S512x8 8#32))
      2147483647#32 reduces_S512x8_S512 rfl (ix1 r) = BitVec.ofNat 32 e.val := by
  refine (multiReductionI_eq_fold .minsi _ _ reduces_S512x8_S512 rfl (ix1 r)).trans ?_
  rw [Shape.Reduces.fold_filter_drop_single]
  refine Eq.trans ?_ (fold_min (fun k => f k = f e) e rfl he)
  refine congrArg (fun g => Finset.fold _ _ g _) (funext fun (k : Fin 8) => ?_)
  refine (congrArg (select _ _ _) (lift_row r k)).trans ?_
  show (if (BitVec.ofBool (decide ((m (ix2 r k) : EReal) = (broadcastTo S512x8 t broadcasts_S512x1_S512x8 (ix2 r k) : EReal)))) = 1#1 then iota .tc S512x8 32 [1] iota_S512x8_d1_w32 (ix2 r k) else 8#32) = _
  rw [spread_at, hm, ht, lanes_at]
  by_cases h : f k = f e
  · rw [if_pos h, decide_eq_true h]; rfl
  · rw [if_neg h, decide_eq_false h]; rfl

/-- A lane index spread to one hot lane. -/
theorem hot_at (v : IVec S512 32) (r : Fin 512) (e k : Fin 8) (hv : v (ix1 r) = BitVec.ofNat 32 e.val) :
    (sitofp .f32 (extui 32 (cmpi .eq (iota .tc S512x8 32 [1] iota_S512x8_d1_w32) (broadcastTo S512x8 (shapeCast S512x1 v shapeCasts_S512_S512x1) broadcasts_S512x1_S512x8)) natLt_1_32) : FVec Ideal S512x8 .f32) (ix2 r k)
      = if k = e then (1 : EReal) else 0 := by
  refine Eq.trans ?_ (bit_real (k = e))
  show FloatOps.sitofp (F := Ideal) .f32 ((BitVec.ofBool (iota .tc S512x8 32 [1] iota_S512x8_d1_w32 (ix2 r k) == broadcastTo S512x8 (shapeCast S512x1 v shapeCasts_S512_S512x1) broadcasts_S512x1_S512x8 (ix2 r k))).setWidth 32) = _
  rw [spread_at, column_at, hv, lanes_at]
  have : ∀ k e : Fin 8, (BitVec.ofNat 32 k.val == BitVec.ofNat 32 e.val) = decide (k = e) := by decide
  rw [this]

section Block

variable (x : FVec Ideal S512x1024 .f32) (w : FVec Ideal S8x1024 .f32) (r : Fin 512)

theorem logits_at (e : Fin 8) : k0_pay8 (F := Ideal) x w (ix2 r e) = local_ x w r e := Cert.GateIdeal.Reading.logits_at x w r e

theorem top_at : k0_pay9 (F := Ideal) x w (ix2 r 0) = local_ x w r (fst (local_ x w r)) :=
  greatest_at _ r _ _ (logits_at x w r) fun k => ((fst_best _).2 k (Finset.mem_univ k)).1

theorem first_at : k0_pay10 (F := Ideal) x w (ix1 r) = BitVec.ofNat 32 (fst (local_ x w r)).val :=
  lane_at _ _ r _ _ (logits_at x w r) (top_at x w r) fun k hk => (((fst_best _).2 k (Finset.mem_univ k)).2 hk).ne

theorem hot1_at (k : Fin 8) : k0_pay11 (F := Ideal) x w (ix2 r k) = if k = fst (local_ x w r) then (1 : EReal) else 0 :=
  hot_at _ r _ k (first_at x w r)

/-- The logits with the first choice's lane at minus infinity. -/
abbrev rest (L : Fin 8 → EReal) (k : Fin 8) : EReal := if k = fst L then ⊥ else L k

theorem rest_at (k : Fin 8) : k0_pay12 (F := Ideal) x w (ix2 r k) = rest (local_ x w r) k := by
  show (if (BitVec.ofBool (decide ((Ideal.ofBits .f32 0x00000000#32 : EReal) < k0_pay11 (F := Ideal) x w (ix2 r k)))) = 1#1 then (Ideal.ofBits .f32 0xFF800000#32 : EReal) else k0_pay8 (F := Ideal) x w (ix2 r k)) = _
  rw [hot1_at, logits_at, lowest, Ideal.ofBits_zero_f32]
  by_cases h : k = fst (local_ x w r)
  · rw [if_pos h, rest, if_pos h, decide_eq_true zero_lt_one]; rfl
  · rw [if_neg h, rest, if_neg h, decide_eq_false (lt_irrefl _)]; rfl

theorem rest_snd (L : Fin 8 → EReal) : rest L (snd L) = L (snd L) := if_neg (snd_ne L)

theorem rest_le (L : Fin 8 → EReal) (k : Fin 8) : rest L k ≤ rest L (snd L) := by
  rw [rest_snd]
  by_cases h : k = fst L
  · rw [rest, if_pos h]; exact bot_le
  · rw [rest, if_neg h]; exact ((snd_best L).2 k (Finset.mem_erase.mpr ⟨h, Finset.mem_univ k⟩)).1

theorem second_top_at : k0_pay13 (F := Ideal) x w (ix2 r 0) = local_ x w r (snd (local_ x w r)) :=
  (greatest_at _ r _ _ (rest_at x w r) (rest_le _)).trans (rest_snd _)

variable (hl : ∀ e, local_ x w r e ≠ ⊥)

include hl in
theorem second_at : k0_pay14 (F := Ideal) x w (ix1 r) = BitVec.ofNat 32 (snd (local_ x w r)).val :=
  lane_at _ _ r _ _ (rest_at x w r) ((second_top_at x w r).trans (rest_snd _).symm) fun k hk => by
    rw [rest_snd]
    by_cases h : k = fst (local_ x w r)
    · rw [rest, if_pos h]; exact (hl _).symm
    · rw [rest, if_neg h]; exact (((snd_best _).2 k (Finset.mem_erase.mpr ⟨h, Finset.mem_univ k⟩)).2 hk).ne

include hl in
theorem hot2_at (k : Fin 8) : k0_pay15 (F := Ideal) x w (ix2 r k) = if k = snd (local_ x w r) then (1 : EReal) else 0 :=
  hot_at _ r _ k (second_at x w r hl)

/-! ## The blocks written -/

theorem pair_at {α : Type} (a b : S512x1.Idx → α) (j : Fin 2) :
    concatenate S512x2 1 [⟨S512x1, a⟩, ⟨S512x1, b⟩] concatenates_S512x1_S512x1_S512x2_d1 (ix2 r j) = if j = 0 then a (ix2 r 0) else b (ix2 r 0) := by
  match j with
  | 0 =>
    rw [if_pos rfl]
    exact concatenate_pair_apply_left (t := S512x2) 1 a b concatenates_S512x1_S512x1_S512x2_d1 (ix2 r 0) rfl (ix2 r 0) (fun b => match b with | ⟨0, _⟩ => rfl | ⟨1, _⟩ => rfl)
  | 1 =>
    rw [if_neg (by decide)]
    exact concatenate_pair_apply_right (t := S512x2) 1 a b concatenates_S512x1_S512x1_S512x2_d1 (ix2 r 1) rfl rfl (ix2 r 0) (fun b => match b with | ⟨0, _⟩ => fun _ => rfl | ⟨1, _⟩ => fun h => absurd rfl h) rfl

include hl in
/-- The experts chosen, -/
theorem eids_at (j : Fin 2) : eidsOf (F := Ideal) x w (ix2 r j) = BitVec.ofNat 32 (pick (local_ x w r) j).val := by
  unfold eidsOf k0_pay1
  refine (pair_at r _ _ j).trans ?_
  unfold pick k0_pay27 k0_pay28
  rw [column_at, column_at, first_at, second_at x w r hl]
  split <;> rfl

theorem gap_at : k0_pay16 (F := Ideal) x w (ix2 r 0) = gap (local_ x w r) := by
  show FloatOps.exp (F := Ideal) (φ := .f32) (FloatOps.subf (F := Ideal) (φ := .f32) (k0_pay13 (F := Ideal) x w (ix2 r 0)) (k0_pay9 (F := Ideal) x w (ix2 r 0))) = _
  rw [second_top_at, top_at]
  rfl

/-- their weights, -/
theorem ws_at (j : Fin 2) : wsOf (F := Ideal) x w (ix2 r j) = share (local_ x w r) j := by
  unfold wsOf k0_pay2
  refine (pair_at r _ _ j).trans ?_
  have h1 : k0_pay19 (F := Ideal) (k0_pay17 x w) k0_pay18 (ix2 r 0) = FloatOps.divf (F := Ideal) (φ := .f32) (Ideal.ofBits .f32 0x3F800000#32 : EReal) ((Ideal.ofBits .f32 0x3F800000#32 : EReal) + k0_pay16 (F := Ideal) x w (ix2 r 0)) := rfl
  have h2 : k0_pay20 (F := Ideal) (k0_pay16 x w) (ix2 r 0) = FloatOps.divf (F := Ideal) (φ := .f32) (k0_pay16 (F := Ideal) x w (ix2 r 0)) ((Ideal.ofBits .f32 0x3F800000#32 : EReal) + k0_pay16 (F := Ideal) x w (ix2 r 0)) := rfl
  rw [h1, h2, gap_at, Ideal.ofBits_one_f32]
  unfold share
  split <;> rfl

theorem sum_bits {n : ℕ} (f : Fin n → ℕ) : (∑ i, ((f i : ℕ) : EReal)) = ((∑ i, f i : ℕ) : EReal) := (Nat.cast_sum _ _).symm

include hl in
/-- Both hot lanes at once. -/
theorem hots_at (k : Fin 8) : k0_pay22 (F := Ideal) (k0_pay11 x w) (k0_pay15 x w) (ix2 r k) = ((picked (local_ x w r) k : ℕ) : EReal) := by
  show (k0_pay11 (F := Ideal) x w (ix2 r k) : EReal) + k0_pay15 (F := Ideal) x w (ix2 r k) = _
  rw [hot1_at, hot2_at x w r hl]
  have hne := snd_ne (local_ x w r)
  unfold picked
  by_cases h1 : k = fst (local_ x w r)
  · rw [if_pos h1, if_neg (by rw [h1]; exact hne.symm), if_pos (Or.inl h1)]; simp
  · by_cases h2 : k = snd (local_ x w r)
    · rw [if_neg h1, if_pos h2, if_pos (Or.inr h2)]; simp
    · rw [if_neg h1, if_neg h2, if_neg (by rintro (c | c) <;> contradiction)]; simp

end Block

section Counts

variable (x : FVec Ideal S512x1024 .f32) (w : FVec Ideal S8x1024 .f32) (hl : ∀ r e, local_ x w r e ≠ ⊥)

/-- The rows above a row. -/
theorem above_at (r q : Fin 512) :
    (sitofp .f32 (extui 32 (cmpi .sgt (iota .tc S512x512 32 [0] iota_S512x512_d0_w32) (iota .tc S512x512 32 [1] iota_S512x512_d1_w32)) natLt_1_32) : FVec Ideal S512x512 .f32) (ix2 r q)
      = if q < r then (1 : EReal) else 0 := by
  refine Eq.trans ?_ (bit_real (q < r))
  show FloatOps.sitofp (F := Ideal) .f32 ((BitVec.ofBool ((iota .tc S512x512 32 [1] iota_S512x512_d1_w32 (ix2 r q)).slt (iota .tc S512x512 32 [0] iota_S512x512_d0_w32 (ix2 r q)))).setWidth 32) = _
  rw [iota_single_apply, iota_single_apply]
  show FloatOps.sitofp (F := Ideal) .f32 ((BitVec.ofBool ((BitVec.ofNat 32 q.val).slt (BitVec.ofNat 32 r.val))).setWidth 32) = _
  have : (BitVec.ofNat 32 q.val).slt (BitVec.ofNat 32 r.val) = decide (q < r) := by
    have hv : ∀ z : Fin 512, (BitVec.ofNat 32 z.val).toInt = (z.val : ℤ) := fun z => by
      rw [BitVec.toInt_eq_toNat_of_lt (by rw [BitVec.toNat_ofNat]; have := z.isLt; omega), BitVec.toNat_ofNat]; have := z.isLt; norm_cast; omega
    rw [BitVec.slt, hv, hv]
    exact decide_eq_decide.mpr (by rw [Fin.lt_def]; norm_cast)
  rw [this]

include hl in
/-- The earlier tokens, in the block and before it, that chose an expert. -/
theorem base_at (n : FVec Ideal S1x8 .f32) (b : Fin 8 → ℕ) (hn : ∀ e, n (ix2 0 e) = ((b e : ℕ) : EReal)) (r : Fin 512) (e : Fin 8) :
    k0_pay23 (F := Ideal) (k0_pay11 x w) (k0_pay15 x w) n (ix2 r e)
      = ((b e + ∑ q : Fin 512, (if q < r then picked (local_ x w q) e else 0) : ℕ) : EReal) := by
  unfold k0_pay23
  dsimp only
  have hb : broadcastTo S512x8 n broadcasts_S1x8_S512x8 (ix2 r e) = n (ix2 0 e) :=
    broadcastTo_apply n broadcasts_S1x8_S512x8 (ix2 r e) (ix2 0 e) (fun a => match a with
      | ⟨0, _⟩ => by show 0 = if (1 : Nat) = 1 then 0 else r.val; rw [if_pos rfl]
      | ⟨1, _⟩ => by show e.val = if (8 : Nat) = 1 then 0 else e.val; rw [if_neg (by decide)])
  rw [addf_apply, hb, hn]
  rw [Nat.cast_add, add_comm]
  refine congrArg (fun z : EReal => ((b e : ℕ) : EReal) + z) ?_
  refine (Ideal.matmul_plain_apply none _ _ (constant S512x8 .f32 0x00000000#32) r e).trans ?_
  show Ideal.ofBits .f32 0x00000000#32 + _ = _
  rw [Ideal.ofBits_zero_f32, zero_add, ← sum_bits]
  refine Finset.sum_congr rfl fun q _ => ?_
  rw [above_at, hots_at x w q (hl q)]
  by_cases h : q < r
  · rw [if_pos h, if_pos h, one_mul]
  · rw [if_neg h, if_neg h, zero_mul, Nat.cast_zero]

/-- One lane read from a row by its hot lane. -/
theorem hot_sum (m h : FVec Ideal S512x8 .f32) (r : Fin 512) (e : Fin 8) (hh : ∀ k, h (ix2 r k) = if k = e then (1 : EReal) else 0) :
    multiReduction .add [1] S512 (mulf m h) 0x00000000#32 reduces_S512x8_S512 (.inl rfl) rfl (ix1 r) = m (ix2 r e) := by
  refine (Ideal.multiReduction_add_single _ _ reduces_S512x8_S512 (.inl rfl) rfl (ix1 r)).trans ?_
  have : ∀ k : Fin 8, mulf m h (reduces_S512x8_S512.lift (ValueIdx.ix1 r) k) = (if k = e then m (ix2 r e) else (0 : EReal)) := fun k => by
    rw [lift_row, mulf_apply, hh]
    by_cases hk : k = e
    · rw [if_pos hk, if_pos hk, hk]; exact mul_one _
    · rw [if_neg hk, if_neg hk]; exact mul_zero _
  exact (Finset.sum_congr rfl fun k _ => this k).trans ((Finset.sum_ite_eq' _ _ _).trans (if_pos (Finset.mem_univ e)))

include hl in
/-- A token's place among those that chose its expert. -/
theorem ranks_at (n : FVec Ideal S1x8 .f32) (b : Fin 8 → ℕ) (hn : ∀ e, n (ix2 0 e) = ((b e : ℕ) : EReal)) (hb : ∀ e, b e ≤ 8192) (r : Fin 512) (j : Fin 2) :
    ranksOf (F := Ideal) x w n (ix2 r j)
      = BitVec.ofNat 32 (b (pick (local_ x w r) j) + ∑ q : Fin 512, (if q < r then picked (local_ x w q) (pick (local_ x w r) j) else 0)) := by
  have key : ∀ e : Fin 8, Ideal.fptosi 32 (k0_pay23 (F := Ideal) (k0_pay11 x w) (k0_pay15 x w) n (ix2 r e))
      = BitVec.ofNat 32 (b e + ∑ q : Fin 512, (if q < r then picked (local_ x w q) e else 0)) := fun e => by
    rw [base_at x w hl n b hn r e]
    refine word_of_count _ ?_
    have h1 : ∑ q : Fin 512, (if q < r then picked (local_ x w q) e else 0) ≤ ∑ _q : Fin 512, 1 :=
      Finset.sum_le_sum fun q _ => by unfold picked; split <;> (try split) <;> omega
    have h2 : ∑ _q : Fin 512, 1 = 512 := by simp
    have := hb e
    omega
  unfold ranksOf k0_pay3
  refine (congrArg (Ideal.fptosi 32) (pair_at r _ _ j)).trans ?_
  rw [column_at, column_at]
  unfold pick
  by_cases hj : j = 0
  · simp only [if_pos hj]
    rw [← key]
    refine congrArg (Ideal.fptosi 32) ?_
    exact hot_sum _ _ r _ (hot1_at x w r)
  · simp only [if_neg hj]
    rw [← key]
    refine congrArg (Ideal.fptosi 32) ?_
    exact hot_sum _ _ r _ (hot2_at x w r (hl r))

include hl in
/-- One more block adds its tokens. -/
theorem counts_at (n : FVec Ideal S1x8 .f32) (b : Fin 8 → ℕ) (hn : ∀ e, n (ix2 0 e) = ((b e : ℕ) : EReal)) (e : Fin 8) :
    stepCnt (F := Ideal) x w n (ix2 0 e) = ((b e + ∑ q : Fin 512, picked (local_ x w q) e : ℕ) : EReal) := by
  unfold stepCnt k0_pay26
  dsimp only
  rw [shapeCast_self, addf_apply, hn, Nat.cast_add, ← sum_bits]
  refine congrArg (fun z : EReal => ((b e : ℕ) : EReal) + z) ?_
  refine (shapeCast_apply _ shapeCasts_S8_S1x8 (ix2 0 e) (ix1 e)
    (by rewrite [Shape.rowMajor_val_one, Shape.rowMajor_val_two]; show e.val = 0 * 8 + e.val; omega)).trans ?_
  refine (Ideal.multiReduction_add_single _ _ reduces_S512x8_S8 (.inl rfl) rfl (ix1 e)).trans (Finset.sum_congr rfl fun (r : Fin 512) _ => ?_)
  have hi : reduces_S512x8_S8.lift (ValueIdx.ix1 e) r = (ix2 r e : S512x8.Idx) := funext fun a => match a with
    | ⟨0, _⟩ => rfl
    | ⟨1, _⟩ => rfl
  exact (congrArg _ hi).trans (hots_at x w r (hl r) e)

end Counts

/-- The counts' row starts from zero. -/
theorem zero_counts (e : Fin 8) : k0_pay6 (F := Ideal) (ix2 0 e) = ((0 : ℕ) : EReal) := by
  unfold k0_pay6
  rw [shapeCast_self]
  exact Ideal.ofBits_zero_f32.trans Nat.cast_zero.symm

/-- The counts as stored. -/
theorem stored_counts (n : FVec Ideal S1x8 .f32) (b : ℕ) (e : Fin 8) (hn : n (ix2 0 e) = ((b : ℕ) : EReal)) (hb : b < 2 ^ 31) :
    k0_pay4 (F := Ideal) n (ix2 0 e) = BitVec.ofNat 32 b :=
  (congrArg (Ideal.fptosi 32) hn).trans (word_of_count b hb)

end Cert.Whole.Block

end
-- ==== Proof.Whole.Region.lean ====
/- What the routing call of the whole program leaves in its five results, read at an element from the program's inputs. -/
module

public import proofs.«01_k».proof.Proof.Whole.Block
public import proofs.«01_k».proof.Proof.Ideal.Run
public import Idealize.ShloMosaic.Lib.StableHlo.RunRead

@[expose] public section

set_option maxRecDepth 16384

noncomputable section

namespace Cert.Whole.Region

open Cert.KernelIdeal hiding ix1
open Cert.KernelIdeal.Gen Cert.KernelIdeal.Route Cert.Whole.Choice Cert.Whole.Block Cert.Gate.Loss
open Cert.GateIdeal.Reading (local_)
open Idealize.ShloMosaic Idealize.ShloMosaic.TcCoe Idealize.ShloMosaic.ValueIdx

/-! ## Counting the tokens that chose an expert -/

/-- Whether token `t` chooses expert `e`. -/
def pickedAt (l : Fin 4096 → Fin 8 → EReal) (e : Fin 8) (t : ℕ) : ℕ := if h : t < 4096 then picked (l ⟨t, h⟩) e else 0

/-- How many of the first `n` tokens choose expert `e`. -/
def before (l : Fin 4096 → Fin 8 → EReal) (e : Fin 8) (n : ℕ) : ℕ := ∑ t ∈ Finset.range n, pickedAt l e t

theorem pickedAt_le (l : Fin 4096 → Fin 8 → EReal) (e : Fin 8) (t : ℕ) : pickedAt l e t ≤ 1 := by
  unfold pickedAt picked; split <;> (try split) <;> omega

theorem before_le (l : Fin 4096 → Fin 8 → EReal) (e : Fin 8) (n : ℕ) : before l e n ≤ n :=
  (Finset.sum_le_sum fun t _ => pickedAt_le l e t).trans (by simp)

theorem before_add (l : Fin 4096 → Fin 8 → EReal) (e : Fin 8) (n k : ℕ) :
    before l e (n + k) = before l e n + ∑ t ∈ Finset.range k, pickedAt l e (n + t) := Finset.sum_range_add _ _ _

/-- Within a block, the rows above a row. -/
theorem before_row (l : Fin 4096 → Fin 8 → EReal) (e : Fin 8) (n : ℕ) (h : n < 8) (r : Fin 512) :
    before l e (512 * n) + ∑ q : Fin 512, (if q < r then picked (l (token n h q)) e else 0) = before l e (512 * n + r.val) := by
  rw [before_add]
  refine congrArg (before l e (512 * n) + ·) ?_
  have hp : ∀ q : Fin 512, (if q < r then picked (l (token n h q)) e else 0) = (fun x : ℕ => if x < r.val then pickedAt l e (512 * n + x) else 0) q.val := fun q => by
    show _ = if q.val < r.val then pickedAt l e (512 * n + q.val) else 0
    unfold pickedAt
    rw [dif_pos (show 512 * n + q.val < 4096 by have := q.isLt; omega)]
    rfl
  refine ((Finset.sum_congr rfl fun q _ => hp q).trans (Fin.sum_univ_eq_sum_range (fun x : ℕ => if x < r.val then pickedAt l e (512 * n + x) else 0) 512)).trans ?_
  rw [← Finset.sum_filter]
  refine Finset.sum_congr (Finset.ext fun x => ?_) fun _ _ => rfl
  rw [Finset.mem_filter, Finset.mem_range, Finset.mem_range]
  have := r.isLt
  omega

/-- A whole block. -/
theorem before_block (l : Fin 4096 → Fin 8 → EReal) (e : Fin 8) (n : ℕ) (h : n < 8) :
    before l e (512 * n) + ∑ q : Fin 512, picked (l (token n h q)) e = before l e (512 * (n + 1)) := by
  rw [show 512 * (n + 1) = 512 * n + 512 by omega, before_add, ← Fin.sum_univ_eq_sum_range]
  refine congrArg (before l e (512 * n) + ·) (Finset.sum_congr rfl fun q _ => ?_)
  unfold pickedAt
  rw [dif_pos (show 512 * n + q.val < 4096 by have := q.isLt; omega)]

/-! ## The blocks found -/

variable (m : (ℓ : Loc nD τ sig) → Buf (Elt Ideal) ℓ) (c : Dev nD)

abbrev tokens : Tokens := m ((c : Thread nD τ).loc main_arg0)
abbrev gates : Weights := m ((c : Thread nD τ).loc main_arg1)

/-- Every token's logits. -/
abbrev logits : Fin 4096 → Fin 8 → EReal := logit (tokens m c) (gates m c)

theorem flat : V1 m c (Proc.devRef .tc main_v0) = shapeCast S4096x1024 (tokens m c) shapeCasts_S2x2048x1024_S4096x1024 := by
  show StableHlo.after hostOps0 _ (Proc.devRef .tc main_v0) = _
  after_results
  rfl

theorem flat_at (t : Fin 4096) (k : Fin 1024) : V1 m c (Proc.devRef .tc main_v0) (ix2 t k : S4096x1024.Idx) = tokens m c (place t k) := by
  rw [flat]
  exact shapeCast_apply (tokens m c) shapeCasts_S2x2048x1024_S4096x1024 (ix2 t k) (place t k)
    (by rewrite [Shape.rowMajor_val_three, Shape.rowMajor_val_two]; show (t.val / 2048 * 2048 + t.val % 2048) * 1024 + k.val = t.val * 1024 + k.val; omega)

theorem gates_eq : V1 m c (Proc.devRef .tc main_arg1) = gates m c := by
  show StableHlo.after hostOps0 _ (Proc.devRef .tc main_arg1) = _
  after_results

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel

theorem block_at (n : ℕ) (hn : n < cfg0.N) (h : n < 8) (r : Fin 512) (k : Fin 1024) :
    xb (V1 m) c ⟨n, hn⟩ (ix2 r k) = tokens m c (place (token n h r) k) := by
  refine Eq.trans ?_ (flat_at m c (token n h r) k)
  show V1 m c (Proc.devRef .tc main_v0) (((cfg0.win 0).rect ⟨n, hn⟩).emb (ix2 r k)) = _
  refine congrArg (V1 m c (Proc.devRef .tc main_v0)) (funext fun b => Fin.ext ?_)
  refine (Pipeline.Window.rect_emb_val (cfg0.win 0) ⟨n, hn⟩ (ix2 r k) b).trans ?_
  rw [show (cfg0.win 0).index ⟨n, hn⟩ = ![n, 0] from index0 ⟨n, hn⟩]
  match b with
  | ⟨0, _⟩ => show n * 512 + r.val = 512 * n + r.val; omega
  | ⟨1, _⟩ => show 0 * 1024 + k.val = k.val; omega

theorem gate_at (n : ℕ) (hn : n < cfg0.N) (e : Fin 8) (k : Fin 1024) : wb (V1 m) c ⟨n, hn⟩ (ix2 e k) = gates m c (ix2 e k) := by
  refine Eq.trans ?_ (congrFun (gates_eq m c) (ix2 e k : S8x1024.Idx))
  show V1 m c (Proc.devRef .tc main_arg1) (((cfg0.win 1).rect ⟨n, hn⟩).emb (ix2 e k)) = _
  refine congrArg (V1 m c (Proc.devRef .tc main_arg1)) (funext fun b => Fin.ext ?_)
  refine (Pipeline.Window.rect_emb_val (cfg0.win 1) ⟨n, hn⟩ (ix2 e k) b).trans ?_
  rw [show (cfg0.win 1).index ⟨n, hn⟩ = ![0, 0] from index1 ⟨n, hn⟩]
  match b with
  | ⟨0, _⟩ => show 0 * 8 + e.val = e.val; omega
  | ⟨1, _⟩ => show 0 * 1024 + k.val = k.val; omega

theorem local_eq (n : ℕ) (hn : n < cfg0.N) (h : n < 8) (r : Fin 512) :
    local_ (xb (V1 m) c ⟨n, hn⟩) (wb (V1 m) c ⟨n, hn⟩) r = logits m c (token n h r) :=
  funext fun e => Finset.sum_congr rfl fun k _ =>
    congr (congrArg (fun (p q : EReal) => p * q) (block_at m c n hn h r k)) (gate_at m c n hn e k)

/-! ## The rows carried -/

theorem seven (n : ℕ) (h : n < 8) : n < cfg0.N := lt_of_lt_of_eq h N_0.symm

/-- The loss's row. -/
theorem sums_at (e : Fin 8) : ∀ (n : ℕ) (h : n < 8),
    colAt (V1 m) c (n + 1) (ix2 0 e) = blocks (fun t => prob (logits m c t) e) n h
  | 0, h => by
    rw [colAt_succ (V1 m) c ⟨0, seven 0 h⟩]
    refine (Cert.GateIdeal.Reading.step_at _ _ _ e).trans ?_
    unfold blocks
    refine Eq.trans (congrArg (fun z : EReal => z + _) (Cert.GateIdeal.Reading.cleared_at (ix2 0 e))) ?_
    refine (zero_add _).trans (Finset.sum_congr rfl fun r _ => ?_)
    rw [local_eq m c 0 _ h r]
  | n + 1, h => by
    rw [colAt_succ (V1 m) c ⟨n + 1, seven (n + 1) h⟩]
    refine (Cert.GateIdeal.Reading.step_at _ _ _ e).trans ?_
    unfold blocks
    refine Eq.trans (congrArg (fun z : EReal => z + _) (sums_at e n (Nat.lt_of_succ_lt h))) ?_
    refine congrArg (fun z : EReal => _ + z) (Finset.sum_congr rfl fun r _ => ?_)
    rw [local_eq m c (n + 1) _ h r]

variable (hl : ∀ t e, logits m c t e ≠ ⊥)

include hl in
theorem local_ne (n : ℕ) (h : n < 8) (r : Fin 512) (e : Fin 8) :
    local_ (xb (V1 m) c ⟨n, seven n h⟩) (wb (V1 m) c ⟨n, seven n h⟩) r e ≠ ⊥ := by
  rw [local_eq m c n (seven n h) h r]; exact hl _ e

include hl in
/-- The counts' row. -/
theorem counts_at (n : ℕ) (h : n ≤ 8) (e : Fin 8) : cntAt (V1 m) c n (ix2 0 e) = ((before (logits m c) e (512 * n) : ℕ) : EReal) := by
  induction n generalizing e with
  | zero => exact zero_counts e
  | succ n ih =>
    rw [cntAt_succ (V1 m) c ⟨n, seven n h⟩]
    refine (Block.counts_at _ _ (local_ne m c hl n h) _ _ (fun e => ih (Nat.le_of_succ_le h) e) e).trans ?_
    rw [← before_block _ e n h]
    refine congrArg (fun z : ℕ => ((before (logits m c) e (512 * n) + z : ℕ) : EReal)) (Finset.sum_congr rfl fun q _ => ?_)
    rw [local_eq m c n (seven n h) h q]

/-! ## The five results -/

/-- The block and row a token lies in. -/
theorem split (t : Fin 4096) : ∃ (n : ℕ) (h : n < 8) (r : Fin 512), t = token n h r :=
  ⟨t.val / 512, by omega, ⟨t.val % 512, by omega⟩, Fin.ext (by show t.val = 512 * (t.val / 512) + t.val % 512; omega)⟩

include hl in
theorem eids_block (n : ℕ) (h : n < 8) (r : Fin 512) (j : Fin 2) :
    eidsOf (xb (V1 m) c ⟨n, seven n h⟩) (wb (V1 m) c ⟨n, seven n h⟩) (ix2 r j) = BitVec.ofNat 32 (pick (logits m c (token n h r)) j).val := by
  rw [Block.eids_at _ _ r (local_ne m c hl n h r) j, local_eq m c n (seven n h) h r]

theorem ws_block (n : ℕ) (h : n < 8) (r : Fin 512) (j : Fin 2) :
    wsOf (xb (V1 m) c ⟨n, seven n h⟩) (wb (V1 m) c ⟨n, seven n h⟩) (ix2 r j) = share (logits m c (token n h r)) j := by
  rw [Block.ws_at _ _ r j, local_eq m c n (seven n h) h r]

include hl in
theorem ranks_block (n : ℕ) (h : n < 8) (r : Fin 512) (j : Fin 2) :
    ranksOf (xb (V1 m) c ⟨n, seven n h⟩) (wb (V1 m) c ⟨n, seven n h⟩) (cntAt (V1 m) c n) (ix2 r j)
      = BitVec.ofNat 32 (before (logits m c) (pick (logits m c (token n h r)) j) (token n h r).val) := by
  rw [Block.ranks_at _ _ (local_ne m c hl n h) _ _ (fun e => counts_at m c hl n h.le e) (fun e => (before_le _ e _).trans (by omega)) r j]
  rw [local_eq m c n (seven n h) h r]
  rw [show (token n h r).val = 512 * n + r.val from rfl, ← before_row _ _ n h r]
  refine congrArg (fun z : ℕ => BitVec.ofNat 32 (before (logits m c) (pick (logits m c (token n h r)) j) (512 * n) + z)) (Finset.sum_congr rfl fun q _ => ?_)
  rw [local_eq m c n (seven n h) h q]

theorem eids_eq (hl : ∀ t e, logits m c t e ≠ ⊥) : (dat (V1 m) c).arrAt 2 cfg0.N = fun i : S4096x2.Idx => BitVec.ofNat 32 (pick (logits m c (i 0)) (i 1)).val := by
  refine (dat (V1 m) c).arrAt_eq_of_emb 2 _ (fun t hf y => ?_) (fun i => ?_)
  · obtain ⟨r, j, rfl⟩ : ∃ (r : Fin 512) (j : Fin 2), y = (ix2 r j : S512x2.Idx) := ⟨y 0, y 1, eq_ix2 y⟩
    obtain ⟨n, hn⟩ := t
    have h : n < 8 := lt_of_lt_of_eq hn N_0
    refine (congrFun (after_2 (V1 m) c ⟨n, hn⟩) _).trans ((eids_block m c hl n h r j).trans ?_)
    have e : ((cfg0.win 2).rect ⟨n, hn⟩).emb (ix2 r j) = (ix2 (token n h r) j : S4096x2.Idx) := funext fun b => Fin.ext (by
      refine (Pipeline.Window.rect_emb_val (cfg0.win 2) ⟨n, hn⟩ (ix2 r j) b).trans ?_
      rw [show (cfg0.win 2).index ⟨n, hn⟩ = ![n, 0] from index2 ⟨n, hn⟩]
      match b with
      | ⟨0, _⟩ => show n * 512 + r.val = 512 * n + r.val; omega
      | ⟨1, _⟩ => show 0 * 2 + j.val = j.val; omega)
    exact (congrArg (fun i : S4096x2.Idx => BitVec.ofNat 32 (pick (logits m c (i 0)) (i 1)).val) e).symm
  · have hi : (i 0).val < 4096 := (i 0).isLt
    have hd : (i 1).val < 2 := (i 1).isLt
    refine ⟨⟨(i 0).val / 512, seven _ (by omega)⟩, flush0_2 _, ?_⟩
    refine (Pipeline.Window.emb_mem_blk_iff (cfg0.win 2) _ i rfl).mpr fun b => ?_
    rw [show (cfg0.win 2).index _ = _ from index2 _]
    match b with
    | ⟨0, _⟩ => show (i 0).val / 512 * 512 ≤ (i 0).val ∧ (i 0).val < (i 0).val / 512 * 512 + 512; omega
    | ⟨1, _⟩ => show 0 * 2 ≤ (i 1).val ∧ (i 1).val < 0 * 2 + 2; omega

theorem ws_eq : (dat (V1 m) c).arrAt 3 cfg0.N = fun i : S4096x2.Idx => share (logits m c (i 0)) (i 1) := by
  refine (dat (V1 m) c).arrAt_eq_of_emb 3 _ (fun t hf y => ?_) (fun i => ?_)
  · obtain ⟨r, j, rfl⟩ : ∃ (r : Fin 512) (j : Fin 2), y = (ix2 r j : S512x2.Idx) := ⟨y 0, y 1, eq_ix2 y⟩
    obtain ⟨n, hn⟩ := t
    have h : n < 8 := lt_of_lt_of_eq hn N_0
    refine (congrFun (after_3 (V1 m) c ⟨n, hn⟩) _).trans ((ws_block m c n h r j).trans ?_)
    have e : ((cfg0.win 3).rect ⟨n, hn⟩).emb (ix2 r j) = (ix2 (token n h r) j : S4096x2.Idx) := funext fun b => Fin.ext (by
      refine (Pipeline.Window.rect_emb_val (cfg0.win 3) ⟨n, hn⟩ (ix2 r j) b).trans ?_
      rw [show (cfg0.win 3).index ⟨n, hn⟩ = ![n, 0] from index3 ⟨n, hn⟩]
      match b with
      | ⟨0, _⟩ => show n * 512 + r.val = 512 * n + r.val; omega
      | ⟨1, _⟩ => show 0 * 2 + j.val = j.val; omega)
    exact (congrArg (fun i : S4096x2.Idx => share (logits m c (i 0)) (i 1)) e).symm
  · have hi : (i 0).val < 4096 := (i 0).isLt
    have hd : (i 1).val < 2 := (i 1).isLt
    refine ⟨⟨(i 0).val / 512, seven _ (by omega)⟩, flush0_3 _, ?_⟩
    refine (Pipeline.Window.emb_mem_blk_iff (cfg0.win 3) _ i rfl).mpr fun b => ?_
    rw [show (cfg0.win 3).index _ = _ from index3 _]
    match b with
    | ⟨0, _⟩ => show (i 0).val / 512 * 512 ≤ (i 0).val ∧ (i 0).val < (i 0).val / 512 * 512 + 512; omega
    | ⟨1, _⟩ => show 0 * 2 ≤ (i 1).val ∧ (i 1).val < 0 * 2 + 2; omega

theorem ranks_eq (hl : ∀ t e, logits m c t e ≠ ⊥) : (dat (V1 m) c).arrAt 4 cfg0.N
    = fun i : S4096x2.Idx => BitVec.ofNat 32 (before (logits m c) (pick (logits m c (i 0)) (i 1)) (i 0).val) := by
  refine (dat (V1 m) c).arrAt_eq_of_emb 4 _ (fun t hf y => ?_) (fun i => ?_)
  · obtain ⟨r, j, rfl⟩ : ∃ (r : Fin 512) (j : Fin 2), y = (ix2 r j : S512x2.Idx) := ⟨y 0, y 1, eq_ix2 y⟩
    obtain ⟨n, hn⟩ := t
    have h : n < 8 := lt_of_lt_of_eq hn N_0
    refine (congrFun (after_4 (V1 m) c ⟨n, hn⟩) _).trans ((ranks_block m c hl n h r j).trans ?_)
    have e : ((cfg0.win 4).rect ⟨n, hn⟩).emb (ix2 r j) = (ix2 (token n h r) j : S4096x2.Idx) := funext fun b => Fin.ext (by
      refine (Pipeline.Window.rect_emb_val (cfg0.win 4) ⟨n, hn⟩ (ix2 r j) b).trans ?_
      rw [show (cfg0.win 4).index ⟨n, hn⟩ = ![n, 0] from index4 ⟨n, hn⟩]
      match b with
      | ⟨0, _⟩ => show n * 512 + r.val = 512 * n + r.val; omega
      | ⟨1, _⟩ => show 0 * 2 + j.val = j.val; omega)
    exact (congrArg (fun i : S4096x2.Idx => BitVec.ofNat 32 (before (logits m c) (pick (logits m c (i 0)) (i 1)) (i 0).val)) e).symm
  · have hi : (i 0).val < 4096 := (i 0).isLt
    have hd : (i 1).val < 2 := (i 1).isLt
    refine ⟨⟨(i 0).val / 512, seven _ (by omega)⟩, flush0_4 _, ?_⟩
    refine (Pipeline.Window.emb_mem_blk_iff (cfg0.win 4) _ i rfl).mpr fun b => ?_
    rw [show (cfg0.win 4).index _ = _ from index4 _]
    match b with
    | ⟨0, _⟩ => show (i 0).val / 512 * 512 ≤ (i 0).val ∧ (i 0).val < (i 0).val / 512 * 512 + 512; omega
    | ⟨1, _⟩ => show 0 * 2 ≤ (i 1).val ∧ (i 1).val < 0 * 2 + 2; omega

theorem counts_eq (hl : ∀ t e, logits m c t e ≠ ⊥) : (dat (V1 m) c).arrAt 5 cfg0.N
    = fun i : S1x8.Idx => BitVec.ofNat 32 (before (logits m c) (i 1) 4096) := by
  refine (dat (V1 m) c).arrAt_eq_of_emb 5 _ (fun t hf y => ?_) (fun i => ?_)
  · obtain ⟨r, j, rfl⟩ : ∃ (r : Fin 1) (j : Fin 8), y = (ix2 r j : S1x8.Idx) := ⟨y 0, y 1, eq_ix2 y⟩
    obtain rfl : r = 0 := Subsingleton.elim _ _
    refine (congrFun (after_5 (V1 m) c t) _).trans ((stored_counts _ _ j (counts_at m c hl 8 le_rfl j) ((before_le _ j _).trans_lt (by norm_num))).trans ?_)
    have e : ((cfg0.win 5).rect t).emb (ix2 0 j) = (ix2 0 j : S1x8.Idx) := funext fun b => Fin.ext (by
      refine (Pipeline.Window.rect_emb_val (cfg0.win 5) t (ix2 0 j) b).trans ?_
      rw [show (cfg0.win 5).index t = ![0, 0] from index5 t]
      match b with
      | ⟨0, _⟩ => rfl
      | ⟨1, _⟩ => show 0 * 8 + j.val = j.val; omega)
    exact (congrArg (fun i : S1x8.Idx => BitVec.ofNat 32 (before (logits m c) (i 1) 4096)) e).symm
  · have hi : (i 0).val < 1 := (i 0).isLt
    have hd : (i 1).val < 8 := (i 1).isLt
    refine ⟨⟨7, seven _ (by omega)⟩, (flush0_5 _).mpr rfl, ?_⟩
    refine (Pipeline.Window.emb_mem_blk_iff (cfg0.win 5) _ i rfl).mpr fun b => ?_
    rw [show (cfg0.win 5).index _ = _ from index5 _]
    match b with
    | ⟨0, _⟩ => show 0 * 1 ≤ (i 0).val ∧ (i 0).val < 0 * 1 + 1; omega
    | ⟨1, _⟩ => show 0 * 8 ≤ (i 1).val ∧ (i 1).val < 0 * 8 + 8; omega

theorem loss_eq : (dat (V1 m) c).arrAt 6 cfg0.N = fun _ : S1x1.Idx => loss (logits m c) := by
  refine (dat (V1 m) c).arrAt_eq_of_emb 6 _ (fun t hf y => ?_) (fun i => ?_)
  · refine (congrFun (after_6 (V1 m) c t) _).trans ((Cert.GateIdeal.Reading.stored_at _ y).trans ?_)
    show lossOf _ = loss (logits m c)
    unfold loss
    refine congrArg lossOf (funext fun e => ?_)
    rw [sums_at m c e 7 (by decide), blocks_all]
  · have hi : (i 0).val < 1 := (i 0).isLt
    have hd : (i 1).val < 1 := (i 1).isLt
    refine ⟨⟨7, seven _ (by omega)⟩, (flush0_6 _).mpr rfl, ?_⟩
    refine (Pipeline.Window.emb_mem_blk_iff (cfg0.win 6) _ i rfl).mpr fun b => ?_
    rw [show (cfg0.win 6).index _ = _ from index6 _]
    match b with
    | ⟨0, _⟩ => show 0 * 1 ≤ (i 0).val ∧ (i 0).val < 0 * 1 + 1; omega
    | ⟨1, _⟩ => show 0 * 1 ≤ (i 1).val ∧ (i 1).val < 0 * 1 + 1; omega

end Cert.Whole.Region

end
-- ==== Proof.Whole.Plan.lean ====
/- Where each choice of a token goes among the padded rows: the experts' rows start at multiples of 256, no two choices share a row,
   and a row's tile belongs to the row's expert. -/
module

public import proofs.«01_k».proof.Proof.Whole.Region

@[expose] public section

noncomputable section

namespace Cert.Whole.Plan

open Cert.Whole.Choice Cert.Whole.Block Cert.Whole.Region
open Idealize.ShloMosaic

variable (l : Fin 4096 → Fin 8 → EReal)

/-- How many tokens choose expert `e`. -/
def count (e : Fin 8) : ℕ := before l e 4096

/-- The rows kept for expert `k`, a multiple of 256. -/
def padded (k : ℕ) : ℕ := if h : k < 8 then (count l ⟨k, h⟩ + 255) / 256 * 256 else 0

/-- Where expert `k`'s rows start, -/
def start (k : ℕ) : ℕ := ((List.range k).map (padded l)).sum

theorem start_succ (k : ℕ) : start l (k + 1) = start l k + padded l k := List.sum_range_succ _ _

/-- The row of choice `j` of token `t`. -/
def dest (t : Fin 4096) (j : Fin 2) : ℕ := start l (pick (l t) j).val + before l (pick (l t) j) t.val

theorem picked_pick (L : Fin 8 → EReal) (j : Fin 2) : picked L (pick L j) = 1 := by
  unfold picked pick
  split
  · rw [if_pos (Or.inl rfl)]
  · rw [if_pos (Or.inr rfl)]

/-- A token makes two choices. -/
theorem picked_sum (L : Fin 8 → EReal) : ∑ e, picked L e = 2 := by
  have h : ∀ e, picked L e = (if e = fst L then 1 else 0) + (if e = snd L then 1 else 0) := fun e => by
    have hne := snd_ne L
    unfold picked
    by_cases h1 : e = fst L
    · rw [if_pos (Or.inl h1), if_pos h1, if_neg (by rw [h1]; exact hne.symm)]
    · by_cases h2 : e = snd L
      · rw [if_pos (Or.inr h2), if_neg h1, if_pos h2]
      · rw [if_neg (by rintro (c | c) <;> contradiction), if_neg h1, if_neg h2]
  rw [Finset.sum_congr rfl fun e _ => h e, Finset.sum_add_distrib, Finset.sum_ite_eq', Finset.sum_ite_eq', if_pos (Finset.mem_univ _), if_pos (Finset.mem_univ _)]

theorem count_sum : ∑ e, count l e = 8192 := by
  unfold count before
  rw [Finset.sum_comm]
  refine (Finset.sum_congr rfl fun t ht => ?_).trans (by rw [Finset.sum_const, Finset.card_range]; rfl : ∑ _t ∈ Finset.range 4096, 2 = 8192)
  have : t < 4096 := Finset.mem_range.mp ht
  simp only [pickedAt, dif_pos this]
  exact picked_sum _

theorem before_mono (e : Fin 8) {n k : ℕ} (h : n ≤ k) : before l e n ≤ before l e k := by
  obtain ⟨d, rfl⟩ := Nat.exists_eq_add_of_le h
  rw [before_add]; omega

theorem before_succ (e : Fin 8) (t : Fin 4096) (h : picked (l t) e = 1) : before l e (t.val + 1) = before l e t.val + 1 := by
  rw [before, Finset.sum_range_succ]
  unfold pickedAt
  rw [dif_pos t.isLt]
  exact congrArg (_ + ·) h

/-- A choice's place is below its expert's count. -/
theorem place_lt (t : Fin 4096) (j : Fin 2) : before l (pick (l t) j) t.val < count l (pick (l t) j) := by
  have h1 := before_succ l _ t (picked_pick (l t) j)
  have h2 := before_mono l (pick (l t) j) (show t.val + 1 ≤ 4096 from t.isLt)
  unfold count
  omega

theorem count_le_padded (e : Fin 8) : count l e ≤ padded l e.val := by
  unfold padded
  rw [dif_pos e.isLt]
  show count l e ≤ (count l e + 255) / 256 * 256
  omega

theorem start_mono {k k' : ℕ} (h : k ≤ k') : start l k ≤ start l k' := by
  induction h with
  | refl => exact le_rfl
  | step _ ih => rw [start_succ]; omega

/-- All the rows kept fit. -/
theorem start_last : start l 8 ≤ 10232 := by
  have hp : ∀ e : Fin 8, padded l e.val ≤ count l e + 255 := fun e => by
    unfold padded
    rw [dif_pos e.isLt]
    show (count l e + 255) / 256 * 256 ≤ _
    omega
  have hs : start l 8 = ∑ e : Fin 8, padded l e.val := by
    rw [Fin.sum_univ_eight]
    simp only [start_succ]
    show 0 + _ + _ + _ + _ + _ + _ + _ + _ = _
    rw [zero_add]
    rfl
  rw [hs]
  refine (Finset.sum_le_sum fun e _ => hp e).trans ?_
  rw [Finset.sum_add_distrib, count_sum]
  simp

theorem start_bound (k : ℕ) (h : k ≤ 8) : start l k ≤ 10232 := (start_mono l h).trans (start_last l)

theorem start_dvd (k : ℕ) : 256 ∣ start l k := by
  induction k with
  | zero => exact ⟨0, rfl⟩
  | succ k ih =>
    rw [start_succ]
    refine Nat.dvd_add ih ?_
    unfold padded
    split
    · exact Nat.dvd_mul_left _ _
    · exact ⟨0, rfl⟩

theorem dest_lt_end (t : Fin 4096) (j : Fin 2) : dest l t j < start l ((pick (l t) j).val + 1) := by
  have h1 := place_lt l t j
  have h2 := count_le_padded l (pick (l t) j)
  rw [start_succ]
  unfold dest
  omega

theorem dest_lt (t : Fin 4096) (j : Fin 2) : dest l t j < 10240 := by
  have h1 := dest_lt_end l t j
  have h2 := start_bound l ((pick (l t) j).val + 1) (pick (l t) j).isLt
  omega

/-- The row as an index. -/
def row (t : Fin 4096) (j : Fin 2) : Fin 10240 := ⟨dest l t j, dest_lt l t j⟩

theorem pick_inj (L : Fin 8 → EReal) {j j' : Fin 2} (h : pick L j = pick L j') : j = j' := by
  have hne := snd_ne L
  match j, j' with
  | 0, 0 => rfl
  | 1, 1 => rfl
  | 0, 1 => exact absurd h.symm hne
  | 1, 0 => exact absurd h hne

/-- No two choices share a row. -/
theorem dest_inj {t t' : Fin 4096} {j j' : Fin 2} (h : dest l t j = dest l t' j') : t = t' ∧ j = j' := by
  have e : pick (l t) j = pick (l t') j' := by
    by_contra hne
    rcases lt_or_gt_of_ne hne with c | c
    · have h1 := dest_lt_end l t j
      have h2 : start l ((pick (l t) j).val + 1) ≤ start l (pick (l t') j').val := start_mono l c
      have h3 : start l (pick (l t') j').val ≤ dest l t' j' := Nat.le_add_right _ _
      omega
    · have h1 := dest_lt_end l t' j'
      have h2 : start l ((pick (l t') j').val + 1) ≤ start l (pick (l t) j).val := start_mono l c
      have h3 : start l (pick (l t) j).val ≤ dest l t j := Nat.le_add_right _ _
      omega
  have hb : before l (pick (l t) j) t.val = before l (pick (l t) j) t'.val := by
    unfold dest at h
    rw [← e] at h
    omega
  have ht : t = t' := by
    rcases lt_trichotomy t t' with c | c | c
    · have h1 := before_succ l _ t (picked_pick (l t) j)
      have h2 := before_mono l (pick (l t) j) (show t.val + 1 ≤ t'.val from c)
      omega
    · exact c
    · have h1 := before_succ l (pick (l t) j) t' (by rw [e]; exact picked_pick (l t') j')
      have h2 := before_mono l (pick (l t) j) (show t'.val + 1 ≤ t.val from c)
      omega
  subst ht
  exact ⟨rfl, pick_inj _ e⟩

/-- The tile of a row starts at or after its expert's rows do, -/
theorem tile_start (t : Fin 4096) (j : Fin 2) : start l (pick (l t) j).val ≤ dest l t j / 256 * 256 := by
  obtain ⟨d, hd⟩ := start_dvd l (pick (l t) j).val
  have : start l (pick (l t) j).val ≤ dest l t j := Nat.le_add_right _ _
  omega

/-- and before they end. -/
theorem tile_end (t : Fin 4096) (j : Fin 2) : dest l t j / 256 * 256 < start l ((pick (l t) j).val + 1) :=
  lt_of_le_of_lt (Nat.div_mul_le_self _ _) (dest_lt_end l t j)

/-- So as many experts' rows end at or before it as there are experts below. -/
theorem tile_expert (t : Fin 4096) (j : Fin 2) (k : Fin 8) :
    start l (k.val + 1) ≤ dest l t j / 256 * 256 ↔ k < pick (l t) j := by
  constructor
  · intro h
    by_contra hk
    have h1 := tile_end l t j
    have h2 : start l ((pick (l t) j).val + 1) ≤ start l (k.val + 1) := start_mono l (Nat.succ_le_succ (not_lt.mp hk))
    omega
  · intro h
    exact (start_mono l h).trans (tile_start l t j)

end Cert.Whole.Plan

end
-- ==== Proof.Whole.HostOps.lean ====
/- The host's work between the two calls and after them, as functions of arrays, each read at an element: the bounds of the experts'
   rows, the row of each choice, the token and the weight put at that row, and the two rows added for a token. -/
module

public import proofs.«01_k».proof.Proof.Whole.Plan
public import Idealize.ShloMosaic.Lib.ValueIdxCore
public import Idealize.ShloMosaic.Lib.Pipeline.Value
public import Idealize.ShloMosaic.Lib.Routing.Ops
public import Idealize.ShloMosaic.Lib.Routing.OpsSet
public import Idealize.ShloMosaic.Lib.Routing.OpsPair
public import Idealize.ShloMosaic.Lib.PlanTiles.Rows

@[expose] public section

set_option maxRecDepth 16384

noncomputable section

namespace Cert.Whole.HostOps

open Cert.KernelIdeal hiding ix1
open Cert.KernelIdeal.Gen Cert.Whole.Choice Cert.Whole.Block Cert.Whole.Region Cert.Whole.Plan
open Idealize.ShloMosaic Idealize.ShloMosaic.TcCoe Idealize.ShloMosaic.ValueIdx Idealize.ShloMosaic.Routing

/-! ## The functions -/

/-- The counts rounded up, before the division. -/
def raised (cnt : IVec S1x8 32) : IVec S8 32 :=
  subi (addi (shapeCast S8 cnt shapeCasts_S1x8_S8) (broadcastInDim S8 ![] bcast_S_S8 (constantI S_ 32 256#32)))
    (broadcastInDim S8 ![] bcast_S_S8 (constantI S_ 32 1#32))

/-- The quotient rounded down. -/
def floorDiv (x : IVec S8 32) (d : IVec S_ 32) : IVec S8 32 :=
  select (andi (cmpi .ne (signi x) (broadcastInDim S8 ![] bcast_S_S8 (signi d)))
      (cmpi .ne (Host.remsi x (broadcastInDim S8 ![] bcast_S_S8 d)) (broadcastInDim S8 ![] bcast_S_S8 (constantI S_ 32 0#32))))
    (subi (Host.divsi x (broadcastInDim S8 ![] bcast_S_S8 d)) (broadcastInDim S8 ![] bcast_S_S8 (constantI S_ 32 1#32)))
    (Host.divsi x (broadcastInDim S8 ![] bcast_S_S8 d))

/-- The rows kept for each expert. -/
def kept (q : IVec S8 32) : IVec S8 32 := muli q (broadcastInDim S8 ![] bcast_S_S8 (constantI S_ 32 256#32))

/-- Where each expert's rows end. -/
def ends (p : IVec S8 32) : IVec S8 32 :=
  Host.reduceWindow IntOp.addi ![8] ![1] ![7] ![0] p (broadcastInDim S_ ![] bcast_S_S_ (constantI S_ 32 0#32)) reduceWindows_S8_S8_w8s1p7_0 h_S_

/-- The row of each choice. -/
def rowOf (b p : IVec S8 32) (e r : IVec S4096x2 32) : IVec S4096x2 32 :=
  addi (Host.gather gather_S8_S4096x2x1_S4096x2_n_0_n_n_0_2_1 (subi b p)
    (broadcastInDim S4096x2x1 ![0, 1] bcast_S4096x2_S4096x2x1_0_1
      (select (cmpi .slt e (broadcastInDim S4096x2 ![] bcast_S_S4096x2 (constantI S_ 32 0#32)))
        (addi e (broadcastInDim S4096x2 ![] bcast_S_S4096x2 (constantI S_ 32 8#32))) e))) r

/-- The rows of the choices in one list, as indices. -/
def wrapped (d : IVec S4096x2 32) : IVec S8192 32 :=
  select (cmpi .slt (shapeCast S8192 d shapeCasts_S4096x2_S8192) (broadcastInDim S8192 ![] bcast_S_S8192 (constantI S_ 32 0#32)))
    (addi (shapeCast S8192 d shapeCasts_S4096x2_S8192) (broadcastInDim S8192 ![] bcast_S_S8192 (constantI S_ 32 10240#32)))
    (shapeCast S8192 d shapeCasts_S4096x2_S8192)

/-- The token of each row. -/
def sources (d : IVec S4096x2 32) : IVec S10240 32 :=
  Host.scatter scatter_S10240_S8192x1_S8192_n_0_0_1 (fun _ b => b) (broadcastInDim S10240 ![] bcast_S_S10240 (constantI S_ 32 0#32))
    (broadcastInDim S8192x1 ![0] bcast_S8192_S8192x1_0 (wrapped d))
    (shapeCast S8192 (broadcastInDim S4096x2 ![0, 1] bcast_S4096x1_S4096x2_0_1
      (broadcastInDim S4096x1 ![0] bcast_S4096_S4096x1_0 (iotaInDim S4096 32 0))) shapeCasts_S4096x2_S8192)

/-- The weight of each row. -/
def rowWeights (d : IVec S4096x2 32) (w : FVec Ideal S4096x2 .f32) : FVec Ideal S10240x1 .f32 :=
  Host.scatter scatter_S10240x1_S8192x2_S8192_n_01_01_1 (fun _ b => b) (broadcastInDim S10240x1 ![] bcast_S_S10240x1 (constant S_ .f32 0x00000000#32))
    (concatenate S8192x2 1 [⟨S8192x1, broadcastInDim S8192x1 ![0] bcast_S8192_S8192x1_0 (wrapped d)⟩,
      ⟨S8192x1, broadcastInDim S8192x1 ![0] bcast_S8192_S8192x1_0 (id (broadcastInDim S8192 ![] bcast_S_S8192 (constantI S_ 32 0#32)))⟩]
      concatenates_S8192x1_S8192x1_S8192x2_d1)
    (shapeCast S8192 w shapeCasts_S4096x2_S8192)

/-- Each row's token's entries. -/
def gathered (x : FVec Ideal S4096x1024 .f32) (s : IVec S10240 32) : FVec Ideal S10240x1024 .f32 :=
  Host.gather gather_S4096x1024_S10240x1_S10240x1024_1_0_n_n_0_1_11024 x
    (broadcastInDim S10240x1 ![0] bcast_S10240_S10240x1_0
      (select (cmpi .slt s (broadcastInDim S10240 ![] bcast_S_S10240 (constantI S_ 32 0#32)))
        (addi s (broadcastInDim S10240 ![] bcast_S_S10240 (constantI S_ 32 4096#32))) s))

/-- The rows at a column of indices. -/
def rowsAt (y : FVec Ideal S10240x1024 .f32) (s : IVec S4096 32) : FVec Ideal S4096x1024 .f32 :=
  Host.gather gather_S10240x1024_S4096x1_S4096x1024_1_0_n_n_0_1_11024 y
    (broadcastInDim S4096x1 ![0] bcast_S4096_S4096x1_0
      (select (cmpi .slt s (broadcastInDim S4096 ![] bcast_S_S4096 (constantI S_ 32 0#32)))
        (addi s (broadcastInDim S4096 ![] bcast_S_S4096 (constantI S_ 32 10240#32))) s))

/-- A token's two rows added. -/
def combined (y : FVec Ideal S10240x1024 .f32) (d : IVec S4096x2 32) : FVec Ideal S2x2048x1024 .f32 :=
  shapeCast S2x2048x1024 (addf
    (rowsAt y (shapeCast S4096 (extractStridedSlice S4096x1 ![0, 0] d slices_S4096x2_S4096x1_0_0) shapeCasts_S4096x1_S4096))
    (rowsAt y (shapeCast S4096 (extractStridedSlice S4096x1 ![0, 1] d slices_S4096x2_S4096x1_0_1) shapeCasts_S4096x1_S4096)))
    shapeCasts_S4096x1024_S2x2048x1024

/-! ## Words -/

theorem toNat_small (n : ℕ) (h : n < 2 ^ 31) : (BitVec.ofNat 32 n).toNat < 2 ^ (32 - 1) := by
  rw [BitVec.toNat_ofNat, Nat.mod_eq_of_lt (by omega)]; exact h

theorem sub_word {a b : ℕ} (h : b ≤ a) : BitVec.ofNat 32 a - BitVec.ofNat 32 b = BitVec.ofNat 32 (a - b) := by
  obtain ⟨d, rfl⟩ := Nat.exists_eq_add_of_le h
  rw [Nat.add_sub_cancel_left, BitVec.ofNat_add, BitVec.add_comm, BitVec.add_sub_cancel]

theorem quotient_word (n : ℕ) (h : n < 2 ^ 31) : IntOp.divsi .host (BitVec.ofNat 32 n) 256#32 = BitVec.ofNat 32 (n / 256) := by
  have hc : ¬ IntOp.SDivCorner (BitVec.ofNat 32 n) (256#32 : BitVec 32) := by
    rintro (c | ⟨-, c⟩) <;> exact absurd c (by decide)
  have hm : (BitVec.ofNat 32 n).msb = false := by
    rw [BitVec.msb_eq_false_iff_two_mul_lt, BitVec.toNat_ofNat]; omega
  unfold IntOp.divsi
  rw [if_neg hc, BitVec.sdiv_eq, hm, show (256#32 : BitVec 32).msb = false from rfl]
  refine BitVec.eq_of_toNat_eq ?_
  show (BitVec.ofNat 32 n / 256#32).toNat = _
  rw [BitVec.toNat_udiv, BitVec.toNat_ofNat, BitVec.toNat_ofNat, BitVec.toNat_ofNat, Nat.mod_eq_of_lt (show n < 2 ^ 32 by omega),
    Nat.mod_eq_of_lt (show 256 < 2 ^ 32 by decide), Nat.mod_eq_of_lt (show n / 256 < 2 ^ 32 by omega)]

theorem sign_word (n : ℕ) (h0 : 0 < n) (h : n < 2 ^ 31) :
    (if BitVec.ofNat 32 n = 0 then (0 : BitVec 32) else if (BitVec.ofNat 32 n).msb then -1 else 1) = 1 := by
  have hm : (BitVec.ofNat 32 n).msb = false := by
    rw [BitVec.msb_eq_false_iff_two_mul_lt, BitVec.toNat_ofNat]; omega
  rw [if_neg (fun c => by
    have := congrArg BitVec.toNat c
    rw [BitVec.toNat_ofNat, show (0 : BitVec 32).toNat = 0 from rfl] at this; omega), hm]
  rfl

/-! ## The bounds -/

theorem raised_at (cnt : IVec S1x8 32) (e : Fin 8) (n : ℕ) (h : cnt (ix2 0 e) = BitVec.ofNat 32 n) :
    raised cnt (ix1 e) = BitVec.ofNat 32 (n + 255) := by
  have hs : shapeCast S8 cnt shapeCasts_S1x8_S8 (ix1 e) = cnt (ix2 0 e) :=
    shapeCast_apply cnt shapeCasts_S1x8_S8 (ix1 e) (ix2 0 e)
      (by rewrite [Shape.rowMajor_val_two, Shape.rowMajor_val_one]; show 0 * 8 + e.val = e.val; omega)
  show (shapeCast S8 cnt shapeCasts_S1x8_S8 (ix1 e) + 256#32) - 1#32 = _
  rw [hs, h, show (256#32 : BitVec 32) = BitVec.ofNat 32 256 from rfl, ← BitVec.ofNat_add, show (1#32 : BitVec 32) = BitVec.ofNat 32 1 from rfl,
    sub_word (by omega)]
  rfl

theorem floorDiv_at (x : IVec S8 32) (i : S8.Idx) (n : ℕ) (h0 : 0 < n) (hn : n < 2 ^ 31) (h : x i = BitVec.ofNat 32 n) :
    floorDiv x (constantI S_ 32 256#32) i = BitVec.ofNat 32 (n / 256) := by
  have hq : Host.divsi x (broadcastInDim S8 ![] bcast_S_S8 (constantI S_ 32 256#32)) i = BitVec.ofNat 32 (n / 256) := by
    show IntOp.divsi .host (x i) 256#32 = _
    rw [h]; exact quotient_word n hn
  have hs : cmpi .ne (signi x) (broadcastInDim S8 ![] bcast_S_S8 (signi (constantI S_ 32 256#32))) i = 0#1 := by
    have e1 : signi x i = 1 := by
      unfold signi; rw [h]; exact sign_word n h0 hn
    have e2 : ∀ k, signi (constantI S_ 32 256#32) k = 1 := fun _ => sign_word 256 (by decide) (by decide)
    show IntOp.cmpi .ne (signi x i) (signi (constantI S_ 32 256#32) _) = 0#1
    rw [e1, e2]; rfl
  have ha : ∀ y : BitVec 1, IntOp.andi 0#1 y = 0#1 := by decide
  show Scalar.select (IntOp.andi (cmpi .ne (signi x) (broadcastInDim S8 ![] bcast_S_S8 (signi (constantI S_ 32 256#32))) i) _) _
    (Host.divsi x (broadcastInDim S8 ![] bcast_S_S8 (constantI S_ 32 256#32)) i) = _
  rw [hs, ha, hq]
  rfl

theorem kept_at (q : IVec S8 32) (i : S8.Idx) (n : ℕ) (h : q i = BitVec.ofNat 32 n) : kept q i = BitVec.ofNat 32 (n * 256) := by
  show q i * 256#32 = _
  rw [h, show (256#32 : BitVec 32) = BitVec.ofNat 32 256 from rfl, ← BitVec.ofNat_mul]

variable (l : Fin 4096 → Fin 8 → EReal)

/-- The rows kept for each expert, from the counts. -/
theorem padded_at (cnt : IVec S1x8 32) (h : ∀ e : Fin 8, cnt (ix2 0 e) = BitVec.ofNat 32 (count l e)) (e : Fin 8) :
    kept (floorDiv (raised cnt) (constantI S_ 32 256#32)) (ix1 e) = BitVec.ofNat 32 (padded l e.val) := by
  have hc : count l e ≤ 4096 := before_le l e 4096
  rw [kept_at _ _ _ (floorDiv_at _ _ (count l e + 255) (by omega) (by omega) (raised_at cnt e _ (h e)))]
  unfold padded
  rw [dif_pos e.isLt]

/-- Where each expert's rows end, -/
theorem ends_at (p : IVec S8 32) (h : ∀ e : Fin 8, p (ix1 e) = BitVec.ofNat 32 (padded l e.val)) (e : Fin 8) :
    ends p (ix1 e) = BitVec.ofNat 32 (start l (e.val + 1)) :=
  cumsum1 (N := 8) (Nm1 := 7) rfl p (padded l) h _ rfl reduceWindows_S8_S8_w8s1p7_0 h_S_ e

/-! ## The row of a choice -/

theorem gather_is : gather_S8_S4096x2x1_S4096x2_n_0_n_n_0_2_1 = takeDims 8 4096 2 gather_S8_S4096x2x1_S4096x2_n_0_n_n_0_2_1.wf := rfl

theorem rowOf_at (b p : IVec S8 32) (e r : IVec S4096x2 32) (hb : ∀ e : Fin 8, b (ix1 e) = BitVec.ofNat 32 (start l (e.val + 1)))
    (hp : ∀ e : Fin 8, p (ix1 e) = BitVec.ofNat 32 (padded l e.val)) (t : Fin 4096) (j : Fin 2)
    (he : e (ix2 t j) = BitVec.ofNat 32 (pick (l t) j).val) (hr : r (ix2 t j) = BitVec.ofNat 32 (before l (pick (l t) j) t.val)) :
    rowOf b p e r (ix2 t j) = BitVec.ofNat 32 (dest l t j) := by
  have h8 := (pick (l t) j).isLt
  have hw : Scalar.select (IntOp.cmpi .slt (e (ix2 t j)) 0#32) (e (ix2 t j) + 8#32) (e (ix2 t j)) = BitVec.ofNat 32 (pick (l t) j).val := by
    rw [wrap_of_lt _ _ (by rw [he]; exact toNat_small _ (by omega)), he]
  unfold rowOf
  show Host.gather gather_S8_S4096x2x1_S4096x2_n_0_n_n_0_2_1 (subi b p) _ (ix2 t j) + r (ix2 t j) = _
  rw [gather_is]
  have hi : ∀ idx : IVec S4096x2x1 32, idx (takeIdx (ix2 t j)) = BitVec.ofNat 32 (pick (l t) j).val →
      (ix1 (⟨min (idx (takeIdx (ix2 t j))).toInt.toNat (8 - 1), by omega⟩ : Fin 8) : S8.Idx) = ix1 (pick (l t) j) := fun idx hx => by
    refine congrArg ix1 (Fin.ext ?_)
    show min (idx (takeIdx (ix2 t j))).toInt.toNat (8 - 1) = (pick (l t) j).val
    rw [hx, StableHlo.Predicate.toInt_ofNat_small _ (by omega)]
    omega
  refine (congrArg (· + r (ix2 t j)) (gather_take_apply (by decide) gather_S8_S4096x2x1_S4096x2_n_0_n_n_0_2_1.wf (subi b p) _ (ix2 t j))).trans ?_
  refine (congrArg (fun i => subi b p i + r (ix2 t j)) (hi _ ((broadcastInDim_apply (s := S4096x2) ![0, 1] bcast_S4096x2_S4096x2x1_0_1 _ (takeIdx (ix2 t j)) (ix2 t j) (fun a => match a with
    | ⟨0, _⟩ => by show t.val = if (4096 : ℕ) = 1 then 0 else t.val; rw [if_neg (by decide)]
    | ⟨1, _⟩ => by show j.val = if (2 : ℕ) = 1 then 0 else j.val; rw [if_neg (by decide)])).trans hw))).trans ?_
  show (b (ix1 (pick (l t) j)) - p (ix1 (pick (l t) j))) + r (ix2 t j) = _
  rw [hb, hp, hr, start_succ, sub_word (by omega), Nat.add_sub_cancel, ← BitVec.ofNat_add]
  rfl

/-! ## Where an update of the two scatters lands -/

theorem land1 (idx : IVec S8192x1 32) (p : Fin 8192) (r : Fin 10240) :
    scatter_S10240_S8192x1_S8192_n_0_0_1.resultIdx? (ix1 p) idx = some (ix1 r) ↔ (idx (ix2 p 0)).toInt = r.val := by
  refine (resultIdx?_ix1 scatter_S10240_S8192x1_S8192_n_0_0_1 (ix1 p) idx r).trans ?_
  have h : scatter_S10240_S8192x1_S8192_n_0_0_1.start (ix1 p) idx 0 = (idx (ix2 p 0)).toInt := by
    unfold ScatterDims.start
    rw [dif_pos (by decide)]
    refine congrArg (fun i => (idx i).toInt) (funext fun a => ?_)
    match a with
    | ⟨0, _⟩ => rfl
    | ⟨1, _⟩ => rfl
  have hw : scatter_S10240_S8192x1_S8192_n_0_0_1.window (ix1 p) 0 = 0 := rfl
  rw [h, hw]
  simp

theorem land2 (idx : IVec S8192x2 32) (p : Fin 8192) (r : Fin 10240) (c : Fin 1) :
    scatter_S10240x1_S8192x2_S8192_n_01_01_1.resultIdx? (ix1 p) idx = some (ix2 r c)
      ↔ (idx (ix2 p 0)).toInt = r.val ∧ (idx (ix2 p 1)).toInt = c.val := by
  refine (resultIdx?_ix2 scatter_S10240x1_S8192x2_S8192_n_01_01_1 (ix1 p) idx r c).trans ?_
  have h : ∀ q : Fin 2, scatter_S10240x1_S8192x2_S8192_n_01_01_1.start (ix1 p) idx q = (idx (ix2 p q)).toInt := fun q => by
    unfold ScatterDims.start
    rw [dif_pos (by revert q; decide)]
    refine congrArg (fun i => (idx i).toInt) (funext fun a => ?_)
    match q, a with
    | ⟨0, _⟩, ⟨0, _⟩ => rfl
    | ⟨0, _⟩, ⟨1, _⟩ => rfl
    | ⟨1, _⟩, ⟨0, _⟩ => rfl
    | ⟨1, _⟩, ⟨1, _⟩ => rfl
  have h0 : scatter_S10240x1_S8192x2_S8192_n_01_01_1.window (ix1 p) 0 = 0 := rfl
  have h1 : scatter_S10240x1_S8192x2_S8192_n_01_01_1.window (ix1 p) 1 = 0 := rfl
  rw [h 0, h 1, h0, h1]
  simp

/-! ## What is put at a row -/

/-- The list's entry for a choice. -/
def entry (t : Fin 4096) (j : Fin 2) : Fin 8192 := ⟨t.val * 2 + j.val, by have := t.isLt; have := j.isLt; omega⟩

theorem entry_surj (p : Fin 8192) : ∃ (t : Fin 4096) (j : Fin 2), p = entry t j :=
  ⟨⟨p.val / 2, by have := p.isLt; omega⟩, ⟨p.val % 2, by omega⟩, Fin.ext (by show p.val = p.val / 2 * 2 + p.val % 2; omega)⟩

theorem list_at {α : Type} (x : S4096x2.Idx → α) (t : Fin 4096) (j : Fin 2) :
    shapeCast S8192 x shapeCasts_S4096x2_S8192 (ix1 (entry t j)) = x (ix2 t j) :=
  shapeCast_apply x shapeCasts_S4096x2_S8192 (ix1 (entry t j)) (ix2 t j)
    (by rewrite [Shape.rowMajor_val_two, Shape.rowMajor_val_one]; rfl)

variable (d : IVec S4096x2 32) (hd : ∀ (t : Fin 4096) (j : Fin 2), d (ix2 t j) = BitVec.ofNat 32 (dest l t j))

include hd

theorem wrapped_at (t : Fin 4096) (j : Fin 2) : wrapped d (ix1 (entry t j)) = BitVec.ofNat 32 (dest l t j) := by
  have h := dest_lt l t j
  unfold wrapped
  show Scalar.select (IntOp.cmpi .slt (shapeCast S8192 d shapeCasts_S4096x2_S8192 (ix1 (entry t j))) 0#32) _
    (shapeCast S8192 d shapeCasts_S4096x2_S8192 (ix1 (entry t j))) = _
  rw [list_at, wrap_of_lt _ _ (by rw [hd]; exact toNat_small _ (by omega)), hd]

theorem toInt_at (t : Fin 4096) (j : Fin 2) : (wrapped d (ix1 (entry t j))).toInt = dest l t j := by
  rw [wrapped_at l d hd]
  exact StableHlo.Predicate.toInt_ofNat_small _ (by have := dest_lt l t j; omega)

/-- The token of a choice's row. -/
theorem sources_at (t : Fin 4096) (j : Fin 2) : sources d (ix1 (row l t j)) = BitVec.ofNat 32 t.val := by
  have hu : ∀ (t : Fin 4096) (j : Fin 2), shapeCast S8192 (broadcastInDim S4096x2 ![0, 1] bcast_S4096x1_S4096x2_0_1
      (broadcastInDim S4096x1 ![0] bcast_S4096_S4096x1_0 (iotaInDim S4096 32 0))) shapeCasts_S4096x2_S8192 (ix1 (entry t j)) = BitVec.ofNat 32 t.val :=
    fun t j => (list_at _ t j).trans rfl
  have hl : ∀ (t' : Fin 4096) (j' : Fin 2) (idx : IVec S8192x1 32), (∀ p : Fin 8192, idx (ix2 p 0) = wrapped d (ix1 p)) →
      (scatter_S10240_S8192x1_S8192_n_0_0_1.resultIdx? (ix1 (entry t' j')) idx = some (ix1 (row l t j)) ↔ dest l t' j' = dest l t j) := fun t' j' idx hi => by
    rw [land1, hi, toInt_at l d hd]
    exact Nat.cast_inj
  unfold sources
  refine scatter_set_hit _ _ _ _ _ _ (fun k hk => ?_) (ix1 (entry t j)) ((hl t j _ fun p => rfl).2 rfl)
  obtain ⟨p, rfl⟩ : ∃ p : Fin 8192, k = ix1 p := ⟨k 0, eq_ix1 k⟩
  obtain ⟨t', j', rfl⟩ := entry_surj p
  obtain ⟨rfl, rfl⟩ := dest_inj l ((hl t' j' _ fun p => rfl).1 hk)
  exact hu _ _

/-- The weight of a choice's row. -/
theorem rowWeights_at (w : FVec Ideal S4096x2 .f32) (t : Fin 4096) (j : Fin 2) : rowWeights d w (ix2 (row l t j) 0) = w (ix2 t j) := by
  have hl : ∀ (t' : Fin 4096) (j' : Fin 2) (idx : IVec S8192x2 32), (∀ p : Fin 8192, idx (ix2 p 0) = wrapped d (ix1 p)) → (∀ p : Fin 8192, idx (ix2 p 1) = 0#32) →
      (scatter_S10240x1_S8192x2_S8192_n_01_01_1.resultIdx? (ix1 (entry t' j')) idx = some (ix2 (row l t j) (0 : Fin 1)) ↔ dest l t' j' = dest l t j) :=
    fun t' j' idx hi h0 => by
      rw [land2, hi, h0, toInt_at l d hd]
      show ((dest l t' j' : ℕ) : Int) = ((dest l t j : ℕ) : Int) ∧ (0 : Int) = 0 ↔ _
      rw [Nat.cast_inj]; exact and_iff_left rfl
  have hA : ∀ (a b : IVec S8192x1 32) (p : Fin 8192), concatenate S8192x2 1 [⟨S8192x1, a⟩, ⟨S8192x1, b⟩] concatenates_S8192x1_S8192x1_S8192x2_d1 (ix2 p 0) = a (ix2 p 0) :=
    fun a b p => concatenate_pair_apply_left 1 a b concatenates_S8192x1_S8192x1_S8192x2_d1 (ix2 p 0) rfl (ix2 p 0) (fun q => match q with
      | ⟨0, _⟩ => rfl
      | ⟨1, _⟩ => rfl)
  have hB : ∀ (a b : IVec S8192x1 32) (p : Fin 8192), concatenate S8192x2 1 [⟨S8192x1, a⟩, ⟨S8192x1, b⟩] concatenates_S8192x1_S8192x1_S8192x2_d1 (ix2 p 1) = b (ix2 p 0) :=
    fun a b p => concatenate_pair_apply_right 1 a b concatenates_S8192x1_S8192x1_S8192x2_d1 (ix2 p 1) rfl rfl (ix2 p 0) (fun q => match q with
      | ⟨0, _⟩ => fun _ => rfl
      | ⟨1, _⟩ => fun hq => absurd rfl hq) rfl
  unfold rowWeights
  refine scatter_set_hit _ _ _ _ _ _ (fun k hk => ?_) (ix1 (entry t j)) ((hl t j _ (fun p => (hA _ _ p).trans rfl) (fun p => (hB _ _ p).trans rfl)).2 rfl)
  obtain ⟨p, rfl⟩ : ∃ p : Fin 8192, k = ix1 p := ⟨k 0, eq_ix1 k⟩
  obtain ⟨t', j', rfl⟩ := entry_surj p
  obtain ⟨rfl, rfl⟩ := dest_inj l ((hl t' j' _ (fun p => (hA _ _ p).trans rfl) (fun p => (hB _ _ p).trans rfl)).1 hk)
  exact list_at w _ _

omit hd in
theorem token_at (s : IVec S10240 32) (r : Fin 10240) (n : ℕ) (hn : n < 2 ^ 31) (h : s (ix1 r) = BitVec.ofNat 32 n) :
    broadcastInDim S10240x1 ![0] bcast_S10240_S10240x1_0
      (select (cmpi .slt s (broadcastInDim S10240 ![] bcast_S_S10240 (constantI S_ 32 0#32)))
        (addi s (broadcastInDim S10240 ![] bcast_S_S10240 (constantI S_ 32 4096#32))) s) (ix2 r 0) = BitVec.ofNat 32 n := by
  refine (broadcastInDim_apply (s := S10240) ![0] bcast_S10240_S10240x1_0 _ (ix2 r 0) (ix1 r) (fun a => match a with
    | ⟨0, _⟩ => by show r.val = if (10240 : ℕ) = 1 then 0 else r.val; rw [if_neg (by decide)])).trans ?_
  show Scalar.select (IntOp.cmpi .slt (s (ix1 r)) 0#32) _ (s (ix1 r)) = _
  rw [wrap_of_lt _ _ (by rw [h]; exact toNat_small _ hn), h]

omit hd in
theorem place_at (s : IVec S4096 32) (t : Fin 4096) (n : ℕ) (hn : n < 2 ^ 31) (h : s (ix1 t) = BitVec.ofNat 32 n) :
    broadcastInDim S4096x1 ![0] bcast_S4096_S4096x1_0
      (select (cmpi .slt s (broadcastInDim S4096 ![] bcast_S_S4096 (constantI S_ 32 0#32)))
        (addi s (broadcastInDim S4096 ![] bcast_S_S4096 (constantI S_ 32 10240#32))) s) (ix2 t 0) = BitVec.ofNat 32 n := by
  refine (broadcastInDim_apply (s := S4096) ![0] bcast_S4096_S4096x1_0 _ (ix2 t 0) (ix1 t) (fun a => match a with
    | ⟨0, _⟩ => by show t.val = if (4096 : ℕ) = 1 then 0 else t.val; rw [if_neg (by decide)])).trans ?_
  show Scalar.select (IntOp.cmpi .slt (s (ix1 t)) 0#32) _ (s (ix1 t)) = _
  rw [wrap_of_lt _ _ (by rw [h]; exact toNat_small _ hn), h]

/-- The entries of a choice's row. -/
theorem gathered_at (x : FVec Ideal S4096x1024 .f32) (t : Fin 4096) (j : Fin 2) (k : Fin 1024) :
    gathered x (sources d) (ix2 (row l t j) k) = x (ix2 t k) :=
  gather_row gather_S4096x1024_S10240x1_S10240x1024_1_0_n_n_0_1_11024 rfl rfl rfl rfl rfl x _ (row l t j) k t
    (token_at (sources d) (row l t j) t.val (by have := t.isLt; omega) (sources_at l d hd t j)) (by decide)

omit hd in
theorem rowsAt_at (y : FVec Ideal S10240x1024 .f32) (s : IVec S4096 32) (t : Fin 4096) (k : Fin 1024) (r : Fin 10240)
    (h : s (ix1 t) = BitVec.ofNat 32 r.val) : rowsAt y s (ix2 t k) = y (ix2 r k) :=
  gather_row gather_S10240x1024_S4096x1_S4096x1024_1_0_n_n_0_1_11024 rfl rfl rfl rfl rfl y _ t k r
    (place_at s t r.val (by have := r.isLt; omega) h) (by decide)

omit hd in
theorem column0_at (t : Fin 4096) :
    shapeCast S4096 (extractStridedSlice S4096x1 ![0, 0] d slices_S4096x2_S4096x1_0_0) shapeCasts_S4096x1_S4096 (ix1 t) = d (ix2 t 0) := by
  refine (shapeCast_apply _ shapeCasts_S4096x1_S4096 (ix1 t) (ix2 t 0)
    (by rewrite [Shape.rowMajor_val_two, Shape.rowMajor_val_one]; show t.val * 1 + 0 = t.val; omega)).trans ?_
  refine congrArg d (funext fun a => Fin.ext ?_)
  match a with
  | ⟨0, _⟩ => show 0 + t.val = t.val; omega
  | ⟨1, _⟩ => rfl

omit hd in
theorem column1_at (t : Fin 4096) :
    shapeCast S4096 (extractStridedSlice S4096x1 ![0, 1] d slices_S4096x2_S4096x1_0_1) shapeCasts_S4096x1_S4096 (ix1 t) = d (ix2 t 1) := by
  refine (shapeCast_apply _ shapeCasts_S4096x1_S4096 (ix1 t) (ix2 t 0)
    (by rewrite [Shape.rowMajor_val_two, Shape.rowMajor_val_one]; show t.val * 1 + 0 = t.val; omega)).trans ?_
  refine congrArg d (funext fun a => Fin.ext ?_)
  match a with
  | ⟨0, _⟩ => show 0 + t.val = t.val; omega
  | ⟨1, _⟩ => rfl

/-- A token's result: its two rows added. -/
theorem combined_at (y : FVec Ideal S10240x1024 .f32) (t : Fin 4096) (k : Fin 1024) :
    combined y d (Cert.Gate.Loss.place t k) = y (ix2 (row l t 0) k) + y (ix2 (row l t 1) k) := by
  refine (shapeCast_apply _ shapeCasts_S4096x1024_S2x2048x1024 (Cert.Gate.Loss.place t k) (ix2 t k)
    (by rewrite [Shape.rowMajor_val_three, Shape.rowMajor_val_two]; show t.val * 1024 + k.val = (t.val / 2048 * 2048 + t.val % 2048) * 1024 + k.val; omega)).trans ?_
  rw [addf_apply, rowsAt_at y _ t k (row l t 0) ((column0_at d t).trans (hd t 0)), rowsAt_at y _ t k (row l t 1) ((column1_at d t).trans (hd t 1))]

end Cert.Whole.HostOps

end
-- ==== Proof.Whole.Expert.lean ====
/- What the expert-tile call of the whole program leaves in its result, read at an element, from the tables, the gathered rows and
   the gate weights it is given. -/
module

public import proofs.«01_k».proof.Proof.Tiles.Mix
public import proofs.«01_k».proof.Proof.Ideal.GmmRegion
public import Idealize.ShloMosaic.Lib.Pipeline.Value
public import Idealize.ShloMosaic.Lib.Pipeline.ValueKit.Geometry
public import Idealize.ShloMosaic.Lib.MatmulPlain

@[expose] public section

set_option maxRecDepth 16384

noncomputable section

namespace Cert.KernelIdeal.Expert

open Cert.KernelIdeal Cert.KernelIdeal.Gen Cert.KernelIdeal.Gmm Cert.Tiles.Mix
open Idealize.ShloMosaic Idealize.ShloMosaic.TcCoe Idealize.ShloMosaic.ValueIdx

/-! ## The body's arithmetic at an element -/

/-- A weight block with its leading axis of one element dropped. -/
theorem drop_at (w : FVec Ideal S1x1024x1024 .f32) (n k : Fin 1024) :
    shapeCast S1024x1024 w shapeCasts_S1x1024x1024_S1024x1024 (ix2 n k) = w (ix3 0 n k) :=
  shapeCast_apply w shapeCasts_S1x1024x1024_S1024x1024 (ix2 n k) (ix3 0 n k)
    (by rewrite [Shape.rowMajor_val_three, Shape.rowMajor_val_two]; show (0 * 1024 + n.val) * 1024 + k.val = n.val * 1024 + k.val; omega)

/-- A product against a transposed block, from zero. -/
theorem product_at (x : FVec Ideal S256x1024 .f32) (w : FVec Ideal S1024x1024 .f32) (r : Fin 256) (n : Fin 1024) :
    matmul dot_S256x1024_S1024x1024_S256x1024_1_1_0_0_n_n none x w (constant S256x1024 .f32 0x00000000#32) (ix2 r n)
      = ∑ k : Fin 1024, x (ix2 r k) * w (ix2 n k) := by
  refine (Ideal.matmul_transposedRhs_apply none x w (constant S256x1024 .f32 0x00000000#32) r n).trans ?_
  show Ideal.ofBits .f32 0x00000000#32 + _ = _
  rw [Ideal.ofBits_zero_f32, zero_add]

theorem logistic_at (z : FVec Ideal S256x1024 .f32) (i : S256x1024.Idx) : logistic z i = Ideal.logistic (z i) := rfl

/-- What a point adds to the tile. -/
theorem pay2_at (x : FVec Ideal S256x1024 .f32) (w1 : FVec Ideal S1x1024x1024 .f32) (acc : FVec Ideal S256x1024 .f32) (w2 : FVec Ideal S1x1024x1024 .f32)
    (r : Fin 256) (d : Fin 1024) : k1_pay2 (F := Ideal) x w1 acc w2 (ix2 r d)
      = acc (ix2 r d) + ∑ n : Fin 1024, silu (∑ k : Fin 1024, x (ix2 r k) * w1 (ix3 0 n k)) * w2 (ix3 0 d n) := by
  unfold k1_pay2
  simp only [addf_apply, product_at, mulf_apply, logistic_at, drop_at]
  rw [shapeCast_self, shapeCast_self]
  rfl

/-- The rows weighted. -/
theorem pay3_at (acc : FVec Ideal S256x1024 .f32) (g : FVec Ideal S256x1 .f32) (r : Fin 256) (d : Fin 1024) :
    k1_pay3 (F := Ideal) acc g (ix2 r d) = acc (ix2 r d) * g (ix2 r 0) := by
  unfold k1_pay3
  simp only [mulf_apply]
  rw [shapeCast_self, shapeCast_self,
    broadcastTo_apply g broadcasts_S256x1_S256x1024 (ix2 r d) (ix2 r 0) (fun a => match a with
      | ⟨0, _⟩ => by show r.val = if (256 : Nat) = 1 then 0 else r.val; rw [if_neg (by decide)]
      | ⟨1, _⟩ => by show 0 = if (1 : Nat) = 1 then 0 else d.val; rw [if_pos rfl])]

/-- The tile is added to in an active tile only. -/
theorem cond2_iff (v : BitVec 32) : k1_cond2 v = 1#1 ↔ ¬v = 0#32 := by
  by_cases h : v = 0#32
  · subst h; decide
  · have e : Scalar.cmpi .ne v 0#32 = 1#1 := by
      show BitVec.ofBool (v != 0#32) = 1#1
      rw [bne_iff_ne.mpr h]; rfl
    unfold k1_cond2
    simp only [e]
    exact ⟨fun _ => h, fun _ => by decide⟩

/-! ## The blocks at a point -/

variable (a : (pcfg1 (F := Ideal)).Adm) (W : Dev nD → Valuation τ sig (Elt Ideal)) (c : Dev nD)

/-- The two tables: each tile's expert, and whether it is active. -/
abbrev t0 : Words := a.1 0
abbrev t1 : Words := a.1 1

/-- Hidden block `j` of tile `q`. -/
def pt (q : Fin 40) (j : Fin 4) : Fin (cfg1 a).N := ⟨4 * q.val + j.val, by show _ < 160; omega⟩

theorem coord0 (q : Fin 40) (j : Fin 4) : (grid1.coords (pt a q j) 0).val = q.val := by
  have e : (grid1.coords (pt a q j) 0).val = (pt a q j).val / 4 % 40 := Pipeline.Grid.coords_val _ 0 (by decide) rfl
  rw [e]; show (4 * q.val + j.val) / 4 % 40 = q.val; omega
theorem coord1 (q : Fin 40) (j : Fin 4) : (grid1.coords (pt a q j) 1).val = j.val := by
  have e : (grid1.coords (pt a q j) 1).val = (pt a q j).val / 1 % 4 := Pipeline.Grid.coords_val _ 1 (by decide) rfl
  rw [e]; show (4 * q.val + j.val) / 1 % 4 = j.val; omega

theorem word40 (n : ℕ) (h : n < 40) : (BitVec.ofNat 32 n).toNat = n := by
  rw [BitVec.toNat_ofNat]; exact Nat.mod_eq_of_lt (by omega)

/-- The one entry of a table a point reads. -/
theorem entry (T : IVec S40 32) (q : Fin 40) (j : Fin 4) :
    T ((Rect.unit (s := S40) (k1_off1 (grid1.coords (pt a q j))) S1.size (k1_off1_inb _)).emb (Shape.Idx.first (numel1_S1.symm ▸ Nat.one_pos))) = T (ValueIdx.ix1 q) := by
  refine congrArg T (funext fun b => Fin.ext ?_)
  match b with
  | ⟨0, _⟩ =>
    show (BitVec.ofNat 32 (grid1.coords (pt a q j) 0).val).toNat + 1 * 0 = q.val
    rw [coord0, word40 _ q.isLt]; rfl

/-- The row of the array that row `r` of tile `q` is. -/
def rowOf (q : Fin 40) (r : Fin 256) : Fin 10240 := ⟨q.val * 256 + r.val, by omega⟩

theorem index0 (q : Fin 40) (j : Fin 4) : ((cfg1 a).win 0).index (pt a q j) = ![q.val, 0] := by
  show cc1_transform_0 (grid1.coords (pt a q j)) = _
  unfold cc1_transform_0
  simp only [coord0, word40 _ q.isLt]
  rfl
theorem index1 (q : Fin 40) (j : Fin 4) : ((cfg1 a).win 1).index (pt a q j) = ![(t0 a (ValueIdx.ix1 q)).toNat, j.val, 0] := by
  show (![(a.1 0 ((Rect.unit (s := S40) (k1_off1 (grid1.coords (pt a q j))) S1.size (k1_off1_inb _)).emb (Shape.Idx.first (numel1_S1.symm ▸ Nat.one_pos))) : BitVec 32).toNat,
    (BitVec.ofNat 32 (grid1.coords (pt a q j) 1).val).toNat, 0] : Fin 3 → ℕ) = _
  exact congrArg₂ (fun x y : ℕ => (![x, y, 0] : Fin 3 → ℕ)) (congrArg BitVec.toNat (entry a (t0 a) q j)) (by rw [coord1, word40 _ (by omega)])
theorem index2 (q : Fin 40) (j : Fin 4) : ((cfg1 a).win 2).index (pt a q j) = ![(t0 a (ValueIdx.ix1 q)).toNat, 0, j.val] := by
  show (![(a.1 0 ((Rect.unit (s := S40) (k1_off1 (grid1.coords (pt a q j))) S1.size (k1_off1_inb _)).emb (Shape.Idx.first (numel1_S1.symm ▸ Nat.one_pos))) : BitVec 32).toNat,
    0, (BitVec.ofNat 32 (grid1.coords (pt a q j) 1).val).toNat] : Fin 3 → ℕ) = _
  exact congrArg₂ (fun x y : ℕ => (![x, 0, y] : Fin 3 → ℕ)) (congrArg BitVec.toNat (entry a (t0 a) q j)) (by rw [coord1, word40 _ (by omega)])
theorem index3 (q : Fin 40) (j : Fin 4) : ((cfg1 a).win 3).index (pt a q j) = ![q.val, 0] := index0 a q j
theorem index4 (q : Fin 40) (j : Fin 4) : ((cfg1 a).win 4).index (pt a q j) = ![q.val, 0] := index0 a q j

/-- The rows, the weights and the gate weights the region finds. -/
abbrev xs : Rows := W c (Proc.devRef .tc main_v69)
abbrev ws1 : Weights1 := W c (Proc.devRef .tc main_arg2)
abbrev ws2 : Weights2 := W c (Proc.devRef .tc main_arg3)
abbrev gs : Gates := W c (Proc.devRef .tc main_v45)

theorem x_at (q : Fin 40) (j : Fin 4) (r : Fin 256) (k : Fin 1024) : xb a W c (pt a q j) (ix2 r k) = xs W c (ix2 (rowOf q r) k) := by
  show W c (Proc.devRef .tc main_v69) ((((cfg1 a).win 0).rect (pt a q j)).emb (ix2 r k)) = _
  refine congrArg (W c (Proc.devRef .tc main_v69)) (funext fun b => Fin.ext ?_)
  refine (Pipeline.Window.rect_emb_val ((cfg1 a).win 0) (pt a q j) (ix2 r k) b).trans ?_
  rw [index0]
  match b with
  | ⟨0, _⟩ => rfl
  | ⟨1, _⟩ => show 0 * 1024 + k.val = k.val; omega
theorem g_at (q : Fin 40) (j : Fin 4) (r : Fin 256) : gb a W c (pt a q j) (ix2 r 0) = gs W c (ix2 (rowOf q r) 0) := by
  show W c (Proc.devRef .tc main_v45) ((((cfg1 a).win 3).rect (pt a q j)).emb (ix2 r 0)) = _
  refine congrArg (W c (Proc.devRef .tc main_v45)) (funext fun b => Fin.ext ?_)
  refine (Pipeline.Window.rect_emb_val ((cfg1 a).win 3) (pt a q j) (ix2 r 0) b).trans ?_
  rw [index3]
  match b with
  | ⟨0, _⟩ => rfl
  | ⟨1, _⟩ => rfl

variable (hq : ∀ j : S40.Idx, (t0 a j).toNat ≤ 7)

theorem w1_at (q : Fin 40) (j : Fin 4) (n k : Fin 1024) :
    w1b a W c (pt a q j) (ix3 0 n k) = ws1 W c (ix3 (named (t0 a) hq q) (unitOf j n) k) := by
  show W c (Proc.devRef .tc main_arg2) ((((cfg1 a).win 1).rect (pt a q j)).emb (ix3 0 n k)) = _
  refine congrArg (W c (Proc.devRef .tc main_arg2)) (funext fun b => Fin.ext ?_)
  refine (Pipeline.Window.rect_emb_val ((cfg1 a).win 1) (pt a q j) (ix3 0 n k) b).trans ?_
  rw [index1]
  match b with
  | ⟨0, _⟩ => show (t0 a (ValueIdx.ix1 q)).toNat * 1 + 0 = (t0 a (ValueIdx.ix1 q)).toNat; omega
  | ⟨1, _⟩ => rfl
  | ⟨2, _⟩ => show 0 * 1024 + k.val = k.val; omega
theorem w2_at (q : Fin 40) (j : Fin 4) (d n : Fin 1024) :
    w2b a W c (pt a q j) (ix3 0 d n) = ws2 W c (ix3 (named (t0 a) hq q) d (unitOf j n)) := by
  show W c (Proc.devRef .tc main_arg3) ((((cfg1 a).win 2).rect (pt a q j)).emb (ix3 0 d n)) = _
  refine congrArg (W c (Proc.devRef .tc main_arg3)) (funext fun b => Fin.ext ?_)
  refine (Pipeline.Window.rect_emb_val ((cfg1 a).win 2) (pt a q j) (ix3 0 d n) b).trans ?_
  rw [index2]
  match b with
  | ⟨0, _⟩ => show (t0 a (ValueIdx.ix1 q)).toNat * 1 + 0 = (t0 a (ValueIdx.ix1 q)).toNat; omega
  | ⟨1, _⟩ => show 0 * 1024 + d.val = d.val; omega
  | ⟨2, _⟩ => rfl

/-! ## The tile accumulated over its four hidden blocks -/

/-- What block `j` adds to row `r`, feature `d` of tile `q`. -/
def part (q : Fin 40) (r : Fin 256) (d : Fin 1024) (j : Fin 4) : EReal :=
  if t1 a (ValueIdx.ix1 q) = 0#32 then 0 else ∑ n, unit (xs W c) (ws1 W c) (ws2 W c) (named (t0 a) hq q) (rowOf q r) d (unitOf j n)

theorem added_at (q : Fin 40) (j : Fin 4) (r : Fin 256) (d : Fin 1024) (acc : FVec Ideal S256x1024 .f32) :
    added (actAt (a.1 1) (grid1.coords (pt a q j))) (xb a W c (pt a q j)) (w1b a W c (pt a q j)) (w2b a W c (pt a q j)) acc (ix2 r d)
      = acc (ix2 r d) + part a W c hq q r d j := by
  have e : actAt (F := Ideal) (a.1 1) (grid1.coords (pt a q j)) = t1 a (ValueIdx.ix1 q) := entry a (t1 a) q j
  unfold added part
  rw [e]
  by_cases h : t1 a (ValueIdx.ix1 q) = 0#32
  · rw [if_neg (fun h' => (cond2_iff _).mp h' h), if_pos h, add_zero]
  · rw [if_pos ((cond2_iff _).mpr h), if_neg h, pay2_at]
    refine congrArg (acc (ix2 r d) + ·) (Finset.sum_congr rfl fun n _ => ?_)
    rw [w2_at a W c hq]
    simp only [x_at, w1_at a W c hq]
    rfl

theorem first_at (q : Fin 40) (r : Fin 256) (d : Fin 1024) : accAt a W c ((pt a q 0).val + 1) (ix2 r d) = 0 + part a W c hq q r d 0 := by
  rw [accAt_succ]
  unfold stepAt step closed opened
  rw [if_neg (fun h => by have := (cond3_iff _).mp h; have e : (pt a q 0).val = 4 * q.val + 0 := rfl; omega),
    if_pos ((cond1_iff _).mpr (by have e : (pt a q 0).val = 4 * q.val + 0 := rfl; omega)), added_at a W c hq]
  show Ideal.ofBits .f32 0x00000000#32 + _ = _
  rw [Ideal.ofBits_zero_f32]

theorem mid_at (q : Fin 40) (j : Fin 4) (h1 : ¬j.val = 0) (h3 : ¬j.val = 3) (r : Fin 256) (d : Fin 1024) :
    accAt a W c ((pt a q j).val + 1) (ix2 r d) = accAt a W c (pt a q j).val (ix2 r d) + part a W c hq q r d j := by
  have e : (pt a q j).val = 4 * q.val + j.val := rfl
  rw [accAt_succ]
  unfold stepAt step closed opened
  rw [if_neg (fun h => by have := (cond3_iff _).mp h; omega), if_neg (fun h => by have := (cond1_iff _).mp h; omega), added_at a W c hq]

theorem last_at (q : Fin 40) (r : Fin 256) (d : Fin 1024) :
    accAt a W c ((pt a q 3).val + 1) (ix2 r d) = (accAt a W c (pt a q 3).val (ix2 r d) + part a W c hq q r d 3) * gs W c (ix2 (rowOf q r) 0) := by
  have e : (pt a q 3).val = 4 * q.val + 3 := rfl
  rw [accAt_succ]
  unfold stepAt step closed opened
  rw [if_pos ((cond3_iff _).mpr (by omega)), if_neg (fun h => by have := (cond1_iff _).mp h; omega), pay3_at, added_at a W c hq, g_at]

/-- THE TILE after its last hidden block. -/
theorem tile_at (q : Fin 40) (r : Fin 256) (d : Fin 1024) :
    accAt a W c ((pt a q 3).val + 1) (ix2 r d) = mixed (t0 a) (t1 a) hq (xs W c) (ws1 W c) (ws2 W c) (gs W c) (rowOf q r) d := by
  rw [last_at a W c hq, show (pt a q 3).val = (pt a q 2).val + 1 from rfl, mid_at a W c hq q 2 (by decide) (by decide),
    show (pt a q 2).val = (pt a q 1).val + 1 from rfl, mid_at a W c hq q 1 (by decide) (by decide),
    show (pt a q 1).val = (pt a q 0).val + 1 from rfl, first_at a W c hq]
  have et : tileOf (rowOf q r) = q := Fin.ext (by show (q.val * 256 + r.val) / 256 = q.val; omega)
  unfold part mixed
  rw [et]
  by_cases h : t1 a (ValueIdx.ix1 q) = 0#32
  · simp only [if_pos h, add_zero, zero_mul]
  · simp only [if_neg h]
    rw [blocks_eq]
    rfl

/-- Every element of the result is written back, by its tile's last point. -/
theorem covered (i : S10240x1024.Idx) : ∃ t : Fin (cfg1 a).N, ((cfg1 a).win 4).flush t = true ∧ i ∈ (((cfg1 a).win 4).blk t).view.set := by
  have hi : (i 0).val < 10240 := (i 0).isLt
  have hd : (i 1).val < 1024 := (i 1).isLt
  refine ⟨pt a ⟨(i 0).val / 256, by omega⟩ 3, (flush4 a _).mpr (by show (4 * ((i 0).val / 256) + 3) % 4 = 3; omega), ?_⟩
  refine (Pipeline.Window.emb_mem_blk_iff ((cfg1 a).win 4) _ i rfl).mpr fun b => ?_
  rw [index4]
  match b with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-- THE RESULT ARRAY after the call. -/
theorem result_eq : (dat a W c).arrAt 4 (cfg1 a).N
    = fun i : S10240x1024.Idx => mixed (t0 a) (t1 a) hq (xs W c) (ws1 W c) (ws2 W c) (gs W c) (i 0) (i 1) := by
  refine (dat a W c).arrAt_eq_of_emb 4 _ (fun t hf y => ?_) (covered a)
  · have split : ∀ y : S256x1024.Idx, ∃ (r : Fin 256) (d : Fin 1024), y = ix2 r d := fun y => ⟨y 0, y 1, eq_ix2 y⟩
    have h3 := (flush4 a t).mp hf
    have ht : t.val < 160 := t.isLt
    obtain ⟨q, rfl⟩ : ∃ q : Fin 40, t = pt a q 3 := ⟨⟨t.val / 4, by omega⟩, Fin.ext (by show t.val = 4 * (t.val / 4) + 3; omega)⟩
    obtain ⟨r, d, rfl⟩ : ∃ (r : Fin 256) (d : Fin 1024), y = (ix2 r d : S256x1024.Idx) := split y
    refine (tile_at a W c hq q r d).trans ?_
    have e : (((cfg1 a).win 4).rect (pt a q 3)).emb (ix2 r d) = (ix2 (rowOf q r) d : S10240x1024.Idx) := funext fun b => Fin.ext (by
      refine (Pipeline.Window.rect_emb_val ((cfg1 a).win 4) (pt a q 3) (ix2 r d) b).trans ?_
      rw [index4]
      match b with
      | ⟨0, _⟩ => rfl
      | ⟨1, _⟩ => show 0 * 1024 + d.val = d.val; omega)
    exact (congrArg (fun i : S10240x1024.Idx => mixed (t0 a) (t1 a) hq (xs W c) (ws1 W c) (ws2 W c) (gs W c) (i 0) (i 1)) e).symm

end Cert.KernelIdeal.Expert

end
-- ==== Proof.Whole.Dispatch.lean ====
/- The whole program read at an element: what the host puts between its two calls, and the two results at the end, from the inputs. -/
module

public import proofs.«01_k».proof.Proof.Whole.HostOps
public import proofs.«01_k».proof.Proof.Whole.Expert

@[expose] public section

set_option maxRecDepth 16384

noncomputable section

namespace Cert.Whole.Dispatch

open Cert.KernelIdeal hiding ix1
open Cert.KernelIdeal.Gen Cert.KernelIdeal.Run Cert.Tiles.Mix
open Cert.Whole.Choice Cert.Whole.Block Cert.Whole.Region Cert.Whole.Plan Cert.Whole.HostOps Cert.Gate.Loss
open Idealize.ShloMosaic Idealize.ShloMosaic.TcCoe Idealize.ShloMosaic.ValueIdx Idealize.ShloMosaic.Routing Idealize.ShloMosaic.Tactic

/-! ## The tables at a choice's row -/

section Table

variable (l : Fin 4096 → Fin 8 → EReal) (b : IVec S8 32) (hb : ∀ e : Fin 8, b (ValueIdx.ix1 e) = BitVec.ofNat 32 (start l (e.val + 1)))

theorem tileStart_at (q : Fin 40) : Tables.tileStart (ValueIdx.ix1 q) = BitVec.ofNat 32 (q.val * 256) := by
  show BitVec.ofNat 32 q.val * 256#32 = _
  rw [show (256#32 : BitVec 32) = BitVec.ofNat 32 256 from rfl, ← BitVec.ofNat_mul]

theorem spread_start (x : IVec S40 32) (q : Fin 40) (e : Fin 8) :
    broadcastInDim S40x8 ![0, 1] bcast_S40x1_S40x8_0_1 (broadcastInDim S40x1 ![0] bcast_S40_S40x1_0 x) (ix2 q e) = x (ValueIdx.ix1 q) :=
  (broadcastInDim_apply (s := S40x1) ![0, 1] bcast_S40x1_S40x8_0_1 _ (ix2 q e) (ix2 q 0) (fun a => match a with
    | ⟨0, _⟩ => by show q.val = if (40 : ℕ) = 1 then 0 else q.val; rw [if_neg (by decide)]
    | ⟨1, _⟩ => by show 0 = if (1 : ℕ) = 1 then 0 else e.val; rw [if_pos rfl])).trans
  (broadcastInDim_apply (s := S40) ![0] bcast_S40_S40x1_0 x (ix2 q 0) (ValueIdx.ix1 q) (fun a => match a with
    | ⟨0, _⟩ => by show q.val = if (40 : ℕ) = 1 then 0 else q.val; rw [if_neg (by decide)]))

theorem spread_bound (x : IVec S8 32) (q : Fin 40) (e : Fin 8) :
    broadcastInDim S40x8 ![0, 1] bcast_S1x8_S40x8_0_1 (broadcastInDim S1x8 ![1] bcast_S8_S1x8_1 x) (ix2 q e) = x (ValueIdx.ix1 e) :=
  (broadcastInDim_apply (s := S1x8) ![0, 1] bcast_S1x8_S40x8_0_1 _ (ix2 q e) (ix2 0 e) (fun a => match a with
    | ⟨0, _⟩ => by show 0 = if (1 : ℕ) = 1 then 0 else q.val; rw [if_pos rfl]
    | ⟨1, _⟩ => by show e.val = if (8 : ℕ) = 1 then 0 else e.val; rw [if_neg (by decide)])).trans
  (broadcastInDim_apply (s := S8) ![1] bcast_S8_S1x8_1 x (ix2 0 e) (ValueIdx.ix1 e) (fun a => match a with
    | ⟨0, _⟩ => by show e.val = if (8 : ℕ) = 1 then 0 else e.val; rw [if_neg (by decide)]))

theorem count_below : ∀ e : Fin 8, Nat.count (fun k => k < e.val) 8 = e.val := by decide

include hb

theorem tile_expert_at (t : Fin 4096) (j : Fin 2) : Tables.tileEid b (ValueIdx.ix1 (tileOf (row l t j))) = BitVec.ofNat 32 (pick (l t) j).val := by
  have h8 := (pick (l t) j).isLt
  have hs := fun e : Fin 8 => start_bound l (e.val + 1) e.isLt
  have hq := (tileOf (row l t j)).isLt
  have hA : ∀ e : Fin 8, cmpi .sge
      (broadcastInDim S40x8 ![0, 1] bcast_S40x1_S40x8_0_1 (broadcastInDim S40x1 ![0] bcast_S40_S40x1_0 Tables.tileStart))
      (broadcastInDim S40x8 ![0, 1] bcast_S1x8_S40x8_0_1 (broadcastInDim S1x8 ![1] bcast_S8_S1x8_1 b)) (ix2 (tileOf (row l t j)) e) = 1#1
      ↔ e.val < (pick (l t) j).val := fun e => by
    rw [cmpi_apply, spread_start, spread_bound, tileStart_at, hb, WordCmp.cmpi_sge_ofNat_eq_one_iff (w := 32) (by omega) (by have := hs e; omega)]
    exact tile_expert l t j e
  unfold Tables.tileEid
  show IntOp.minsi (Host.reduce IntOp.addi _ _ _ _ (ValueIdx.ix1 (tileOf (row l t j)))) 7#32 = _
  rw [reduce_count (n := 40) (m := 8) (by decide) _ natLt_1_32 reducesTo_S40x8_S40_d1 h_S_ (tileOf (row l t j)) (fun k => k < (pick (l t) j).val) hA,
    count_below, show (7#32 : BitVec 32) = BitVec.ofNat 32 7 from rfl, PlanTiles.minsi_word (by omega) (by decide)]
  exact congrArg (BitVec.ofNat 32) (by omega)

theorem tile_active_at (t : Fin 4096) (j : Fin 2) : Tables.tileAct b (ValueIdx.ix1 (tileOf (row l t j))) ≠ 0#32 := by
  have hs := start_last l
  have hq := (tileOf (row l t j)).isLt
  have h7 : shapeCast S_ (extractStridedSlice S1 ![7] b slices_S8_S1_7) shapeCasts_S1_S_ (Shape.Idx.first h_S_) = b (ValueIdx.ix1 7) := by
    refine (shapeCast_apply _ shapeCasts_S1_S_ (Shape.Idx.first h_S_) (ValueIdx.ix1 0) (by decide)).trans (congrArg b (funext fun a => Fin.ext ?_))
    match a with
    | ⟨0, _⟩ => rfl
  have h : IntOp.cmpi .slt (Tables.tileStart (ValueIdx.ix1 (tileOf (row l t j)))) (b (ValueIdx.ix1 7)) = 1#1 := by
    rw [tileStart_at, show b (ValueIdx.ix1 7) = BitVec.ofNat 32 (start l 8) from hb 7,
      WordCmp.cmpi_slt_ofNat_eq_one_iff (w := 32) (by omega) (lt_of_le_of_lt hs (by decide))]
    have h1 := tile_end l t j
    have h2 : start l ((pick (l t) j).val + 1) ≤ start l 8 := start_mono l (pick (l t) j).isLt
    exact lt_of_lt_of_le h1 h2
  unfold Tables.tileAct
  show (IntOp.cmpi .slt (Tables.tileStart (ValueIdx.ix1 (tileOf (row l t j)))) (shapeCast S_ (extractStridedSlice S1 ![7] b slices_S8_S1_7) shapeCasts_S1_S_ _)).setWidth 32 ≠ 0#32
  rw [show ∀ i : S_.Idx, shapeCast S_ (extractStridedSlice S1 ![7] b slices_S8_S1_7) shapeCasts_S1_S_ i = b (ValueIdx.ix1 7) from
    fun i => (congrArg _ (Subsingleton.elim i _)).trans h7, h]
  decide

end Table

/-! ## The host stretches -/

section Read

variable (V : Valuation τ sig (Elt Ideal))

set_option maxHeartbeats 4000000 in
theorem read_v6 : StableHlo.after hostOps1 V (Proc.devRef .tc main_v6) = raised (V (Proc.devRef .tc main_v1_3)) := by
  after_reads_simp; rfl

theorem read_c1 : StableHlo.after hostOps1 V (Proc.devRef .tc main_c_1) = constantI S_ 32 256#32 := by after_results

set_option maxHeartbeats 4000000 in
theorem read_v7 : StableHlo.after hostOps1_1 V (Proc.devRef .tc main_v7) = floorDiv (V (Proc.devRef .tc main_v6)) (V (Proc.devRef .tc main_c_1)) := by
  after_reads_simp; rfl

theorem read_v9 : StableHlo.after hostOps1_2 V (Proc.devRef .tc main_v9) = kept (V (Proc.devRef .tc main_v7)) := by after_results; rfl

theorem read_v10 : StableHlo.after hostOps1_3 V (Proc.devRef .tc main_v10) = ends (V (Proc.devRef .tc main_v9)) := by
  after_reads_simp; unfold ends; congr 1

/-- The rows of the choices, from what the stretch finds. -/
abbrev rows_ : IVec S4096x2 32 := rowOf (V (Proc.devRef .tc main_v10)) (V (Proc.devRef .tc main_v9)) (V (Proc.devRef .tc main_v1_0)) (V (Proc.devRef .tc main_v1_2))

set_option maxHeartbeats 4000000 in
theorem read_v19 : StableHlo.after hostOps1_4 V (Proc.devRef .tc main_v19) = rows_ V := by
  after_reads_simp; rfl

set_option maxHeartbeats 4000000 in
theorem read_v45 : StableHlo.after hostOps1_4 V (Proc.devRef .tc main_v45) = rowWeights (rows_ V) (V (Proc.devRef .tc main_v1_1)) := by
  after_reads_simp; rfl

set_option maxHeartbeats 4000000 in
theorem read_v69 : StableHlo.after hostOps1_4 V (Proc.devRef .tc main_v69) = gathered (V (Proc.devRef .tc main_v0)) (sources (rows_ V)) := by
  after_reads_simp; rfl

set_option maxHeartbeats 4000000 in
theorem read_v90 : StableHlo.after hostOps2 V (Proc.devRef .tc main_v90) = combined (V (Proc.devRef .tc main_v70)) (V (Proc.devRef .tc main_v19)) := by
  after_reads_simp; rfl

set_option maxHeartbeats 4000000 in
theorem read_v91 : StableHlo.after hostOps2 V (Proc.devRef .tc main_v91) = shapeCast S_ (V (Proc.devRef .tc main_v1_4) : FVec Ideal S1x1 .f32) shapeCasts_S1x1_S_ := by
  after_reads_simp; rfl

end Read

/-! ## The run -/

section Run

variable (m : (ℓ : Loc nD τ sig) → Buf (Elt Ideal) ℓ) (c : Dev nD)

theorem found (w : Fin 7) : V2 m (outs m) c (Proc.devRef .tc (Pipeline.arrRef spec0 w)) = (Route.dat (V1 m) c).arrAt w cfg0.N :=
  (after0_eq m c _ (Pipeline.devRef_mem_ucRefs (by revert w; decide))).symm.trans (Pipeline.afterRegion_arr (Route.dat (V1 m) c) (V1 m c) winFacts0.arr_inj w)

/-- What a call of the host's first stretches finds is not written by them. -/
theorem keep (r : Ref sig .tc) (h3 : r ∉ hostOps1_W) (h4 : r ∉ hostOps1_1_W) (h5 : r ∉ hostOps1_2_W) (h6 : r ∉ hostOps1_3_W) :
    V6 m (outs m) c r = V2 m (outs m) c r :=
  (V6_of m (outs m) c r h6).trans ((V5_of m (outs m) c r h5).trans ((V4_of m (outs m) c r h4).trans (V3_of m (outs m) c r h3)))

/-- An argument is as it was. -/
theorem arg_kept (r : Ref sig .tc) (h1 : r ∉ hostOps0_W) (h2 : r ∉ ([main_v1_0, main_v1_1, main_v1_2, main_v1_3, main_v1_4] : List (Ref sig .tc)))
    (h3 : r ∉ hostOps1_W) (h4 : r ∉ hostOps1_1_W) (h5 : r ∉ hostOps1_2_W) (h6 : r ∉ hostOps1_3_W) (h7 : r ∉ hostOps1_4_W) :
    V7 m (outs m) c r = m (c, Proc.devRef .tc r) :=
  (V7_of m (outs m) c r h7).trans ((keep m c r h3 h4 h5 h6).trans ((V2_of m (outs m) c r h2).trans (V1_of m c r h1)))

variable (hl : ∀ t e, logits m c t e ≠ ⊥)

include hl

theorem kept_row (e : Fin 8) : V5 m (outs m) c (Proc.devRef .tc main_v9) (ValueIdx.ix1 e : S8.Idx) = BitVec.ofNat 32 (padded (logits m c) e.val) := by
  have h : V5 m (outs m) c (Proc.devRef .tc main_v9) = kept (floorDiv (raised (V2 m (outs m) c (Proc.devRef .tc main_v1_3))) (constantI S_ 32 256#32)) := by
    have h9 : V5 m (outs m) c (Proc.devRef .tc main_v9) = kept (V4 m (outs m) c (Proc.devRef .tc main_v7)) := read_v9 _
    have h7 : V4 m (outs m) c (Proc.devRef .tc main_v7) = floorDiv (V3 m (outs m) c (Proc.devRef .tc main_v6)) (V3 m (outs m) c (Proc.devRef .tc main_c_1)) := read_v7 _
    have h6 : V3 m (outs m) c (Proc.devRef .tc main_v6) = raised (V2 m (outs m) c (Proc.devRef .tc main_v1_3)) := read_v6 _
    have h1 : V3 m (outs m) c (Proc.devRef .tc main_c_1) = constantI S_ 32 256#32 := read_c1 _
    exact h9.trans (congrArg kept (h7.trans (congr (congrArg floorDiv h6) h1)))
  rw [h]
  exact padded_at (logits m c) _ (fun e => congrFun ((found m c 5).trans (counts_eq m c hl)) (ix2 0 e)) e

theorem ends_row (e : Fin 8) : V6 m (outs m) c (Proc.devRef .tc main_v10) (ValueIdx.ix1 e : S8.Idx) = BitVec.ofNat 32 (start (logits m c) (e.val + 1)) := by
  have h : V6 m (outs m) c (Proc.devRef .tc main_v10) = ends (V5 m (outs m) c (Proc.devRef .tc main_v9)) := read_v10 _
  exact (congrFun h (ValueIdx.ix1 e)).trans (ends_at (logits m c) _ (kept_row m c hl) e)

/-- The row of each choice. -/
theorem rows_at (t : Fin 4096) (j : Fin 2) : rows_ (V6 m (outs m) c) (ix2 t j) = BitVec.ofNat 32 (dest (logits m c) t j) := by
  refine rowOf_at (logits m c) _ _ _ _ (ends_row m c hl) (fun e => ?_) t j ?_ ?_
  · rw [V6_of m (outs m) c main_v9 (by decide)]
    exact kept_row m c hl e
  · rw [keep m c main_v1_0 (by decide) (by decide) (by decide) (by decide)]
    exact congrFun ((found m c 2).trans (eids_eq m c hl)) (ix2 t j)
  · rw [keep m c main_v1_2 (by decide) (by decide) (by decide) (by decide)]
    exact congrFun ((found m c 4).trans (ranks_eq m c hl)) (ix2 t j)

/-- What expert `e` makes of a token, at a feature. -/
def made (x : S2x2048x1024.Idx → EReal) (w1 : Weights1) (w2 : Weights2) (t : Fin 4096) (e : Fin 8) (d : Fin 1024) : EReal :=
  ∑ h : Fin 4096, silu (∑ k : Fin 1024, x (place t k) * w1 (ix3 e h k)) * w2 (ix3 e d h)

/-- The token's entries at a choice's row, -/
theorem entries_at (t : Fin 4096) (j : Fin 2) (k : Fin 1024) :
    V7 m (outs m) c (Proc.devRef .tc main_v69) (ix2 (row (logits m c) t j) k : S10240x1024.Idx) = tokens m c (place t k) := by
  show StableHlo.after hostOps1_4 _ (Proc.devRef .tc main_v69) (ix2 (row (logits m c) t j) k : S10240x1024.Idx) = _
  rw [read_v69]
  refine (gathered_at (logits m c) _ (rows_at m c hl) _ t j k).trans ?_
  rw [keep m c main_v0 (by decide) (by decide) (by decide) (by decide), V2_of m (outs m) c main_v0 (by decide)]
  exact flat_at m c t k

/-- and its weight. -/
theorem weight_at (t : Fin 4096) (j : Fin 2) :
    V7 m (outs m) c (Proc.devRef .tc main_v45) (ix2 (row (logits m c) t j) 0 : S10240x1.Idx) = share (logits m c t) j := by
  show StableHlo.after hostOps1_4 _ (Proc.devRef .tc main_v45) (ix2 (row (logits m c) t j) 0 : S10240x1.Idx) = _
  rw [read_v45]
  refine (rowWeights_at (logits m c) _ (rows_at m c hl) _ t j).trans ?_
  rw [keep m c main_v1_1 (by decide) (by decide) (by decide) (by decide)]
  exact congrFun ((found m c 3).trans (ws_eq m c)) (ix2 t j)

/-- The expert-tile call's result at a choice's row. -/
theorem tile_row_at (t : Fin 4096) (j : Fin 2) (d : Fin 1024) :
    V8 m (outs m) c (Proc.devRef .tc main_v70) (ix2 (row (logits m c) t j) d : S10240x1024.Idx)
      = made (tokens m c) (m (c, Proc.devRef .tc main_arg2)) (m (c, Proc.devRef .tc main_arg3)) t (pick (logits m c t) j) d * share (logits m c t) j := by
  have hq : ∀ i, (Expert.t0 (adm1 m) i).toNat ≤ 7 := Tables.tileEid_le _
  have hv : V8 m (outs m) c (Proc.devRef .tc main_v70) = (Gmm.dat (adm1 m) (V7 m (outs m)) c).arrAt 4 (cfg1 (adm1 m)).N :=
    (Function.update_self _ _ _).trans (Pipeline.afterRegion_arr (Gmm.dat (adm1 m) (V7 m (outs0 m)) c) (V7 m (outs0 m) c) winFacts1.arr_inj 4)
  rw [hv, Expert.result_eq (adm1 m) (V7 m (outs m)) c hq]
  obtain rfl : c = 0 := Subsingleton.elim _ _
  have hb : ∀ e : Fin 8, V6 m (outs m) 0 (Proc.devRef .tc main_v10) (ValueIdx.ix1 e : S8.Idx) = BitVec.ofNat 32 (start (logits m 0) (e.val + 1)) := ends_row m 0 hl
  have h1 : Expert.t1 (adm1 m) (ValueIdx.ix1 (tileOf (row (logits m 0) t j))) ≠ 0#32 := tile_active_at (logits m 0) _ hb t j
  have h0 : named (Expert.t0 (adm1 m)) hq (tileOf (row (logits m 0) t j)) = pick (logits m 0 t) j := Fin.ext (by
    show (Tables.tileEid (V6 m (outs m) 0 (Proc.devRef .tc main_v10)) (ValueIdx.ix1 (tileOf (row (logits m 0) t j)))).toNat = _
    rw [tile_expert_at (logits m 0) _ hb t j, BitVec.toNat_ofNat]
    exact Nat.mod_eq_of_lt (by have := (pick (logits m 0 t) j).isLt; omega))
  show mixed _ _ hq _ _ _ _ (row (logits m 0) t j) d = _
  unfold mixed
  rw [if_neg h1, h0]
  have hw1 : Expert.ws1 (V7 m (outs m)) 0 = m (0, Proc.devRef .tc main_arg2) := arg_kept m 0 main_arg2 (by decide) (by decide) (by decide) (by decide) (by decide) (by decide) (by decide)
  have hw2 : Expert.ws2 (V7 m (outs m)) 0 = m (0, Proc.devRef .tc main_arg3) := arg_kept m 0 main_arg3 (by decide) (by decide) (by decide) (by decide) (by decide) (by decide) (by decide)
  have hx : ∀ k, Expert.xs (V7 m (outs m)) 0 (ix2 (row (logits m 0) t j) k) = tokens m 0 (place t k) := entries_at m 0 hl t j
  have hg : Expert.gs (V7 m (outs m)) 0 (ix2 (row (logits m 0) t j) 0) = share (logits m 0 t) j := weight_at m 0 hl t j
  rw [hg, hw1, hw2]
  unfold expert made unit Cert.Tiles.Mix.hidden
  simp only [hx]

/-- THE FIRST RESULT at a token's feature: the two chosen experts' terms, weighted. -/
theorem result0_at (t : Fin 4096) (d : Fin 1024) : V9 m (outs m) c (Proc.devRef .tc main_v90) (place t d : S2x2048x1024.Idx)
    = made (tokens m c) (m (c, Proc.devRef .tc main_arg2)) (m (c, Proc.devRef .tc main_arg3)) t (pick (logits m c t) 0) d * share (logits m c t) 0
      + made (tokens m c) (m (c, Proc.devRef .tc main_arg2)) (m (c, Proc.devRef .tc main_arg3)) t (pick (logits m c t) 1) d * share (logits m c t) 1 := by
  show StableHlo.after hostOps2 _ (Proc.devRef .tc main_v90) (place t d : S2x2048x1024.Idx) = _
  rw [read_v90, V8_of m (outs m) c main_v19 (by decide)]
  have h19 : V7 m (outs m) c (Proc.devRef .tc main_v19) = rows_ (V6 m (outs m) c) := read_v19 _
  rw [h19]
  refine (combined_at (logits m c) _ (rows_at m c hl) _ t d).trans ?_
  rw [tile_row_at m c hl, tile_row_at m c hl]

omit hl in
/-- THE SECOND RESULT: the loss. -/
theorem result1_at (i : S_.Idx) : V9 m (outs m) c (Proc.devRef .tc main_v91) i = loss (logits m c) := by
  show StableHlo.after hostOps2 _ (Proc.devRef .tc main_v91) i = _
  rw [read_v91, V8_of m (outs m) c main_v1_4 (by decide), V7_of m (outs m) c main_v1_4 (by decide), keep m c main_v1_4 (by decide) (by decide) (by decide) (by decide)]
  have h : V2 m (outs m) c (Proc.devRef .tc main_v1_4) = fun _ : S1x1.Idx => loss (logits m c) := (found m c 6).trans (loss_eq m c)
  rw [h]
  rfl

end Run

end Cert.Whole.Dispatch

end
-- ==== Proof.Whole.Reference.lean ====
/- What the plain reference computes, read at an element: the two experts a token chooses, the weights it gives them,
   the weighted sum of what all eight make of the token, and the load-balancing loss. -/
module

public import proofs.«01_k».proof.Proof.Whole.Dispatch
public import proofs.«01_k».proof.Proof.Gen.ReferenceIdeal.Read
public import proofs.«01_k».proof.Proof.Gate.Reference
public import proofs.«01_k».proof.Proof.Tiles.Reference
public import Idealize.ShloMosaic.Lib.KernelVsHost
public import Idealize.ShloMosaic.Lib.IdealHost

@[expose] public section

set_option maxRecDepth 16384

noncomputable section

namespace Cert.Whole.Reference

open Cert.ReferenceIdeal Cert.ReferenceIdeal.Gen Cert.ReferenceIdeal.Read Cert.Tiles.Mix Cert.Gate.Loss
open Cert.Whole.Choice Cert.Whole.Dispatch
open Cert.TilesReferenceIdeal.Mixed (first1 first2 read1 read2)
open Idealize.ShloMosaic Idealize.ShloMosaic.TcCoe Idealize.ShloMosaic.ValueIdx

variable (x : Tokens) (w : Weights)

/-- The logits are those of the plain gate. -/
theorem logits_at (t : Fin 4096) (e : Fin 8) : val_main_v2 (F := Ideal) x w (ix2 t e) = logit x w t e :=
  Cert.GateReferenceIdeal.Reading.logits_at x w t e

/-! ## The two choices -/

/-- Choice `j` among eight. -/
abbrev lane (j : Fin 2) : Fin 8 := ⟨j.val, by have := j.isLt; omega⟩

/-- The sorted line's position `j` holds the logit of choice `j`, and the choice. -/
theorem order_at (t : Fin 4096) (j : Fin 2) :
    sortedFrom (fun k k' : Fin 8 => FloatOps.cmpfTotal (F := Ideal) (φ := .f32) .gt (val_main_v2 (F := Ideal) x w ((ix2 t (lane j) : S4096x8.Idx).along 1 k))
      (val_main_v2 (F := Ideal) x w ((ix2 t (lane j) : S4096x8.Idx).along 1 k')) == 1#1) (lane j) = pick (logit x w t) j := by
  have hl : ∀ k : Fin 8, (ix2 t (lane j) : S4096x8.Idx).along 1 k = ix2 t k := fun k => funext fun a => match a with
    | ⟨0, _⟩ => rfl
    | ⟨1, _⟩ => rfl
  refine Eq.trans (congrArg (fun b => sortedFrom b (lane j)) (funext fun k => funext fun k' => ?_)) (sorted_pick (logit x w t) j (lane j) rfl)
  rw [hl, hl, logits_at, logits_at]
  show (BitVec.ofBool (decide (logit x w t k' < logit x w t k)) == 1#1) = decide (logit x w t k' < logit x w t k)
  cases decide (logit x w t k' < logit x w t k) <;> rfl

theorem along_at (t : Fin 4096) (j : Fin 2) (k : Fin 8) : (ix2 t (lane j) : S4096x8.Idx).along 1 k = ix2 t k :=
  funext fun a => match a with
    | ⟨0, _⟩ => rfl
    | ⟨1, _⟩ => rfl

/-- The first two columns of a table, at an element. -/
theorem slice_at {α : Type} (y : S4096x8.Idx → α) (t : Fin 4096) (j : Fin 2) :
    extractStridedSlice S4096x2 (fun _ => 0) y sliceFits_S4096x8_S4096x2 (ix2 t j) = y (ix2 t (lane j)) :=
  extractStridedSlice_apply (fun _ => 0) y sliceFits_S4096x8_S4096x2 (ix2 t j) (ix2 t (lane j)) (fun a => match a with
    | ⟨0, _⟩ => (Nat.zero_add _).symm
    | ⟨1, _⟩ => (Nat.zero_add _).symm)

/-- The logits sorted by rows, with the experts they are of. -/
def ordered : (S4096x8.Idx → EReal) × (S4096x8.Idx → BitVec 32) :=
  Host.sort2 S4096x8 1 (fun l r => FloatOps.cmpfTotal (F := Ideal) (φ := .f32) .gt l.1 r.1) (val_main_v2 (F := Ideal) x w)
    (fun i => if hd : 1 < S4096x8.rank then iotaInDim S4096x8 32 ⟨1, hd⟩ i else 0#32)

theorem values_at (t : Fin 4096) (j : Fin 2) : val_main_values (F := Ideal) x w (ix2 t j) = logit x w t (pick (logit x w t) j) := by
  have h : val_main_values (F := Ideal) x w = extractStridedSlice S4096x2 (fun _ => 0) (ordered x w).1 sliceFits_S4096x8_S4096x2 := rfl
  rw [h, slice_at]
  refine Eq.trans ?_ (logits_at x w t _)
  exact (congrArg (fun k => val_main_v2 (F := Ideal) x w ((ix2 t (lane j) : S4096x8.Idx).along 1 k)) (order_at x w t j)).trans
    (congrArg (val_main_v2 (F := Ideal) x w) (along_at t _ _))

theorem indices_at (t : Fin 4096) (j : Fin 2) : val_main_indices (F := Ideal) x w (ix2 t j) = BitVec.ofNat 32 (pick (logit x w t) j).val := by
  have h : val_main_indices (F := Ideal) x w = extractStridedSlice S4096x2 (fun _ => 0) (ordered x w).2 sliceFits_S4096x8_S4096x2 := rfl
  rw [h, slice_at]
  exact congrArg (fun k : Fin 8 => BitVec.ofNat 32 k.val) (order_at x w t j)

/-! ## The weights of the two choices -/

theorem pick_le (L : Fin 8 → EReal) (j : Fin 2) : L (pick L j) ≤ L (fst L) := ((fst_best L).2 _ (Finset.mem_univ _)).1

theorem two_max (L : Fin 8 → EReal) :
    (Finset.univ : Finset (Fin 2)).fold max (FloatOps.ofBits (F := Ideal) .f32 0xFF800000#32 : EReal) (fun j => L (pick L j)) = L (fst L) :=
  le_antisymm ((Finset.fold_max_le _).mpr ⟨le_of_eq_of_le Cert.Whole.Block.lowest bot_le, fun j _ => pick_le L j⟩)
    ((Finset.le_fold_max _).mpr (Or.inr ⟨0, Finset.mem_univ _, le_of_eq rfl⟩))

/-- The greater of the two chosen logits is the first. -/
theorem greater_at (t : Fin 4096) : val_main_v3 (F := Ideal) x w (ix1 t) = logit x w t (fst (logit x w t)) := by
  have h' : S4096x2.Reduces [1] S4096 := by decide
  have e := congrFun (hostReduce_maximumf_eq_multiReduction (F := Ideal) (val_main_values (F := Ideal) x w) 0xFF800000#32
    reducesTo_S4096x2_S4096_d1 h_S_ h' (.inl rfl) rfl) (ix1 t)
  refine e.trans ((Ideal.multiReduction_maximumf_single _ _ h' (.inl rfl) rfl (ix1 t)).trans ?_)
  refine Eq.trans (congrArg (fun f => Finset.fold max _ f _) (funext fun j => ?_)) (two_max (logit x w t))
  refine (congrArg (val_main_values (F := Ideal) x w) (funext fun a => ?_)).trans (values_at x w t j)
  match a with
  | ⟨0, _⟩ => rfl
  | ⟨1, _⟩ => rfl

variable {x w}

theorem power_at (t : Fin 4096) (hf : ∀ e, logit x w t e ≠ ⊥ ∧ logit x w t e ≠ ⊤) (j : Fin 2) :
    val_main_v9 (F := Ideal) x w (ix2 t j) = if j = 0 then (1 : EReal) else gap (logit x w t) := by
  rw [val_main_v9_apply, val_main_v8_apply, val_main_v7_apply, val_main_v6_apply, val_main_v5_apply, val_main_v4_apply, values_at]
  have h : val_main_v3 (F := Ideal) x w (idx_main_v6 (idx_main_v7 (ix2 t j))) = logit x w t (fst (logit x w t)) :=
    (congrArg _ (eq_ix1 _)).trans (greater_at x w t)
  rw [h]
  have hm : FloatOps.maximumf (F := Ideal) (φ := .f32) (val_main_cst_0 (F := Ideal) (idx_main_v4 (idx_main_v6 (idx_main_v7 (ix2 t j)))))
      (logit x w t (fst (logit x w t))) = logit x w t (fst (logit x w t)) :=
    max_eq_right (le_of_eq_of_le Cert.Whole.Block.lowest bot_le)
  rw [hm]
  match j with
  | 0 =>
    rw [if_pos rfl]
    obtain ⟨h0, h1⟩ := hf (fst (logit x w t))
    show Ideal.exp (logit x w t (fst (logit x w t)) - logit x w t (fst (logit x w t))) = 1
    rw [EReal.sub_self h1 h0, ← EReal.coe_zero, Ideal.exp_coe, Real.exp_zero, EReal.coe_one]
  | 1 => rfl

theorem share_at (t : Fin 4096) (hf : ∀ e, logit x w t e ≠ ⊥ ∧ logit x w t e ≠ ⊤) (j : Fin 2) :
    val_main_v13 (F := Ideal) x w (ix2 t j) = share (logit x w t) j := by
  rw [val_main_v13_apply, val_main_v12_apply, val_main_v11_apply, val_main_v10_apply, power_at t hf]
  unfold share
  refine congrArg (FloatOps.divf (F := Ideal) (φ := .f32) _) ?_
  rw [val_main_cst_1_apply]
  refine (congrArg (· + _) Ideal.ofBits_zero_f32).trans ((zero_add _).trans ?_)
  refine (Finset.sum_congr rfl fun k _ => ?_).trans ((Fin.sum_univ_two (fun k => if k = 0 then (1 : EReal) else gap (logit x w t))).trans ?_)
  · have hi : idx_main_v10 (idx_main_v11 (idx_main_v12 (ix2 t j))) k = ix2 t k := funext fun a => by
      match a with
      | ⟨0, _⟩ => rfl
      | ⟨1, _⟩ => rfl
    rw [hi]
    exact power_at t hf k
  · rw [if_pos rfl, if_neg (by decide)]

/-- The weight a token gives expert `e`. -/
def given (L : Fin 8 → EReal) (e : Fin 8) : EReal := (if pick L 0 = e then share L 0 else 0) + (if pick L 1 = e then share L 1 else 0)

theorem hot_at (t : Fin 4096) (j : Fin 2) (e : Fin 8) :
    val_main_v14 (F := Ideal) x w (ix3 t j e) = if pick (logit x w t) j = e then (1 : EReal) else 0 := by
  rw [val_main_v14_apply, val_main_call0_v4_apply, val_main_call0_v2_apply, val_main_call0_v0_apply, val_main_call0_v3_apply, val_main_call0_v1_apply]
  have hi : idx_main_call0_v0 (idx_main_call0_v2 (ix3 t j e)) = ix2 t j := funext fun a => by
    match a with
    | ⟨0, _⟩ => rfl
    | ⟨1, _⟩ => rfl
  rw [hi, indices_at]
  generalize pick (logit x w t) j = p
  show (((IntOp.cmpi .eq (BitVec.ofNat 32 p.val) (BitVec.ofNat 32 e.val)).toNat : ℝ) : EReal) = _
  have hc : ∀ p e : Fin 8, (IntOp.cmpi .eq (BitVec.ofNat 32 p.val) (BitVec.ofNat 32 e.val)).toNat = if p = e then 1 else 0 := by decide
  rw [hc]
  by_cases hp : p = e
  · rw [if_pos hp, if_pos hp, Nat.cast_one, EReal.coe_one]
  · rw [if_neg hp, if_neg hp, Nat.cast_zero, EReal.coe_zero]

theorem given_at (t : Fin 4096) (hf : ∀ e, logit x w t e ≠ ⊥ ∧ logit x w t e ≠ ⊤) (e : Fin 8) :
    val_main_v18 (F := Ideal) x w (ix2 t e) = given (logit x w t) e := by
  rw [val_main_v18_apply, val_main_cst_2_apply]
  refine (congrArg (· + _) Ideal.ofBits_zero_f32).trans ((zero_add _).trans ?_)
  have hk : ∀ k : Fin 2, val_main_v17 (F := Ideal) x w (idx_main_v18 (ix2 t e) k) = if pick (logit x w t) k = e then share (logit x w t) k else 0 := fun k => by
    have hi : idx_main_v18 (ix2 t e) k = ix3 t k e := funext fun a => match a with
      | ⟨0, _⟩ => rfl
      | ⟨1, _⟩ => rfl
      | ⟨2, _⟩ => rfl
    have hj : idx_main_v15 (idx_main_v16 (ix3 t k e)) = ix2 t k := funext fun a => match a with
      | ⟨0, _⟩ => rfl
      | ⟨1, _⟩ => rfl
    rw [hi, val_main_v17_apply, val_main_v16_apply, val_main_v15_apply, hj, hot_at, share_at t hf]
    show (if pick (logit x w t) k = e then (1 : EReal) else 0) * _ = _
    by_cases hp : pick (logit x w t) k = e
    · rw [if_pos hp, if_pos hp, one_mul]
    · rw [if_neg hp, if_neg hp, zero_mul]
  rw [Fin.sum_univ_two, hk, hk]
  rfl

/-- Of eight weighted terms the two chosen experts' are left. -/
theorem sum_given (L : Fin 8 → EReal) (f : Fin 8 → EReal) : ∑ e, f e * given L e = f (pick L 0) * share L 0 + f (pick L 1) * share L 1 := by
  have hne : pick L 1 ≠ pick L 0 := snd_ne L
  have hs : ∀ e, f e * given L e = (if pick L 0 = e then f e * share L 0 else 0) + (if pick L 1 = e then f e * share L 1 else 0) := fun e => by
    unfold given
    by_cases h0 : pick L 0 = e
    · rw [if_pos h0, if_pos h0, if_neg (fun h => hne (h.trans h0.symm)), if_neg (fun h => hne (h.trans h0.symm)), add_zero, add_zero]
    · rw [if_neg h0, if_neg h0, zero_add, zero_add]
      by_cases h1 : pick L 1 = e
      · rw [if_pos h1, if_pos h1]
      · rw [if_neg h1, if_neg h1, mul_zero]
  rw [Finset.sum_congr rfl fun e _ => hs e, Finset.sum_add_distrib, Finset.sum_ite_eq, Finset.sum_ite_eq, if_pos (Finset.mem_univ _), if_pos (Finset.mem_univ _)]

/-! ## The loss -/

variable (x w)

/-- The second result, which the plain gate writes as well. -/
theorem loss_at (i : S_.Idx) : val_main_v140 (F := Ideal) x w i = loss (logit x w) := by
  obtain rfl : i = ix0 := funext fun a => a.elim0
  refine Eq.trans ?_ (Cert.GateReferenceIdeal.Reading.result_at x w (ix2 0 0))
  unfold Cert.GateReferenceIdeal.Read.val_main_v20
  exact (shapeCast_apply _ _ (ix2 0 0) ix0 (by rewrite [Shape.rowMajor_val_two]; rfl)).symm

/-! ## The weighted sum of the experts -/

variable (x2 : Weights1) (x3 : Weights2)

theorem entry_at (t : Fin 4096) (k : Fin 1024) : val_main_v0 (F := Ideal) x (ix2 t k) = x (place t k) := by
  rw [val_main_v0_apply]
  refine congrArg x (funext fun a => Fin.ext ?_)
  have hk := k.isLt
  have ht := t.isLt
  match a with
  | ⟨0, _⟩ => show (t.val * 1024 + k.val) / 2097152 = t.val / 2048; omega
  | ⟨1, _⟩ => show (t.val * 1024 + k.val) / 1024 % 2048 = t.val % 2048; omega
  | ⟨2, _⟩ => show (t.val * 1024 + k.val) % 1024 = k.val; omega

/-- One expert's product as the program writes it, from the tokens and its two weight matrices. -/
def block (x : Tokens) (y1 : (⟨2, ![4096, 1024]⟩ : Shape).Idx → EReal) (y2 : (⟨2, ![1024, 4096]⟩ : Shape).Idx → EReal) : (⟨2, ![4096, 1024]⟩ : Shape).Idx → EReal :=
  let z : FVec Ideal S4096x4096 .f32 := Host.dotGeneral (F := Ideal) (φ₁ := .f32) (φ₂ := .f32) dot_S4096x1024_S1024x4096_S4096x4096_1_0_0_1_n_n none (val_main_v0 (F := Ideal) x) (transpose S1024x4096 [1, 0] y1 transposes_S4096x1024_S1024x4096_1_0)
  Host.dotGeneral (F := Ideal) (φ₁ := .f32) (φ₂ := .f32) dot_S4096x4096_S4096x1024_S4096x1024_1_0_0_1_n_n none
    (mulf z (Host.divf (val_main_call1_v4 (F := Ideal)) (addf (val_main_call1_v2 (F := Ideal)) (Host.exp (Host.negf z)))))
    (transpose S4096x1024 [1, 0] y2 transposes_S1024x4096_S4096x1024_1_0)

theorem first_row (h : Fin 4096) (k : Fin 1024) : val_main_v21 (F := Ideal) x2 (ix2 h k) = x2 (ix3 0 h k) := by
  rw [val_main_v21_apply, val_main_v20_apply]
  exact read1 0 x2 _ h k rfl rfl rfl
theorem second_row (d : Fin 1024) (h : Fin 4096) : val_main_v26 (F := Ideal) x3 (ix2 d h) = x3 (ix3 0 d h) := by
  rw [val_main_v26_apply, val_main_v25_apply]
  exact read2 0 x3 _ d h rfl rfl rfl

/-- Expert 0's product is what it makes of the token. -/
theorem v28_at (t : Fin 4096) (d : Fin 1024) : val_main_v28 (F := Ideal) x x2 x3 (ix2 t d) = made x x2 x3 t 0 d := by
  rw [val_main_v28_apply]
  refine Finset.sum_congr rfl fun h _ => ?_
  have e0 : lidx_main_v28 (ix2 t d) h = ix2 t h := funext fun a => by
    match a with
    | ⟨0, _⟩ => rfl
    | ⟨1, _⟩ => rfl
  have e1 : idx_main_v27 (ridx_main_v28 (ix2 t d) h) = ix2 d h := funext fun a => by
    match a with
    | ⟨0, _⟩ => rfl
    | ⟨1, _⟩ => rfl
  have e2 : val_main_v23 (F := Ideal) x x2 (ix2 t h) = ∑ k : Fin 1024, x (place t k) * x2 (ix3 0 h k) := by
    rw [val_main_v23_apply]
    refine Finset.sum_congr rfl fun k _ => ?_
    have e0 : lidx_main_v23 (ix2 t h) k = ix2 t k := funext fun a => by
      match a with
      | ⟨0, _⟩ => rfl
      | ⟨1, _⟩ => rfl
    have e1 : idx_main_v22 (ridx_main_v23 (ix2 t h) k) = ix2 h k := funext fun a => by
      match a with
      | ⟨0, _⟩ => rfl
      | ⟨1, _⟩ => rfl
    rw [val_main_v22_apply, e0, e1, first_row, entry_at]
  have e3 : val_main_v24 (F := Ideal) x x2 (ix2 t h) = silu (∑ k : Fin 1024, x (place t k) * x2 (ix3 0 h k)) := by
    rw [val_main_v24_apply, val_main_call1_v5_apply, val_main_call1_v3_apply, val_main_call1_v1_apply, val_main_call1_v0_apply,
      val_main_call1_v2_apply, val_main_call1_v4_apply, val_main_call1_cst_apply, val_main_call1_cst_0_apply, e2]
    generalize (∑ k : Fin 1024, x (place t k) * x2 (ix3 0 h k) : EReal) = z
    show z * Ideal.div (Ideal.ofBits .f32 0x3F800000#32) (Ideal.ofBits .f32 0x3F800000#32 + Ideal.exp (-z)) = _
    rw [Ideal.ofBits_one_f32]
    rfl
  rw [val_main_v27_apply, e0, e1, e3, second_row]

/-- It is `made`, of whichever expert the two matrices are. -/
theorem block_at (e : Fin 8) (y1 : Weights1 → (⟨2, ![4096, 1024]⟩ : Shape).Idx → EReal)
    (y2 : Weights2 → (⟨2, ![1024, 4096]⟩ : Shape).Idx → EReal) (h1 : ∀ a b, y1 x2 (ix2 a b) = x2 (ix3 e a b)) (h2 : ∀ a b, y2 x3 (ix2 a b) = x3 (ix3 e a b))
    (t : Fin 4096) (d : Fin 1024) : block x (y1 x2) (y2 x3) (ix2 t d) = made x x2 x3 t e d := by
  have q1 : y1 x2 = val_main_v21 (F := Ideal) (first1 e x2) := funext fun j => by
    rw [eq_ix2 j]
    exact (h1 _ _).trans (first_row (first1 e x2) _ _).symm
  have q2 : y2 x3 = val_main_v26 (F := Ideal) (first2 e x3) := funext fun j => by
    rw [eq_ix2 j]
    exact (h2 _ _).trans (second_row (first2 e x3) _ _).symm
  rw [q1, q2]
  exact v28_at x (first1 e x2) (first2 e x3) t d

/-- Column `e` of the weights, over the whole width. -/
def column (off : Fin 2 → ℕ) (h : S4096x8.Slices off S4096x1) : (⟨2, ![4096, 1024]⟩ : Shape).Idx → EReal :=
  broadcastInDim S4096x1024 ![0, 1] bcast_S4096x1_S4096x1024_0_1 (extractStridedSlice S4096x1 off (val_main_v18 (F := Ideal) x w) h)

theorem column_at (e : Fin 8) (h : S4096x8.Slices ![0, e.val] S4096x1) (t : Fin 4096) (d : Fin 1024)
    (hf : ∀ e, logit x w t e ≠ ⊥ ∧ logit x w t e ≠ ⊤) : column x w ![0, e.val] h (ix2 t d) = given (logit x w t) e := by
  unfold column
  rw [broadcastInDim_apply (s := S4096x1) _ bcast_S4096x1_S4096x1024_0_1 _ (ix2 t d) (ix2 t 0) (fun a => match a with
    | ⟨0, _⟩ => by show t.val = if (4096 : Nat) = 1 then 0 else t.val; rw [if_neg (by decide)]
    | ⟨1, _⟩ => by show 0 = if (1 : Nat) = 1 then 0 else d.val; rw [if_pos rfl])]
  rw [extractStridedSlice_apply (s := S4096x8) (t := S4096x1) _ _ h (ix2 t 0) (ix2 t e) (fun a => match a with
    | ⟨0, _⟩ => (Nat.zero_add _).symm
    | ⟨1, _⟩ => rfl)]
  exact given_at t hf e

/-- The whole program as eight weighted products added up. -/
theorem v123_eq : val_main_v123 (F := Ideal) x w x2 x3 =
    addf (F := Ideal) (φ := .f32) (addf (addf (addf (addf (addf (addf (addf (val_main_v19 (F := Ideal))
      (mulf (block x (val_main_v21 (F := Ideal) x2) (val_main_v26 (F := Ideal) x3)) (column x w ![0, (0 : Fin 8).val] slices_S4096x8_S4096x1_0_0)))
      (mulf (block x (val_main_v34 (F := Ideal) x2) (val_main_v39 (F := Ideal) x3)) (column x w ![0, (1 : Fin 8).val] slices_S4096x8_S4096x1_0_1)))
      (mulf (block x (val_main_v47 (F := Ideal) x2) (val_main_v52 (F := Ideal) x3)) (column x w ![0, (2 : Fin 8).val] slices_S4096x8_S4096x1_0_2)))
      (mulf (block x (val_main_v60 (F := Ideal) x2) (val_main_v65 (F := Ideal) x3)) (column x w ![0, (3 : Fin 8).val] slices_S4096x8_S4096x1_0_3)))
      (mulf (block x (val_main_v73 (F := Ideal) x2) (val_main_v78 (F := Ideal) x3)) (column x w ![0, (4 : Fin 8).val] slices_S4096x8_S4096x1_0_4)))
      (mulf (block x (val_main_v86 (F := Ideal) x2) (val_main_v91 (F := Ideal) x3)) (column x w ![0, (5 : Fin 8).val] slices_S4096x8_S4096x1_0_5)))
      (mulf (block x (val_main_v99 (F := Ideal) x2) (val_main_v104 (F := Ideal) x3)) (column x w ![0, (6 : Fin 8).val] slices_S4096x8_S4096x1_0_6)))
      (mulf (block x (val_main_v112 (F := Ideal) x2) (val_main_v117 (F := Ideal) x3)) (column x w ![0, (7 : Fin 8).val] slices_S4096x8_S4096x1_0_7)) := rfl

/-- THE REFERENCE at an element: what the token's two experts make of it, weighted. -/
theorem result_at (t : Fin 4096) (d : Fin 1024) (hf : ∀ e, logit x w t e ≠ ⊥ ∧ logit x w t e ≠ ⊤) :
    val_main_v141 (F := Ideal) x w x2 x3 (place t d) = made x x2 x3 t (pick (logit x w t) 0) d * share (logit x w t) 0
      + made x x2 x3 t (pick (logit x w t) 1) d * share (logit x w t) 1 := by
  have hi : idx_main_v141 (place t d) = ix2 t d := funext fun a => Fin.ext (by
    have hd := d.isLt
    match a with
    | ⟨0, _⟩ => show ((t.val / 2048 * 2048 + t.val % 2048) * 1024 + d.val) / 1024 = t.val; omega
    | ⟨1, _⟩ => show ((t.val / 2048 * 2048 + t.val % 2048) * 1024 + d.val) % 1024 = d.val; omega)
  rw [val_main_v141_apply, hi, v123_eq]
  simp only [addf_apply, mulf_apply]
  rw [column_at x w 0 _ t d hf, column_at x w 1 _ t d hf, column_at x w 2 _ t d hf, column_at x w 3 _ t d hf,
    column_at x w 4 _ t d hf, column_at x w 5 _ t d hf, column_at x w 6 _ t d hf, column_at x w 7 _ t d hf,
    block_at x x2 x3 0 (val_main_v21 (F := Ideal)) (val_main_v26 (F := Ideal)) (first_row x2) (second_row x3),
    block_at x x2 x3 1 (val_main_v34 (F := Ideal)) (val_main_v39 (F := Ideal))
      (fun _ _ => by rw [val_main_v34_apply, val_main_v33_apply]; exact read1 _ _ _ _ _ rfl rfl rfl) (fun _ _ => by rw [val_main_v39_apply, val_main_v38_apply]; exact read2 _ _ _ _ _ rfl rfl rfl),
    block_at x x2 x3 2 (val_main_v47 (F := Ideal)) (val_main_v52 (F := Ideal))
      (fun _ _ => by rw [val_main_v47_apply, val_main_v46_apply]; exact read1 _ _ _ _ _ rfl rfl rfl) (fun _ _ => by rw [val_main_v52_apply, val_main_v51_apply]; exact read2 _ _ _ _ _ rfl rfl rfl),
    block_at x x2 x3 3 (val_main_v60 (F := Ideal)) (val_main_v65 (F := Ideal))
      (fun _ _ => by rw [val_main_v60_apply, val_main_v59_apply]; exact read1 _ _ _ _ _ rfl rfl rfl) (fun _ _ => by rw [val_main_v65_apply, val_main_v64_apply]; exact read2 _ _ _ _ _ rfl rfl rfl),
    block_at x x2 x3 4 (val_main_v73 (F := Ideal)) (val_main_v78 (F := Ideal))
      (fun _ _ => by rw [val_main_v73_apply, val_main_v72_apply]; exact read1 _ _ _ _ _ rfl rfl rfl) (fun _ _ => by rw [val_main_v78_apply, val_main_v77_apply]; exact read2 _ _ _ _ _ rfl rfl rfl),
    block_at x x2 x3 5 (val_main_v86 (F := Ideal)) (val_main_v91 (F := Ideal))
      (fun _ _ => by rw [val_main_v86_apply, val_main_v85_apply]; exact read1 _ _ _ _ _ rfl rfl rfl) (fun _ _ => by rw [val_main_v91_apply, val_main_v90_apply]; exact read2 _ _ _ _ _ rfl rfl rfl),
    block_at x x2 x3 6 (val_main_v99 (F := Ideal)) (val_main_v104 (F := Ideal))
      (fun _ _ => by rw [val_main_v99_apply, val_main_v98_apply]; exact read1 _ _ _ _ _ rfl rfl rfl) (fun _ _ => by rw [val_main_v104_apply, val_main_v103_apply]; exact read2 _ _ _ _ _ rfl rfl rfl),
    block_at x x2 x3 7 (val_main_v112 (F := Ideal)) (val_main_v117 (F := Ideal))
      (fun _ _ => by rw [val_main_v112_apply, val_main_v111_apply]; exact read1 _ _ _ _ _ rfl rfl rfl) (fun _ _ => by rw [val_main_v117_apply, val_main_v116_apply]; exact read2 _ _ _ _ _ rfl rfl rfl)]
  rw [val_main_v19_apply, val_main_cst_3_apply]
  refine Eq.trans ?_ ((chain_eq fun e => made x x2 x3 t e d * given (logit x w t) e).trans (sum_given (logit x w t) fun e => made x x2 x3 t e d))
  rw [← Ideal.ofBits_zero_f32]
  rfl

end Cert.Whole.Reference

end
-- ==== Proof.Whole.Agree.lean ====
/- The whole kernel agrees with the plain reference, element by element, wherever every gate logit is finite. -/
module

public import proofs.«01_k».proof.Defs
public import proofs.«01_k».proof.Proof.Whole.Dispatch
public import proofs.«01_k».proof.Proof.Whole.Reference
public import proofs.«01_k».proof.Proof.Gen.ReferenceIdeal.Run

@[expose] public section

set_option maxRecDepth 16384

noncomputable section

namespace Cert.Whole.Agree

open Idealize.ShloMosaic Idealize.ShloMosaic.TcCoe Idealize.ShloMosaic.ValueIdx Idealize.SL.Sem
open Cert.KernelIdeal (τ sig nD main_arg0 main_arg1 main_arg2 main_arg3 main_v90 main_v91)
open Cert.KernelIdeal.Gen Cert.KernelIdeal.Run Cert.Gate.Loss Cert.Tiles.Mix Cert.Whole.Region

/-- The precondition's own side conditions. -/
theorem pre_facts : Cert.Pre_finite_logits.Facts where
  shapeCasts_S2x2048x1024_S4096x1024 := Cert.ReferenceIdeal.Gen.shapeCasts_S2x2048x1024_S4096x1024
  transposes_S8x1024_S1024x8_1_0 := Cert.ReferenceIdeal.Gen.transposes_S8x1024_S1024x8_1_0
  bcast_S_S4096x8 := by decide
  dot_S4096x1024_S1024x8_S4096x8_1_0_0_1_n_n_wf := Cert.ReferenceIdeal.Gen.dot_S4096x1024_S1024x8_S4096x8_1_0_0_1_n_n_wf

theorem highest : (Ideal.ofBits .f32 0x7F800000#32 : EReal) = ⊤ := by simp [Ideal.ofBits, Ideal.ieee]

/-- Where the precondition's function is all ones, every logit is finite. -/
theorem finite (x : Tokens) (w : Weights) (w1 : Weights1) (w2 : Weights2)
    (h : @Cert.Pre_finite_logits.fn pre_facts Ideal _ x w w1 w2 = fun _ => 1#1) (t : Fin 4096) (e : Fin 8) :
    logit x w t e ≠ ⊥ ∧ logit x w t e ≠ ⊤ := by
  have e1 : BitVec.ofBool (decide (max (Cert.ReferenceIdeal.Read.val_main_v2 (F := Ideal) x w (ix2 t e))
      (-Cert.ReferenceIdeal.Read.val_main_v2 (F := Ideal) x w (ix2 t e)) < Ideal.ofBits .f32 0x7F800000#32)) = 1#1 := congrFun h (ix2 t e)
  rw [Cert.Whole.Reference.logits_at, highest] at e1
  have e2 : max (logit x w t e) (-logit x w t e) < ⊤ := by
    by_contra c
    rw [decide_eq_false c] at e1
    exact absurd e1 (by decide)
  obtain ⟨a, b⟩ := max_lt_iff.mp e2
  refine ⟨fun c => ?_, a.ne⟩
  rw [c, EReal.neg_bot] at b
  exact lt_irrefl _ b

variable (m : (ℓ : Loc nD τ sig) → Buf (Elt Ideal) ℓ)
    (hm : Cert.Pre_KernelIdeal_finite_logits (hPre_finite_logits := pre_facts) m) (c : Dev nD)
include hm

theorem finite_at (t : Fin 4096) (e : Fin 8) : logits m c t e ≠ ⊥ ∧ logits m c t e ≠ ⊤ := finite _ _ _ _ (hm c) t e

/-- The two programs' first results, -/
theorem first_eq : Cert.ReferenceIdeal.Read.val_main_v141 (F := Ideal) (m (c.tc.loc main_arg0)) (m (c.tc.loc main_arg1)) (m (c.tc.loc main_arg2)) (m (c.tc.loc main_arg3))
    = V9 m (outs m) c (Proc.devRef .tc main_v90) := by
  refine funext fun i : Cert.KernelIdeal.S2x2048x1024.Idx => ?_
  have h0 : (i 0).val < 2 := (i 0).isLt
  have h1 : (i 1).val < 2048 := (i 1).isLt
  obtain ⟨t, d, hi⟩ : ∃ (t : Fin 4096) (d : Fin 1024), i = place t d := by
    refine ⟨⟨(i 0).val * 2048 + (i 1).val, by omega⟩, i 2, funext fun a => Fin.ext ?_⟩
    match a with
    | ⟨0, _⟩ => show (i 0).val = ((i 0).val * 2048 + (i 1).val) / 2048; omega
    | ⟨1, _⟩ => show (i 1).val = ((i 0).val * 2048 + (i 1).val) % 2048; omega
    | ⟨2, _⟩ => rfl
  rw [hi]
  exact (Cert.Whole.Reference.result_at _ _ _ _ t d fun e => finite_at m hm c t e).trans
    (Cert.Whole.Dispatch.result0_at m c (fun t e => (finite_at m hm c t e).1) t d).symm

omit hm in
/-- and their losses. -/
theorem second_eq : Cert.ReferenceIdeal.Read.val_main_v140 (F := Ideal) (m (c.tc.loc main_arg0)) (m (c.tc.loc main_arg1))
    = V9 m (outs m) c (Proc.devRef .tc main_v91) :=
  funext fun i : Cert.KernelIdeal.S_.Idx => (Cert.Whole.Reference.loss_at _ _ i).trans (Cert.Whole.Dispatch.result1_at m c i).symm

end Cert.Whole.Agree

namespace Cert.Proof

open Idealize.ShloMosaic Idealize.SL.Sem

/-- Over the extended reals the whole kernel and the plain reference compute the same two results, where every logit is finite. -/
theorem kernel_agrees : Cert.algebraic_KernelIdeal_ReferenceIdeal_pre_finite_logits (hKernelIdeal := Cert.KernelIdeal.Gen.facts)
    (hReferenceIdeal := Cert.ReferenceIdeal.Gen.facts) (hPre_finite_logits := Cert.Whole.Agree.pre_facts) := by
  intro m g m' g' hpre hargs
  refine ⟨fun c => Cert.KernelIdeal.Gen.V9 m (Cert.KernelIdeal.Run.outs m) c (Proc.devRef .tc Cert.KernelIdeal.main_v90),
    fun c => Cert.KernelIdeal.Gen.V9 m (Cert.KernelIdeal.Run.outs m) c (Proc.devRef .tc Cert.KernelIdeal.main_v91),
    ((θ_run _ _ _).mono (fun _ h => ?_) (Cert.KernelIdeal.Run.run_at m g)),
    (θ_run _ _ _).mono (fun r h c => ⟨(h c).1.trans ?_, (h c).2.1.trans ?_, (h c).2.2⟩) (Cert.ReferenceIdeal.Value.run m' g')⟩
  · exact fun c => ⟨h.1 c _ rfl, h.1 c _ rfl, (h.1 c _ rfl).trans (Cert.KernelIdeal.Gen.V9_main_arg0 m _ c), (h.1 c _ rfl).trans (Cert.KernelIdeal.Gen.V9_main_arg1 m _ c),
      (h.1 c _ rfl).trans (Cert.KernelIdeal.Gen.V9_main_arg2 m _ c), (h.1 c _ rfl).trans (Cert.KernelIdeal.Gen.V9_main_arg3 m _ c)⟩
  · refine (Cert.ReferenceIdeal.Read.val_main_v141_eq (StableHlo.launchContents m' c)).trans ?_
    refine Eq.trans ?_ (Cert.Whole.Agree.first_eq m hpre c)
    obtain ⟨h0, h1, h2, h3⟩ := hargs c
    exact congr (congr (congr (congrArg (Cert.ReferenceIdeal.Read.val_main_v141 (F := Ideal)) h0) h1) h2) h3
  · refine (Cert.ReferenceIdeal.Read.val_main_v140_eq (StableHlo.launchContents m' c)).trans ?_
    refine Eq.trans ?_ (Cert.Whole.Agree.second_eq m c)
    obtain ⟨h0, h1, -, -⟩ := hargs c
    exact congr (congrArg (Cert.ReferenceIdeal.Read.val_main_v140 (F := Ideal)) h0) h1

end Cert.Proof

end
-- ==== Proof.lean ====
/- What is proved here. The whole kernel and its reference run without fault, leave their arguments unchanged and
   every semaphore at zero; so do the expert-tile call and its reference, wherever every tile names an expert, and the
   routing call and its reference. Over the extended reals the whole kernel and its reference compute the same two
   results, wherever every gate logit is finite; the expert-tile call and its reference compute the same array, and the
   routing call leaves its reference's load-balancing loss. The idealizations rewrite nothing. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Bits.Run
public import proofs.«01_k».proof.Proof.Ideal.Run
public import proofs.«01_k».proof.Proof.Gen.ReferenceIdeal.Run
public import proofs.«01_k».proof.Proof.Gen.ReferenceIdeal.Read
public import proofs.«01_k».proof.Proof.Gen.Tiles
public import proofs.«01_k».proof.Proof.Gen.Tiles.Skeleton
public import proofs.«01_k».proof.Proof.Gen.Tiles.Launch
public import proofs.«01_k».proof.Proof.Gen.TilesIdeal
public import proofs.«01_k».proof.Proof.Gen.TilesIdeal.Skeleton
public import proofs.«01_k».proof.Proof.Gen.TilesIdeal.Launch
public import proofs.«01_k».proof.Proof.Gen.TilesReferenceIdeal
public import proofs.«01_k».proof.Proof.Gen.TilesReferenceIdeal.Run
public import proofs.«01_k».proof.Proof.Gen.TilesReferenceIdeal.Read
public import proofs.«01_k».proof.Proof.Gen.Gate
public import proofs.«01_k».proof.Proof.Gen.Gate.Skeleton
public import proofs.«01_k».proof.Proof.Gen.Gate.Launch
public import proofs.«01_k».proof.Proof.Gen.Gate.Frame
public import proofs.«01_k».proof.Proof.Gen.Gate.Points
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Frame
public import proofs.«01_k».proof.Proof.Gen.GateIdeal.Points
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Pre_tiles_name_experts
public import proofs.«01_k».proof.Proof.TilesBits.Run
public import proofs.«01_k».proof.Proof.Tiles.Agree
public import proofs.«01_k».proof.Proof.Gate.Agree
public import proofs.«01_k».proof.Proof.Whole.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- A memory of words that meets the precondition names an expert for every tile. -/
theorem named_bits (m : (ℓ : Loc Cert.Tiles.nD Cert.Tiles.τ Cert.Tiles.sig) → Buf (Elt Bits) ℓ)
    (h : Cert.Pre_Tiles (hPre_tiles_name_experts := Cert.Pre_tiles_name_experts.Gen.facts) m) : Cert.Tiles.Run.Named m :=
  fun i => Cert.Tiles.Run.named _ _ _ _ _ _ (h 0) i

/-- The reference leaves its arguments unchanged and every semaphore at zero. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Tiles.Gen.facts, Cert.TilesIdeal.Gen.facts, Cert.TilesReferenceIdeal.Gen.facts,
  Cert.Gate.Gen.facts, Cert.GateIdeal.Gen.facts, Cert.GateReferenceIdeal.Gen.facts,
  Cert.Whole.Agree.pre_facts, Cert.Pre_tiles_name_experts.Gen.facts,
  fun m ρ _ => Cert.Kernel.Run.frame m ρ, fun m ρ _ => Cert.KernelIdeal.Run.frame m ρ, fun m ρ _ => Cert.KernelIdeal.Run.frame m ρ,
  reference_frame, fun m ρ _ => reference_frame m ρ trivial,
  fun m ρ h => (θ_run _ _ _).mono (fun _ r => ⟨fun c => (r.1 c).2, r.2⟩) (Cert.Tiles.Run.run_args m (named_bits m h) ρ),
  fun m ρ h => (θ_run _ _ _).mono (fun _ r => ⟨fun c => (r.1 c).2, r.2⟩) (Cert.TilesIdeal.Run.run_args m (named_ideal m h) ρ),
  fun m ρ _ => (θ_run _ _ _).mono (fun r h => ⟨fun c => (h c).2, sem_eq_zero_of_no_sems (by decide) r.2⟩) (Cert.TilesReferenceIdeal.Value.run m ρ),
  fun m ρ _ => Cert.Gate.Gen.frame m ρ, fun m ρ _ => Cert.GateIdeal.Gen.frame m ρ,
  fun m ρ _ => (θ_run _ _ _).mono (fun r h => ⟨fun c => (h c).2, sem_eq_zero_of_no_sems (by decide) r.2⟩) (Cert.GateReferenceIdeal.Value.run m ρ),
  trivial, kernel_agrees, trivial, tiles_agree, trivial, gate_agrees⟩

end Cert.Proof

end
